-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ssm_domain [hPre_ssm_domain : Cert.Pre_ssm_domain.Facts] (m : (ℓ : Loc Cert.KernelIdeal.nD Cert.KernelIdeal.τ Cert.KernelIdeal.sig) → Buf (Elt Ideal) ℓ) : Prop :=
  ∀ c : Dev Cert.KernelIdeal.nD,
    (Cert.Pre_ssm_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ssm_domain [hPre_ssm_domain : Cert.Pre_ssm_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ssm_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_ssm_domain [hKernelIdeal : Cert.KernelIdeal.Facts] [hPre_ssm_domain : Cert.Pre_ssm_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ssm_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ssm_domain [hReferenceIdeal : Cert.ReferenceIdeal.Facts] [hPre_ssm_domain : Cert.Pre_ssm_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ssm_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_ssm_domain [hKernelIdeal : Cert.KernelIdeal.Facts] [hReferenceIdeal : Cert.ReferenceIdeal.Facts] [hPre_ssm_domain : Cert.Pre_ssm_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ssm_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v180)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v180) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_ssm_domain : Cert.Pre_ssm_domain.Facts),
    quiescent_Kernel (hKernel := hKernel)
    ∧ quiescent_KernelIdeal (hKernelIdeal := hKernelIdeal)
    ∧ quiescent_KernelIdeal_pre_ssm_domain (hKernelIdeal := hKernelIdeal) (hPre_ssm_domain := hPre_ssm_domain)
    ∧ quiescent_ReferenceIdeal (hReferenceIdeal := hReferenceIdeal)
    ∧ quiescent_ReferenceIdeal_pre_ssm_domain (hReferenceIdeal := hReferenceIdeal) (hPre_ssm_domain := hPre_ssm_domain)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_ssm_domain (hKernelIdeal := hKernelIdeal) (hReferenceIdeal := hReferenceIdeal) (hPre_ssm_domain := hPre_ssm_domain)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_ssm_domain.lean ====
abbrev S4x4096x56x16 : Shape := ⟨4, ![4, 4096, 56, 16]⟩
abbrev S56x64 : Shape := ⟨2, ![56, 64]⟩
abbrev S56 : Shape := ⟨1, ![56]⟩
abbrev S56x64x16 : Shape := ⟨3, ![56, 64, 16]⟩
abbrev S56x16x64 : Shape := ⟨3, ![56, 16, 64]⟩
abbrev S56x16 : Shape := ⟨2, ![56, 16]⟩
abbrev S_ : Shape := ⟨0, ![]⟩

class Facts : Prop where
  bcast_S_S4x4096x56x16 : S_.BroadcastsInDim S4x4096x56x16 (![] : Fin 0 → Fin S4x4096x56x16.rank)
  reducesTo_S4x4096x56x16_S_d0_1_2_3 : S4x4096x56x16.ReducesTo [0, 1, 2, 3] S_
  h_S_ : 0 < S_.numel
  bcast_S_S56x64 : S_.BroadcastsInDim S56x64 (![] : Fin 0 → Fin S56x64.rank)
  reducesTo_S56x64_S_d0_1 : S56x64.ReducesTo [0, 1] S_
  bcast_S_S56 : S_.BroadcastsInDim S56 (![] : Fin 0 → Fin S56.rank)
  reducesTo_S56_S_d0 : S56.ReducesTo [0] S_
  bcast_S_S56x64x16 : S_.BroadcastsInDim S56x64x16 (![] : Fin 0 → Fin S56x64x16.rank)
  reducesTo_S56x64x16_S_d0_1_2 : S56x64x16.ReducesTo [0, 1, 2] S_
  bcast_S_S56x16x64 : S_.BroadcastsInDim S56x16x64 (![] : Fin 0 → Fin S56x16x64.rank)
  reducesTo_S56x16x64_S_d0_1_2 : S56x16x64.ReducesTo [0, 1, 2] S_
  bcast_S_S56x16 : S_.BroadcastsInDim S56x16 (![] : Fin 0 → Fin S56x16.rank)
  reducesTo_S56x16_S_d0_1 : S56x16.ReducesTo [0, 1] S_

variable [Facts]

def fn_part2 {F : FTy → Type} [FloatOps F] (main_arg1 : FVec F S56x64 .f32) (main_arg2 : FVec F S56x64 .f32) (main_arg8 : FVec F S56x16 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S56x16 .f32 := Host.absf main_arg8
  let main_cst_14 : FVec F S_ .f32 := constant S_ .f32 0x7F800000#32
  let main_v33 : FVec F S56x16 .f32 := broadcastInDim S56x16 ![] bcast_S_S56x16 main_cst_14
  let main_v34 : IVec S56x16 1 := cmpf .olt main_v32 main_v33
  let main_c_15 : IVec S_ 1 := constantI S_ 1 1#1
  let main_v35 : IVec S_ 1 := (fun x v => Host.reduce IntOp.andi x v reducesTo_S56x16_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  let main_v44 : FVec F S56x64 .f32 := mulf main_arg1 main_arg1
  let main_v45 : FVec F S56x64 .f32 := mulf main_arg2 main_arg2
  let main_v46 : FVec F S56x64 .f32 := addf main_v44 main_v45
  let main_cst_16 : FVec F S_ .f32 := constant S_ .f32 0x00000000#32
  let main_v47 : FVec F S56x64 .f32 := broadcastInDim S56x64 ![] bcast_S_S56x64 main_cst_16
  let main_v48 : IVec S56x64 1 := cmpf .ogt main_v46 main_v47
  let main_c_17 : IVec S_ 1 := constantI S_ 1 1#1
  let main_v49 : IVec S_ 1 := (fun x v => Host.reduce IntOp.andi x v reducesTo_S56x64_S_d0_1 h_S_) main_v48 main_c_17
  let main_v50 : IVec S_ 1 := andi main_v43 main_v49
  main_v50

def fn_part1 {F : FTy → Type} [FloatOps F] (main_arg1 : FVec F S56x64 .f32) (main_arg2 : FVec F S56x64 .f32) (main_arg4 : FVec F S56x64x16 .f32) (main_arg5 : FVec F S56x64x16 .f32) (main_arg6 : FVec F S56x16x64 .f32) (main_arg7 : FVec F S56x16x64 .f32) (main_arg8 : FVec F S56x16 .f32) (main_v3 : IVec S_ 1) (main_v7 : IVec S_ 1) (main_v11 : IVec S_ 1) (main_v15 : IVec S_ 1) : IVec S_ 1 :=
  let main_v16 : FVec F S56x64x16 .f32 := Host.absf main_arg4
  let main_cst_6 : FVec F S_ .f32 := constant S_ .f32 0x7F800000#32
  let main_v17 : FVec F S56x64x16 .f32 := broadcastInDim S56x64x16 ![] bcast_S_S56x64x16 main_cst_6
  let main_v18 : IVec S56x64x16 1 := cmpf .olt main_v16 main_v17
  let main_c_7 : IVec S_ 1 := constantI S_ 1 1#1
  let main_v19 : IVec S_ 1 := (fun x v => Host.reduce IntOp.andi x v reducesTo_S56x64x16_S_d0_1_2 h_S_) main_v18 main_c_7
  let main_v20 : FVec F S56x64x16 .f32 := Host.absf main_arg5
  let main_cst_8 : FVec F S_ .f32 := constant S_ .f32 0x7F800000#32
  let main_v21 : FVec F S56x64x16 .f32 := broadcastInDim S56x64x16 ![] bcast_S_S56x64x16 main_cst_8
  let main_v22 : IVec S56x64x16 1 := cmpf .olt main_v20 main_v21
  let main_c_9 : IVec S_ 1 := constantI S_ 1 1#1
  let main_v23 : IVec S_ 1 := (fun x v => Host.reduce IntOp.andi x v reducesTo_S56x64x16_S_d0_1_2 h_S_) main_v22 main_c_9
  let main_v24 : FVec F S56x16x64 .f32 := Host.absf main_arg6
  let main_cst_10 : FVec F S_ .f32 := constant S_ .f32 0x7F800000#32
  let main_v25 : FVec F S56x16x64 .f32 := broadcastInDim S56x16x64 ![] bcast_S_S56x16x64 main_cst_10
  let main_v26 : IVec S56x16x64 1 := cmpf .olt main_v24 main_v25
  let main_c_11 : IVec S_ 1 := constantI S_ 1 1#1
  let main_v27 : IVec S_ 1 := (fun x v => Host.reduce IntOp.andi x v reducesTo_S56x16x64_S_d0_1_2 h_S_) main_v26 main_c_11
  let main_v28 : FVec F S56x16x64 .f32 := Host.absf main_arg7
  let main_cst_12 : FVec F S_ .f32 := constant S_ .f32 0x7F800000#32
  let main_v29 : FVec F S56x16x64 .f32 := broadcastInDim S56x16x64 ![] bcast_S_S56x16x64 main_cst_12
  let main_v30 : IVec S56x16x64 1 := cmpf .olt main_v28 main_v29
  let main_c_13 : IVec S_ 1 := constantI S_ 1 1#1
  let main_v31 : IVec S_ 1 := (fun x v => Host.reduce IntOp.andi x v reducesTo_S56x16x64_S_d0_1_2 h_S_) main_v30 main_c_13
  fn_part2 (F := F) main_arg1 main_arg2 main_arg8 main_v3 main_v7 main_v11 main_v15 main_v19 main_v23 main_v27 main_v31

def fn {F : FTy → Type} [FloatOps F] (main_arg0 : FVec F S4x4096x56x16 .f32) (main_arg1 : FVec F S56x64 .f32) (main_arg2 : FVec F S56x64 .f32) (main_arg3 : FVec F S56 .f32) (main_arg4 : FVec F S56x64x16 .f32) (main_arg5 : FVec F S56x64x16 .f32) (main_arg6 : FVec F S56x16x64 .f32) (main_arg7 : FVec F S56x16x64 .f32) (main_arg8 : FVec F S56x16 .f32) : IVec S_ 1 :=
  let main_v0 : FVec F S4x4096x56x16 .f32 := Host.absf main_arg0
  let main_cst : FVec F S_ .f32 := constant S_ .f32 0x7F800000#32
  let main_v1 : FVec F S4x4096x56x16 .f32 := broadcastInDim S4x4096x56x16 ![] bcast_S_S4x4096x56x16 main_cst
  let main_v2 : IVec S4x4096x56x16 1 := cmpf .olt main_v0 main_v1
  let main_c : IVec S_ 1 := constantI S_ 1 1#1
  let main_v3 : IVec S_ 1 := (fun x v => Host.reduce IntOp.andi x v reducesTo_S4x4096x56x16_S_d0_1_2_3 h_S_) main_v2 main_c
  let main_v4 : FVec F S56x64 .f32 := Host.absf main_arg1
  let main_cst_0 : FVec F S_ .f32 := constant S_ .f32 0x7F800000#32
  let main_v5 : FVec F S56x64 .f32 := broadcastInDim S56x64 ![] bcast_S_S56x64 main_cst_0
  let main_v6 : IVec S56x64 1 := cmpf .olt main_v4 main_v5
  let main_c_1 : IVec S_ 1 := constantI S_ 1 1#1
  let main_v7 : IVec S_ 1 := (fun x v => Host.reduce IntOp.andi x v reducesTo_S56x64_S_d0_1 h_S_) main_v6 main_c_1
  let main_v8 : FVec F S56x64 .f32 := Host.absf main_arg2
  let main_cst_2 : FVec F S_ .f32 := constant S_ .f32 0x7F800000#32
  let main_v9 : FVec F S56x64 .f32 := broadcastInDim S56x64 ![] bcast_S_S56x64 main_cst_2
  let main_v10 : IVec S56x64 1 := cmpf .olt main_v8 main_v9
  let main_c_3 : IVec S_ 1 := constantI S_ 1 1#1
  let main_v11 : IVec S_ 1 := (fun x v => Host.reduce IntOp.andi x v reducesTo_S56x64_S_d0_1 h_S_) main_v10 main_c_3
  let main_v12 : FVec F S56 .f32 := Host.absf main_arg3
  let main_cst_4 : FVec F S_ .f32 := constant S_ .f32 0x7F800000#32
  let main_v13 : FVec F S56 .f32 := broadcastInDim S56 ![] bcast_S_S56 main_cst_4
  let main_v14 : IVec S56 1 := cmpf .olt main_v12 main_v13
  let main_c_5 : IVec S_ 1 := constantI S_ 1 1#1
  let main_v15 : IVec S_ 1 := (fun x v => Host.reduce IntOp.andi x v reducesTo_S56_S_d0 h_S_) main_v14 main_c_5
  fn_part1 (F := F) main_arg1 main_arg2 main_arg4 main_arg5 main_arg6 main_arg7 main_arg8 main_v3 main_v7 main_v11 main_v15
-- ==== Kernel.lean ====
abbrev S4x4096x56x16 : Shape := ⟨4, ![4, 4096, 56, 16]⟩
abbrev S56x64 : Shape := ⟨2, ![56, 64]⟩
abbrev S56 : Shape := ⟨1, ![56]⟩
abbrev S56x64x16 : Shape := ⟨3, ![56, 64, 16]⟩
abbrev S56x16x64 : Shape := ⟨3, ![56, 16, 64]⟩
abbrev S56x16 : Shape := ⟨2, ![56, 16]⟩
abbrev S1024x16x56x16 : Shape := ⟨4, ![1024, 16, 56, 16]⟩
abbrev S56x1024x16x16 : Shape := ⟨4, ![56, 1024, 16, 16]⟩
abbrev S56x1024x256 : Shape := ⟨3, ![56, 1024, 256]⟩
abbrev S56x1 : Shape := ⟨2, ![56, 1]⟩
abbrev S33 : Shape := ⟨1, ![33]⟩
abbrev S1x33x1 : Shape := ⟨3, ![1, 33, 1]⟩
abbrev S56x1x64 : Shape := ⟨3, ![56, 1, 64]⟩
abbrev S56x1x1 : Shape := ⟨3, ![56, 1, 1]⟩
abbrev S56x33x64 : Shape := ⟨3, ![56, 33, 64]⟩
abbrev S_ : Shape := ⟨0, ![]⟩
abbrev S56x64x1 : Shape := ⟨3, ![56, 64, 1]⟩
abbrev S56x1x16x64 : Shape := ⟨4, ![56, 1, 16, 64]⟩
abbrev S56x16x1x64 : Shape := ⟨4, ![56, 16, 1, 64]⟩
abbrev S56x16x16x64 : Shape := ⟨4, ![56, 16, 16, 64]⟩
abbrev S56x16x16x16 : Shape := ⟨4, ![56, 16, 16, 16]⟩
abbrev S56x16x1 : Shape := ⟨3, ![56, 16, 1]⟩
abbrev S16x16 : Shape := ⟨2, ![16, 16]⟩
abbrev S1x16x16 : Shape := ⟨3, ![1, 16, 16]⟩
abbrev S56x16x16 : Shape := ⟨3, ![56, 16, 16]⟩
abbrev S1 : Shape := ⟨1, ![1]⟩
abbrev S56x16x256 : Shape := ⟨3, ![56, 16, 256]⟩
abbrev S56x256x64 : Shape := ⟨3, ![56, 256, 64]⟩
abbrev S56x256x256 : Shape := ⟨3, ![56, 256, 256]⟩
abbrev S56x64x1x16 : Shape := ⟨4, ![56, 64, 1, 16]⟩
abbrev S56x64x16x1 : Shape := ⟨4, ![56, 64, 16, 1]⟩
abbrev S56x64x16x16 : Shape := ⟨4, ![56, 64, 16, 16]⟩
abbrev S56x64x256 : Shape := ⟨3, ![56, 64, 256]⟩
abbrev S56x128x256 : Shape := ⟨3, ![56, 128, 256]⟩
abbrev S56x128 : Shape := ⟨2, ![56, 128]⟩
abbrev S56x1x128 : Shape := ⟨3, ![56, 1, 128]⟩
abbrev S56x8x128 : Shape := ⟨3, ![56, 8, 128]⟩
abbrev S4x1024x256 : Shape := ⟨3, ![4, 1024, 256]⟩
abbrev S4x16x256 : Shape := ⟨3, ![4, 16, 256]⟩
abbrev S4x256x256 : Shape := ⟨3, ![4, 256, 256]⟩
abbrev S4x128x256 : Shape := ⟨3, ![4, 128, 256]⟩
abbrev S4x8x128 : Shape := ⟨3, ![4, 8, 128]⟩
abbrev S4x1024x128 : Shape := ⟨3, ![4, 1024, 128]⟩
abbrev S1024x128 : Shape := ⟨2, ![1024, 128]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩
abbrev S1x1x128 : Shape := ⟨3, ![1, 1, 128]⟩
abbrev S1x128 : Shape := ⟨2, ![1, 128]⟩
abbrev S256x128 : Shape := ⟨2, ![256, 128]⟩
abbrev S1x256x128 : Shape := ⟨3, ![1, 256, 128]⟩
abbrev S8x128 : Shape := ⟨2, ![8, 128]⟩
abbrev S1x8x128 : Shape := ⟨3, ![1, 8, 128]⟩
abbrev S1x16x256 : Shape := ⟨3, ![1, 16, 256]⟩
abbrev S16x256 : Shape := ⟨2, ![16, 256]⟩
abbrev S1x128x256 : Shape := ⟨3, ![1, 128, 256]⟩
abbrev S128x256 : Shape := ⟨2, ![128, 256]⟩

abbrev nBuf : Space → Nat
  | .hbm => 194
  | .vmem => 15
  | .smem => 0
  | _ => 0

abbrev hbmTy0_0 (i : Nat) : BufTy := match i % 128 with
  | 0 => ⟨S4x4096x56x16, .f32⟩
  | 1 => ⟨S56x64, .f32⟩
  | 2 => ⟨S56x64, .f32⟩
  | 3 => ⟨S56, .f32⟩
  | 4 => ⟨S56x64x16, .f32⟩
  | 5 => ⟨S56x64x16, .f32⟩
  | 6 => ⟨S56x16x64, .f32⟩
  | 7 => ⟨S56x16x64, .f32⟩
  | 8 => ⟨S56x16, .f32⟩
  | 9 => ⟨S1024x16x56x16, .f32⟩
  | 10 => ⟨S56x1024x16x16, .f32⟩
  | 11 => ⟨S56x1024x256, .f32⟩
  | 12 => ⟨S56x1024x256, .bf16⟩
  | 13 => ⟨S56, .f32⟩
  | 14 => ⟨S56x1, .f32⟩
  | 15 => ⟨S33, .f32⟩
  | 16 => ⟨S1x33x1, .f32⟩
  | 17 => ⟨S56x1x64, .f32⟩
  | 18 => ⟨S56x1x1, .f32⟩
  | 19 => ⟨S56x1x64, .f32⟩
  | 20 => ⟨S56x1x64, .f32⟩
  | 21 => ⟨S56x33x64, .f32⟩
  | 22 => ⟨S56x33x64, .f32⟩
  | 23 => ⟨S56x33x64, .f32⟩
  | 24 => ⟨S56x33x64, .f32⟩
  | 25 => ⟨S56x1x64, .f32⟩
  | 26 => ⟨S56x1x1, .f32⟩
  | 27 => ⟨S56x1x64, .f32⟩
  | 28 => ⟨S56x1x64, .f32⟩
  | 29 => ⟨S56x33x64, .f32⟩
  | 30 => ⟨S56x33x64, .f32⟩
  | 31 => ⟨S56x33x64, .f32⟩
  | 32 => ⟨S56x33x64, .f32⟩
  | 33 => ⟨S56x33x64, .f32⟩
  | 34 => ⟨S56x33x64, .f32⟩
  | 35 => ⟨S56x33x64, .f32⟩
  | 36 => ⟨S56x1x64, .f32⟩
  | 37 => ⟨S56x64, .f32⟩
  | 38 => ⟨S56x1x64, .f32⟩
  | 39 => ⟨S56x64, .f32⟩
  | 40 => ⟨S56x64, .f32⟩
  | 41 => ⟨S56x64, .f32⟩
  | 42 => ⟨S56x64, .f32⟩
  | 43 => ⟨S_, .f32⟩
  | 44 => ⟨S56x64, .f32⟩
  | 45 => ⟨S56x64, .f32⟩
  | 46 => ⟨S56x64, .f32⟩
  | 47 => ⟨S56x64, .f32⟩
  | 48 => ⟨S56x64, .f32⟩
  | 49 => ⟨S56x64, .f32⟩
  | 50 => ⟨S56x64, .f32⟩
  | 51 => ⟨S56x64, .f32⟩
  | 52 => ⟨S56x64, .f32⟩
  | 53 => ⟨S56x64, .f32⟩
  | 54 => ⟨S56x64, .f32⟩
  | 55 => ⟨S56x64x1, .f32⟩
  | 56 => ⟨S56x64x1, .f32⟩
  | 57 => ⟨S56x64x16, .f32⟩
  | 58 => ⟨S56x64x16, .f32⟩
  | 59 => ⟨S56x64x16, .f32⟩
  | 60 => ⟨S56x64x16, .f32⟩
  | 61 => ⟨S56x64x16, .f32⟩
  | 62 => ⟨S56x64x16, .f32⟩
  | 63 => ⟨S56x64x16, .f32⟩
  | 64 => ⟨S56x64x16, .f32⟩
  | 65 => ⟨S56x64x16, .f32⟩
  | 66 => ⟨S56x64x16, .f32⟩
  | 67 => ⟨S56x1x16x64, .f32⟩
  | 68 => ⟨S56x1x16x64, .f32⟩
  | 69 => ⟨S56x16x64, .f32⟩
  | 70 => ⟨S56x16x1x64, .f32⟩
  | 71 => ⟨S56x16x64, .f32⟩
  | 72 => ⟨S56x16x1x64, .f32⟩
  | 73 => ⟨S56x16x16x64, .f32⟩
  | 74 => ⟨S56x16x16x64, .f32⟩
  | 75 => ⟨S56x16x16x64, .f32⟩
  | 76 => ⟨S56x16x16x64, .f32⟩
  | 77 => ⟨S56x16x16x64, .f32⟩
  | 78 => ⟨S56x16x16x64, .f32⟩
  | 79 => ⟨S56x16x16x64, .f32⟩
  | 80 => ⟨S56x16x16x64, .f32⟩
  | 81 => ⟨S56x16x16x64, .f32⟩
  | 82 => ⟨S56x16x16x64, .f32⟩
  | 83 => ⟨S56x16x16x64, .f32⟩
  | 84 => ⟨S56x16x16x64, .f32⟩
  | 85 => ⟨S56x16x16x64, .f32⟩
  | 86 => ⟨S56x16x16x64, .f32⟩
  | 87 => ⟨S56x16x16x16, .f32⟩
  | 88 => ⟨S56x16x16x16, .f32⟩
  | 89 => ⟨S56x16x16x16, .f32⟩
  | 90 => ⟨S56x16x1, .f32⟩
  | 91 => ⟨S16x16, .i32⟩
  | 92 => ⟨S16x16, .i32⟩
  | 93 => ⟨S_, .i32⟩
  | 94 => ⟨S16x16, .i32⟩
  | 95 => ⟨S16x16, .i32⟩
  | 96 => ⟨S16x16, .i1⟩
  | 97 => ⟨S16x16, .f32⟩
  | 98 => ⟨S1x16x16, .f32⟩
  | 99 => ⟨S56x16x16, .f32⟩
  | 100 => ⟨S56x16x16, .f32⟩
  | 101 => ⟨S56x16x16, .f32⟩
  | 102 => ⟨S_, .i32⟩
  | 103 => ⟨S1, .i32⟩
  | 104 => ⟨S56x16x16x16, .f32⟩
  | 105 => ⟨S56x16x16x16, .f32⟩
  | 106 => ⟨S56x16x256, .f32⟩
  | 107 => ⟨S56x16x64, .f32⟩
  | 108 => ⟨S56x16x64, .f32⟩
  | 109 => ⟨S56x16x64, .f32⟩
  | 110 => ⟨S56x16x64, .f32⟩
  | 111 => ⟨S56x16x64, .f32⟩
  | 112 => ⟨S56x1x16x64, .f32⟩
  | 113 => ⟨S56x16x64, .f32⟩
  | 114 => ⟨S56x1x16x64, .f32⟩
  | 115 => ⟨S56x16x1x64, .f32⟩
  | 116 => ⟨S56x16x1x64, .f32⟩
  | 117 => ⟨S56x16x16x64, .f32⟩
  | 118 => ⟨S56x16x16x64, .f32⟩
  | 119 => ⟨S56x16x16x64, .f32⟩
  | 120 => ⟨S56x16x16x64, .f32⟩
  | 121 => ⟨S56x16x16x64, .f32⟩
  | 122 => ⟨S56x16x16x64, .f32⟩
  | 123 => ⟨S56x16x16x64, .f32⟩
  | 124 => ⟨S56x16x16x64, .f32⟩
  | 125 => ⟨S56x16x16x64, .f32⟩
  | 126 => ⟨S56x16x16x64, .f32⟩
  | 127 => ⟨S56x16x16x64, .f32⟩
  | _ => ⟨S4x4096x56x16, .f32⟩

abbrev hbmTy0_1 (i : Nat) : BufTy := match i % 128 with
  | 0 => ⟨S56x16x16x64, .f32⟩
  | 1 => ⟨S56x16x16x64, .f32⟩
  | 2 => ⟨S56x16x16x64, .f32⟩
  | 3 => ⟨S56x256x64, .f32⟩
  | 4 => ⟨S56x256x64, .f32⟩
  | 5 => ⟨S56x256x256, .f32⟩
  | 6 => ⟨S56x64x16, .f32⟩
  | 7 => ⟨S56x64x1x16, .f32⟩
  | 8 => ⟨S56x64x16, .f32⟩
  | 9 => ⟨S56x64x1x16, .f32⟩
  | 10 => ⟨S56x16x64, .f32⟩
  | 11 => ⟨S56x64x16, .f32⟩
  | 12 => ⟨S56x64x16x1, .f32⟩
  | 13 => ⟨S56x16x64, .f32⟩
  | 14 => ⟨S56x64x16, .f32⟩
  | 15 => ⟨S56x64x16x1, .f32⟩
  | 16 => ⟨S56x64x16x16, .f32⟩
  | 17 => ⟨S56x64x16x16, .f32⟩
  | 18 => ⟨S56x64x16x16, .f32⟩
  | 19 => ⟨S56x64x16x16, .f32⟩
  | 20 => ⟨S56x64x16x16, .f32⟩
  | 21 => ⟨S56x64x16x16, .f32⟩
  | 22 => ⟨S56x64x16x16, .f32⟩
  | 23 => ⟨S56x64x16x16, .f32⟩
  | 24 => ⟨S56x64x16x16, .f32⟩
  | 25 => ⟨S56x64x16x16, .f32⟩
  | 26 => ⟨S56x64x16x16, .f32⟩
  | 27 => ⟨S56x64x16x16, .f32⟩
  | 28 => ⟨S56x64x16x16, .f32⟩
  | 29 => ⟨S56x64x16x16, .f32⟩
  | 30 => ⟨S56x64x256, .f32⟩
  | 31 => ⟨S56x64x256, .f32⟩
  | 32 => ⟨S56x64x256, .f32⟩
  | 33 => ⟨S56x128x256, .f32⟩
  | 34 => ⟨S56x1x64, .f32⟩
  | 35 => ⟨S56x64, .f32⟩
  | 36 => ⟨S56x1x64, .f32⟩
  | 37 => ⟨S56x64, .f32⟩
  | 38 => ⟨S56x128, .f32⟩
  | 39 => ⟨S56x64, .f32⟩
  | 40 => ⟨S56x128, .f32⟩
  | 41 => ⟨S56x64, .f32⟩
  | 42 => ⟨S56x128, .f32⟩
  | 43 => ⟨S56x1x64, .f32⟩
  | 44 => ⟨S56x64, .f32⟩
  | 45 => ⟨S56x1x64, .f32⟩
  | 46 => ⟨S56x64, .f32⟩
  | 47 => ⟨S56x128, .f32⟩
  | 48 => ⟨S56x64, .f32⟩
  | 49 => ⟨S56x128, .f32⟩
  | 50 => ⟨S56x64, .f32⟩
  | 51 => ⟨S56x128, .f32⟩
  | 52 => ⟨S_, .f32⟩
  | 53 => ⟨S56x128, .f32⟩
  | 54 => ⟨S56x1x128, .f32⟩
  | 55 => ⟨S56x1x128, .f32⟩
  | 56 => ⟨S56x1x128, .f32⟩
  | 57 => ⟨S56x1x128, .f32⟩
  | 58 => ⟨S56x1x128, .f32⟩
  | 59 => ⟨S56x1x128, .f32⟩
  | 60 => ⟨S56x1x128, .f32⟩
  | 61 => ⟨S56x1x128, .f32⟩
  | 62 => ⟨S56x8x128, .f32⟩
  | 63 => ⟨S56x256x256, .bf16⟩
  | 64 => ⟨S56x128x256, .bf16⟩
  | 65 => ⟨S56x1024x256, .bf16⟩
  | _ => ⟨S4x4096x56x16, .f32⟩

abbrev hbmTy (i : Nat) : BufTy := match i / 128 with
  | 0 => hbmTy0_0 i
  | 1 => hbmTy0_1 i
  | _ => ⟨S4x4096x56x16, .f32⟩

abbrev bufTy : (tb : Table) → Fin (tcTables nBuf tb) → BufTy
  | .hbm, ⟨i, _⟩ => hbmTy i
  | .local _ .vmem, ⟨0, _⟩ => ⟨S4x1024x256, .bf16⟩
  | .local _ .vmem, ⟨1, _⟩ => ⟨S4x1024x256, .bf16⟩
  | .local _ .vmem, ⟨2, _⟩ => ⟨S4x16x256, .f32⟩
  | .local _ .vmem, ⟨3, _⟩ => ⟨S4x16x256, .f32⟩
  | .local _ .vmem, ⟨4, _⟩ => ⟨S4x256x256, .bf16⟩
  | .local _ .vmem, ⟨5, _⟩ => ⟨S4x256x256, .bf16⟩
  | .local _ .vmem, ⟨6, _⟩ => ⟨S4x128x256, .bf16⟩
  | .local _ .vmem, ⟨7, _⟩ => ⟨S4x128x256, .bf16⟩
  | .local _ .vmem, ⟨8, _⟩ => ⟨S4x8x128, .f32⟩
  | .local _ .vmem, ⟨9, _⟩ => ⟨S4x8x128, .f32⟩
  | .local _ .vmem, ⟨10, _⟩ => ⟨S4x1024x256, .bf16⟩
  | .local _ .vmem, ⟨11, _⟩ => ⟨S4x1024x256, .bf16⟩
  | .local _ .vmem, ⟨12, _⟩ => ⟨S4x1024x128, .f32⟩
  | .local _ .vmem, ⟨13, _⟩ => ⟨S4x1024x128, .f32⟩
  | .local _ .vmem, ⟨14, _⟩ => ⟨S4x1024x128, .f32⟩
  | _, _ => ⟨S4x4096x56x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_c : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_c_0 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_cst_1 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![14], ![false]⟩

@[reducible] def k0_t1_loop : Scf.Loop 32 :=
  let c0_i32_176 : BitVec 32 := 0#32
  let c128_i32 : BitVec 32 := 128#32
  let v272 : BitVec 32 := Scalar.addi c0_i32_176 c128_i32
  let c1_i32_177 : BitVec 32 := 1#32
  ⟨c0_i32_176, v272, c1_i32_177⟩
def k0_mult1 (k0_t1 : Fin k0_t1_loop.trips) : BitVec 32 :=
  let c0_i32_176 : BitVec 32 := 0#32
  let c1_i32_177 : BitVec 32 := 1#32
  let arg10 : BitVec 32 := Scf.iv c0_i32_176 c1_i32_177 k0_t1
  let c8_i32 : BitVec 32 := 8#32
  let v690 : BitVec 32 := Scalar.muli arg10 c8_i32
  v690
def k0_off1 (k0_t1 : Fin k0_t1_loop.trips) : Fin 3 → Nat :=
  let c0_464 : Index := 0#32
  let c0_i32_176 : BitVec 32 := 0#32
  let c1_i32_177 : BitVec 32 := 1#32
  let arg10 : BitVec 32 := Scf.iv c0_i32_176 c1_i32_177 k0_t1
  let c8_i32 : BitVec 32 := 8#32
  let v690 : BitVec 32 := Scalar.muli arg10 c8_i32
  let v691 : BitVec 32 := v690
  let v703 : Index := Scalar.indexCast v691
  let c0_465 : Index := 0#32
  ![0, v703.toNat, 0]
def k0_off2 (k0_t1 : Fin k0_t1_loop.trips) : Fin 3 → Nat :=
  let c1_479 : Index := 1#32
  let c0_i32_176 : BitVec 32 := 0#32
  let c1_i32_177 : BitVec 32 := 1#32
  let arg10 : BitVec 32 := Scf.iv c0_i32_176 c1_i32_177 k0_t1
  let c8_i32 : BitVec 32 := 8#32
  let v690 : BitVec 32 := Scalar.muli arg10 c8_i32
  let v691 : BitVec 32 := v690
  let v731 : Index := Scalar.indexCast v691
  let c0_480 : Index := 0#32
  ![1, v731.toNat, 0]
def k0_off3 (k0_t1 : Fin k0_t1_loop.trips) : Fin 3 → Nat :=
  let c2_494 : Index := 2#32
  let c0_i32_176 : BitVec 32 := 0#32
  let c1_i32_177 : BitVec 32 := 1#32
  let arg10 : BitVec 32 := Scf.iv c0_i32_176 c1_i32_177 k0_t1
  let c8_i32 : BitVec 32 := 8#32
  let v690 : BitVec 32 := Scalar.muli arg10 c8_i32
  let v691 : BitVec 32 := v690
  let v759 : Index := Scalar.indexCast v691
  let c0_495 : Index := 0#32
  ![2, v759.toNat, 0]
def k0_off4 (k0_t1 : Fin k0_t1_loop.trips) : Fin 3 → Nat :=
  let c3_509 : Index := 3#32
  let c0_i32_176 : BitVec 32 := 0#32
  let c1_i32_177 : BitVec 32 := 1#32
  let arg10 : BitVec 32 := Scf.iv c0_i32_176 c1_i32_177 k0_t1
  let c8_i32 : BitVec 32 := 8#32
  let v690 : BitVec 32 := Scalar.muli arg10 c8_i32
  let v691 : BitVec 32 := v690
  let v787 : Index := Scalar.indexCast v691
  let c0_510 : Index := 0#32
  ![3, v787.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x4096x56x16 : Shape := ⟨4, ![4, 4096, 56, 16]⟩
abbrev S56x64 : Shape := ⟨2, ![56, 64]⟩
abbrev S56 : Shape := ⟨1, ![56]⟩
abbrev S56x64x16 : Shape := ⟨3, ![56, 64, 16]⟩
abbrev S56x16x64 : Shape := ⟨3, ![56, 16, 64]⟩
abbrev S56x16 : Shape := ⟨2, ![56, 16]⟩
abbrev S56x1 : Shape := ⟨2, ![56, 1]⟩
abbrev S_ : Shape := ⟨0, ![]⟩
abbrev S56x64x1 : Shape := ⟨3, ![56, 64, 1]⟩
abbrev S56x64x4x4096 : Shape := ⟨4, ![56, 64, 4, 4096]⟩
abbrev S4x4096x56x64 : Shape := ⟨4, ![4, 4096, 56, 64]⟩
abbrev S4x56x64 : Shape := ⟨3, ![4, 56, 64]⟩
abbrev S4096x4x56x64 : Shape := ⟨4, ![4096, 4, 56, 64]⟩
abbrev S1x4x56x64 : Shape := ⟨4, ![1, 4, 56, 64]⟩
abbrev S1x56x64 : Shape := ⟨3, ![1, 56, 64]⟩
abbrev S56x16x4x4096 : Shape := ⟨4, ![56, 16, 4, 4096]⟩
abbrev S1x1x56x16 : Shape := ⟨4, ![1, 1, 56, 16]⟩
abbrev S1024x16x56x16 : Shape := ⟨4, ![1024, 16, 56, 16]⟩
abbrev S56x1024x16x16 : Shape := ⟨4, ![56, 1024, 16, 16]⟩
abbrev S56x1024x256 : Shape := ⟨3, ![56, 1024, 256]⟩

abbrev nBuf : Space → Nat
  | .hbm => 125
  | .vmem => 0
  | .smem => 0
  | _ => 0

abbrev bufTy : (tb : Table) → Fin (tcTables nBuf tb) → BufTy
  | .hbm, ⟨0, _⟩ => ⟨S4x4096x56x16, .f32⟩
  | .hbm, ⟨1, _⟩ => ⟨S56x64, .f32⟩
  | .hbm, ⟨2, _⟩ => ⟨S56x64, .f32⟩
  | .hbm, ⟨3, _⟩ => ⟨S56, .f32⟩
  | .hbm, ⟨4, _⟩ => ⟨S56x64x16, .f32⟩
  | .hbm, ⟨5, _⟩ => ⟨S56x64x16, .f32⟩
  | .hbm, ⟨6, _⟩ => ⟨S56x16x64, .f32⟩
  | .hbm, ⟨7, _⟩ => ⟨S56x16x64, .f32⟩
  | .hbm, ⟨8, _⟩ => ⟨S56x16, .f32⟩
  | .hbm, ⟨9, _⟩ => ⟨S56, .f32⟩
  | .hbm, ⟨10, _⟩ => ⟨S56x1, .f32⟩
  | .hbm, ⟨11, _⟩ => ⟨S56x64, .f32⟩
  | .hbm, ⟨12, _⟩ => ⟨S56x64, .f32⟩
  | .hbm, ⟨13, _⟩ => ⟨S56x64, .f32⟩
  | .hbm, ⟨14, _⟩ => ⟨S56x64, .f32⟩
  | .hbm, ⟨15, _⟩ => ⟨S56x64, .f32⟩
  | .hbm, ⟨16, _⟩ => ⟨S56x64, .f32⟩
  | .hbm, ⟨17, _⟩ => ⟨S56x64, .f32⟩
  | .hbm, ⟨18, _⟩ => ⟨S56x64, .f32⟩
  | .hbm, ⟨19, _⟩ => ⟨S56x64, .f32⟩
  | .hbm, ⟨20, _⟩ => ⟨S56x64, .f32⟩
  | .hbm, ⟨21, _⟩ => ⟨S56x64, .f32⟩
  | .hbm, ⟨22, _⟩ => ⟨S56x64, .f32⟩
  | .hbm, ⟨23, _⟩ => ⟨S56x64, .f32⟩
  | .hbm, ⟨24, _⟩ => ⟨S56x64, .f32⟩
  | .hbm, ⟨25, _⟩ => ⟨S_, .f32⟩
  | .hbm, ⟨26, _⟩ => ⟨S56x64, .f32⟩
  | .hbm, ⟨27, _⟩ => ⟨S56x64, .f32⟩
  | .hbm, ⟨28, _⟩ => ⟨S56x64, .f32⟩
  | .hbm, ⟨29, _⟩ => ⟨S56x64, .f32⟩
  | .hbm, ⟨30, _⟩ => ⟨S56x64, .f32⟩
  | .hbm, ⟨31, _⟩ => ⟨S56x64, .f32⟩
  | .hbm, ⟨32, _⟩ => ⟨S56x64x1, .f32⟩
  | .hbm, ⟨33, _⟩ => ⟨S56x64, .f32⟩
  | .hbm, ⟨34, _⟩ => ⟨S56x64, .f32⟩
  | .hbm, ⟨35, _⟩ => ⟨S56x64, .f32⟩
  | .hbm, ⟨36, _⟩ => ⟨S56x64, .f32⟩
  | .hbm, ⟨37, _⟩ => ⟨S56x64x1, .f32⟩
  | .hbm, ⟨38, _⟩ => ⟨S56x64x16, .f32⟩
  | .hbm, ⟨39, _⟩ => ⟨S56x64x16, .f32⟩
  | .hbm, ⟨40, _⟩ => ⟨S56x64x16, .f32⟩
  | .hbm, ⟨41, _⟩ => ⟨S56x64x16, .f32⟩
  | .hbm, ⟨42, _⟩ => ⟨S56x64x16, .f32⟩
  | .hbm, ⟨43, _⟩ => ⟨S56x64x16, .f32⟩
  | .hbm, ⟨44, _⟩ => ⟨S56x64x16, .f32⟩
  | .hbm, ⟨45, _⟩ => ⟨S56x64x16, .f32⟩
  | .hbm, ⟨46, _⟩ => ⟨S56x64x16, .f32⟩
  | .hbm, ⟨47, _⟩ => ⟨S56x64x16, .f32⟩
  | .hbm, ⟨48, _⟩ => ⟨S56x64x4x4096, .f32⟩
  | .hbm, ⟨49, _⟩ => ⟨S4x4096x56x64, .f32⟩
  | .hbm, ⟨50, _⟩ => ⟨S56x64x4x4096, .f32⟩
  | .hbm, ⟨51, _⟩ => ⟨S4x4096x56x64, .f32⟩
  | .hbm, ⟨52, _⟩ => ⟨S_, .f32⟩
  | .hbm, ⟨53, _⟩ => ⟨S4x56x64, .f32⟩
  | .hbm, ⟨54, _⟩ => ⟨S4096x4x56x64, .f32⟩
  | .hbm, ⟨55, _⟩ => ⟨S4096x4x56x64, .f32⟩
  | .hbm, ⟨56, _⟩ => ⟨S_, .f32⟩
  | .hbm, ⟨57, _⟩ => ⟨S4096x4x56x64, .f32⟩
  | .hbm, ⟨58, _⟩ => ⟨S_, .f32⟩
  | .hbm, ⟨59, _⟩ => ⟨S4096x4x56x64, .f32⟩
  | .hbm, ⟨60, _⟩ => ⟨S_, .i32⟩
  | .hbm, ⟨61, _⟩ => ⟨S4096x4x56x64, .f32⟩
  | .hbm, ⟨62, _⟩ => ⟨S4096x4x56x64, .f32⟩
  | .hbm, ⟨63, _⟩ => ⟨S56x64, .f32⟩
  | .hbm, ⟨64, _⟩ => ⟨S56x64, .f32⟩
  | .hbm, ⟨65, _⟩ => ⟨S_, .i32⟩
  | .hbm, ⟨66, _⟩ => ⟨S4x56x64, .f32⟩
  | .hbm, ⟨67, _⟩ => ⟨S4x56x64, .f32⟩
  | .hbm, ⟨68, _⟩ => ⟨S4096x4x56x64, .f32⟩
  | .hbm, ⟨69, _⟩ => ⟨S4096x4x56x64, .f32⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S1x4x56x64, .f32⟩
  | .hbm, ⟨76, _⟩ => ⟨S4x56x64, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S1x4x56x64, .f32⟩
  | .hbm, ⟨81, _⟩ => ⟨S4x56x64, .f32⟩
  | .hbm, ⟨82, _⟩ => ⟨S1x56x64, .f32⟩
  | .hbm, ⟨83, _⟩ => ⟨S4x56x64, .f32⟩
  | .hbm, ⟨84, _⟩ => ⟨S4x56x64, .f32⟩
  | .hbm, ⟨85, _⟩ => ⟨S1x56x64, .f32⟩
  | .hbm, ⟨86, _⟩ => ⟨S4x56x64, .f32⟩
  | .hbm, ⟨87, _⟩ => ⟨S4x56x64, .f32⟩
  | .hbm, ⟨88, _⟩ => ⟨S4x56x64, .f32⟩
  | .hbm, ⟨89, _⟩ => ⟨S4x56x64, .f32⟩
  | .hbm, ⟨90, _⟩ => ⟨S1x56x64, .f32⟩
  | .hbm, ⟨91, _⟩ => ⟨S4x56x64, .f32⟩
  | .hbm, ⟨92, _⟩ => ⟨S4x56x64, .f32⟩
  | .hbm, ⟨93, _⟩ => ⟨S1x56x64, .f32⟩
  | .hbm, ⟨94, _⟩ => ⟨S4x56x64, .f32⟩
  | .hbm, ⟨95, _⟩ => ⟨S4x56x64, .f32⟩
  | .hbm, ⟨96, _⟩ => ⟨S4x56x64, .f32⟩
  | .hbm, ⟨97, _⟩ => ⟨S4x56x64, .f32⟩
  | .hbm, ⟨98, _⟩ => ⟨S1x4x56x64, .f32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S4096x4x56x64, .f32⟩
  | .hbm, ⟨103, _⟩ => ⟨S1x4x56x64, .f32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S4096x4x56x64, .f32⟩
  | .hbm, ⟨108, _⟩ => ⟨S_, .i32⟩
  | .hbm, ⟨109, _⟩ => ⟨S_, .i32⟩
  | .hbm, ⟨110, _⟩ => ⟨S4x4096x56x64, .f32⟩
  | .hbm, ⟨111, _⟩ => ⟨S4x4096x56x64, .f32⟩
  | .hbm, ⟨112, _⟩ => ⟨S56x16x4x4096, .f32⟩
  | .hbm, ⟨113, _⟩ => ⟨S4x4096x56x16, .f32⟩
  | .hbm, ⟨114, _⟩ => ⟨S56x16x4x4096, .f32⟩
  | .hbm, ⟨115, _⟩ => ⟨S4x4096x56x16, .f32⟩
  | .hbm, ⟨116, _⟩ => ⟨S4x4096x56x16, .f32⟩
  | .hbm, ⟨117, _⟩ => ⟨S1x1x56x16, .f32⟩
  | .hbm, ⟨118, _⟩ => ⟨S4x4096x56x16, .f32⟩
  | .hbm, ⟨119, _⟩ => ⟨S4x4096x56x16, .f32⟩
  | .hbm, ⟨120, _⟩ => ⟨S4x4096x56x16, .f32⟩
  | .hbm, ⟨121, _⟩ => ⟨S1024x16x56x16, .f32⟩
  | .hbm, ⟨122, _⟩ => ⟨S56x1024x16x16, .f32⟩
  | .hbm, ⟨123, _⟩ => ⟨S56x1024x256, .f32⟩
  | .hbm, ⟨124, _⟩ => ⟨S56x1024x256, .bf16⟩
  | _, _ => ⟨S4x4096x56x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_0 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_1 : Ref sig .tc := ⟨.hbm, 56, rfl⟩
abbrev main_v45 : Ref sig .tc := ⟨.hbm, 57, rfl⟩
abbrev main_cst_2 : Ref sig .tc := ⟨.hbm, 58, rfl⟩
abbrev main_v46 : Ref sig .tc := ⟨.hbm, 59, rfl⟩
abbrev main_c : Ref sig .tc := ⟨.hbm, 60, rfl⟩
abbrev main_v47_0 : Ref sig .tc := ⟨.hbm, 61, rfl⟩
abbrev main_v47_1 : Ref sig .tc := ⟨.hbm, 62, rfl⟩
abbrev main_v47_2 : Ref sig .tc := ⟨.hbm, 63, rfl⟩
abbrev main_v47_3 : Ref sig .tc := ⟨.hbm, 64, rfl⟩
abbrev main_v47_4 : Ref sig .tc := ⟨.hbm, 65, rfl⟩
abbrev main_v47_5 : Ref sig .tc := ⟨.hbm, 66, rfl⟩
abbrev main_v47_6 : Ref sig .tc := ⟨.hbm, 67, rfl⟩
abbrev main_v47_7 : Ref sig .tc := ⟨.hbm, 68, rfl⟩
abbrev main_v47_8 : Ref sig .tc := ⟨.hbm, 69, rfl⟩
abbrev main_while0c_c_11 : Ref sig .tc := ⟨.hbm, 70, rfl⟩
abbrev main_while0c_v63 : Ref sig .tc := ⟨.hbm, 71, rfl⟩
abbrev main_while0b_call0_c : Ref sig .tc := ⟨.hbm, 72, rfl⟩
abbrev main_while0b_call0_c_0 : Ref sig .tc := ⟨.hbm, 73, rfl⟩
abbrev main_while0b_call0_c_1 : Ref sig .tc := ⟨.hbm, 74, rfl⟩
abbrev main_while0b_call0_v0 : Ref sig .tc := ⟨.hbm, 75, rfl⟩
abbrev main_while0b_v63 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_call1_c_1 : Ref sig .tc := ⟨.hbm, 79, rfl⟩
abbrev main_while0b_call1_v0 : Ref sig .tc := ⟨.hbm, 80, rfl⟩
abbrev main_while0b_v64 : Ref sig .tc := ⟨.hbm, 81, rfl⟩
abbrev main_while0b_v65 : Ref sig .tc := ⟨.hbm, 82, rfl⟩
abbrev main_while0b_v66 : Ref sig .tc := ⟨.hbm, 83, rfl⟩
abbrev main_while0b_v67 : Ref sig .tc := ⟨.hbm, 84, rfl⟩
abbrev main_while0b_v68 : Ref sig .tc := ⟨.hbm, 85, rfl⟩
abbrev main_while0b_v69 : Ref sig .tc := ⟨.hbm, 86, rfl⟩
abbrev main_while0b_v70 : Ref sig .tc := ⟨.hbm, 87, rfl⟩
abbrev main_while0b_v71 : Ref sig .tc := ⟨.hbm, 88, rfl⟩
abbrev main_while0b_v72 : Ref sig .tc := ⟨.hbm, 89, rfl⟩
abbrev main_while0b_v73 : Ref sig .tc := ⟨.hbm, 90, rfl⟩
abbrev main_while0b_v74 : Ref sig .tc := ⟨.hbm, 91, rfl⟩
abbrev main_while0b_v75 : Ref sig .tc := ⟨.hbm, 92, rfl⟩
abbrev main_while0b_v76 : Ref sig .tc := ⟨.hbm, 93, rfl⟩
abbrev main_while0b_v77 : Ref sig .tc := ⟨.hbm, 94, rfl⟩
abbrev main_while0b_v78 : Ref sig .tc := ⟨.hbm, 95, rfl⟩
abbrev main_while0b_v79 : Ref sig .tc := ⟨.hbm, 96, rfl⟩
abbrev main_while0b_v80 : Ref sig .tc := ⟨.hbm, 97, rfl⟩
abbrev main_while0b_call2_v0 : Ref sig .tc := ⟨.hbm, 98, rfl⟩
abbrev main_while0b_call2_c : Ref sig .tc := ⟨.hbm, 99, rfl⟩
abbrev main_while0b_call2_c_0 : Ref sig .tc := ⟨.hbm, 100, rfl⟩
abbrev main_while0b_call2_c_1 : Ref sig .tc := ⟨.hbm, 101, rfl⟩
abbrev main_while0b_v81 : Ref sig .tc := ⟨.hbm, 102, rfl⟩
abbrev main_while0b_call3_v0 : Ref sig .tc := ⟨.hbm, 103, rfl⟩
abbrev main_while0b_call3_c : Ref sig .tc := ⟨.hbm, 104, rfl⟩
abbrev main_while0b_call3_c_0 : Ref sig .tc := ⟨.hbm, 105, rfl⟩
abbrev main_while0b_call3_c_1 : Ref sig .tc := ⟨.hbm, 106, rfl⟩
abbrev main_while0b_v82 : Ref sig .tc := ⟨.hbm, 107, rfl⟩
abbrev main_while0b_c_11 : Ref sig .tc := ⟨.hbm, 108, rfl⟩
abbrev main_while0b_v83 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4x4096x2048 : Shape := ⟨3, ![4, 4096, 2048]⟩
abbrev S4x12288 : Shape := ⟨2, ![4, 12288]⟩
abbrev S2048 : Shape := ⟨1, ![2048]⟩
abbrev S2048x8192 : Shape := ⟨2, ![2048, 8192]⟩
abbrev S8192x2048 : Shape := ⟨2, ![8192, 2048]⟩
abbrev S16384x2048 : Shape := ⟨2, ![16384, 2048]⟩
abbrev S4x6x2048 : Shape := ⟨3, ![4, 6, 2048]⟩
abbrev S1x2048 : Shape := ⟨2, ![1, 2048]⟩
abbrev S512x2048 : Shape := ⟨2, ![512, 2048]⟩
abbrev S1x6x2048 : Shape := ⟨3, ![1, 6, 2048]⟩
abbrev S2048x2048 : Shape := ⟨2, ![2048, 2048]⟩
abbrev S1x1x2048 : Shape := ⟨3, ![1, 1, 2048]⟩
abbrev S128x2048 : Shape := ⟨2, ![128, 2048]⟩
abbrev S128 : Shape := ⟨1, ![128]⟩
abbrev S128x1 : Shape := ⟨2, ![128, 1]⟩

abbrev nBuf : Space → Nat
  | .hbm => 13
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S2048, .f32⟩
  | .hbm, ⟨3, _⟩ => ⟨S2048, .f32⟩
  | .hbm, ⟨4, _⟩ => ⟨S2048x8192, .f32⟩
  | .hbm, ⟨5, _⟩ => ⟨S8192x2048, .f32⟩
  | .hbm, ⟨6, _⟩ => ⟨S16384x2048, .f32⟩
  | .hbm, ⟨7, _⟩ => ⟨S4x6x2048, .f32⟩
  | .hbm, ⟨8, _⟩ => ⟨S1x2048, .f32⟩
  | .hbm, ⟨9, _⟩ => ⟨S1x2048, .f32⟩
  | .hbm, ⟨10, _⟩ => ⟨S2048x8192, .bf16⟩
  | .hbm, ⟨11, _⟩ => ⟨S8192x2048, .bf16⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S2048x2048, .bf16⟩
  | .local _ .vmem, ⟨8, _⟩ => ⟨S2048x2048, .bf16⟩
  | .local _ .vmem, ⟨9, _⟩ => ⟨S2048x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4x4096x2048 : Shape := ⟨3, ![4, 4096, 2048]⟩
abbrev S4x12288 : Shape := ⟨2, ![4, 12288]⟩
abbrev S2048 : Shape := ⟨1, ![2048]⟩
abbrev S2048x8192 : Shape := ⟨2, ![2048, 8192]⟩
abbrev S8192x2048 : Shape := ⟨2, ![8192, 2048]⟩
abbrev S4x2048 : Shape := ⟨2, ![4, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x8192 : Shape := ⟨3, ![4, 4096, 8192]⟩
abbrev S16384x2048 : Shape := ⟨2, ![16384, 2048]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x12288, .f32⟩
  | .hbm, ⟨2, _⟩ => ⟨S2048, .f32⟩
  | .hbm, ⟨3, _⟩ => ⟨S2048, .f32⟩
  | .hbm, ⟨4, _⟩ => ⟨S2048x8192, .f32⟩
  | .hbm, ⟨5, _⟩ => ⟨S8192x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x2048, .f32⟩
  | .hbm, ⟨27, _⟩ => ⟨S4x4096x2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | .hbm, ⟨31, _⟩ => ⟨S_, .f32⟩
  | .hbm, ⟨32, _⟩ => ⟨S4x1x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S4x4096x8192, .f32⟩
  | .hbm, ⟨39, _⟩ => ⟨S_, .f32⟩
  | .hbm, ⟨40, _⟩ => ⟨S4x4096x8192, .f32⟩
  | .hbm, ⟨41, _⟩ => ⟨S4x4096x8192, .f32⟩
  | .hbm, ⟨42, _⟩ => ⟨S4x4096x8192, .f32⟩
  | .hbm, ⟨43, _⟩ => ⟨S4x4096x2048, .f32⟩
  | .hbm, ⟨44, _⟩ => ⟨S4x4096x2048, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x1, .f32⟩
  | .hbm, ⟨55, _⟩ => ⟨S4x4096x2048, .f32⟩
  | .hbm, ⟨56, _⟩ => ⟨S4x4096x2048, .f32⟩
  | .hbm, ⟨57, _⟩ => ⟨S1x1x2048, .f32⟩
  | .hbm, ⟨58, _⟩ => ⟨S4x4096x2048, .f32⟩
  | .hbm, ⟨59, _⟩ => ⟨S4x4096x2048, .f32⟩
  | .hbm, ⟨60, _⟩ => ⟨S4x4096x2048, .f32⟩
  | .hbm, ⟨61, _⟩ => ⟨S4x4096x2048, .f32⟩
  | .hbm, ⟨62, _⟩ => ⟨S4x4096x2048, .f32⟩
  | .hbm, ⟨63, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel3.lean ====
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S1 : Shape := ⟨1, ![1]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩
abbrev S4x12288 : Shape := ⟨2, ![4, 12288]⟩
abbrev S4x6x2048 : Shape := ⟨3, ![4, 6, 2048]⟩

abbrev nBuf : Space → Nat
  | .hbm => 22
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048x12288, .f32⟩
  | .hbm, ⟨2, _⟩ => ⟨S12288, .f32⟩
  | .hbm, ⟨3, _⟩ => ⟨S_, .bf16⟩
  | .hbm, ⟨4, _⟩ => ⟨S8x2048, .bf16⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S_, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x2048, .bf16⟩
  | .hbm, ⟨15, _⟩ => ⟨S_, .i32⟩
  | .hbm, ⟨16, _⟩ => ⟨S1, .i32⟩
  | .hbm, ⟨17, _⟩ => ⟨S8x2048, .bf16⟩
  | .hbm, ⟨18, _⟩ => ⟨S1x12288, .f32⟩
  | .hbm, ⟨19, _⟩ => ⟨S8x12288, .f32⟩
  | .hbm, ⟨20, _⟩ => ⟨S4x12288, .f32⟩
  | .hbm, ⟨21, _⟩ => ⟨S4x6x2048, .f32⟩
  | .local _ .vmem, ⟨0, _⟩ => ⟨S8x2048, .bf16⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S4x12288 : Shape := ⟨2, ![4, 12288]⟩
abbrev S1x12288 : Shape := ⟨2, ![1, 12288]⟩
abbrev S4x6x2048 : Shape := ⟨3, ![4, 6, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048x12288, .f32⟩
  | .hbm, ⟨2, _⟩ => ⟨S12288, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x12288, .f32⟩
  | .hbm, ⟨13, _⟩ => ⟨S1x12288, .f32⟩
  | .hbm, ⟨14, _⟩ => ⟨S4x12288, .f32⟩
  | .hbm, ⟨15, _⟩ => ⟨S4x12288, .f32⟩
  | .hbm, ⟨16, _⟩ => ⟨S4x6x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.SsmLoop.lean ====
module

public import proofs.«01_k».proof.Proof.Gen.KernelIdeal.Frame
public import proofs.«01_k».proof.Proof.Gen.KernelIdeal.Skeleton
public import Idealize.ShloMosaic.Lib.Exec

@[expose] public section

set_option maxRecDepth 16384

noncomputable section

namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What the scan carries from one trip to the next: per group the pair of states. -/
abbrev Carry (F : FTy → Type) : Type :=
  FVec F S8x128 .f32 × FVec F S8x128 .f32 × FVec F S8x128 .f32 × FVec F S8x128 .f32 × FVec F S8x128 .f32 × FVec F S8x128 .f32 × FVec F S8x128 .f32 × FVec F S8x128 .f32

/-- The first state of group 0 after trip `k`. -/
def x0 (x5 : Vec F S4x8x128 .f32) (x7 : Vec F S4x1024x128 .f32) (k : Fin k0_t1_loop.trips) (acc : Carry F) : FVec F S8x128 .f32 :=
  k0_pay3 acc.1 acc.2.1 (View.ld x5 (Rect.unit (s := S4x8x128) ![0, 3, 0] S1x1x128.size inb_S4x8x128_S1x1x128_0_3_0)) (View.ld x5 (Rect.unit (s := S4x8x128) ![0, 4, 0] S1x1x128.size inb_S4x8x128_S1x1x128_0_4_0)) (View.ld x7 (Rect.unit (s := S4x1024x128) (k0_off1 k) S1x8x128.size (k0_off1_inb k)))

/-- The first state of group 1 after trip `k`. -/
def x1 (x5 : Vec F S4x8x128 .f32) (x7 : Vec F S4x1024x128 .f32) (k : Fin k0_t1_loop.trips) (acc : Carry F) : FVec F S8x128 .f32 :=
  k0_pay8 acc.2.2.1 acc.2.2.2.1 (k0_pay6 (View.ld x5 (Rect.unit (s := S4x8x128) ![1, 3, 0] S1x1x128.size inb_S4x8x128_S1x1x128_1_3_0))) (k0_pay7 (View.ld x5 (Rect.unit (s := S4x8x128) ![1, 4, 0] S1x1x128.size inb_S4x8x128_S1x1x128_1_4_0))) (View.ld x7 (Rect.unit (s := S4x1024x128) (k0_off2 k) S1x8x128.size (k0_off2_inb k)))

/-- The first state of group 2 after trip `k`. -/
def x2 (x5 : Vec F S4x8x128 .f32) (x7 : Vec F S4x1024x128 .f32) (k : Fin k0_t1_loop.trips) (acc : Carry F) : FVec F S8x128 .f32 :=
  k0_pay13 acc.2.2.2.2.1 acc.2.2.2.2.2.1 (View.ld x5 (Rect.unit (s := S4x8x128) ![2, 3, 0] S1x1x128.size inb_S4x8x128_S1x1x128_2_3_0)) (View.ld x5 (Rect.unit (s := S4x8x128) ![2, 4, 0] S1x1x128.size inb_S4x8x128_S1x1x128_2_4_0)) (View.ld x7 (Rect.unit (s := S4x1024x128) (k0_off3 k) S1x8x128.size (k0_off3_inb k)))

/-- The first state of group 3 after trip `k`. -/
def x3 (x5 : Vec F S4x8x128 .f32) (x7 : Vec F S4x1024x128 .f32) (k : Fin k0_t1_loop.trips) (acc : Carry F) : FVec F S8x128 .f32 :=
  k0_pay18 acc.2.2.2.2.2.2.1 acc.2.2.2.2.2.2.2 (View.ld x5 (Rect.unit (s := S4x8x128) ![3, 3, 0] S1x1x128.size inb_S4x8x128_S1x1x128_3_3_0)) (View.ld x5 (Rect.unit (s := S4x8x128) ![3, 4, 0] S1x1x128.size inb_S4x8x128_S1x1x128_3_4_0)) (View.ld x7 (Rect.unit (s := S4x1024x128) (k0_off4 k) S1x8x128.size (k0_off4_inb k)))

/-- The second state of group 0 after trip `k`. -/
def z0 (x5 : Vec F S4x8x128 .f32) (x8 : Vec F S4x1024x128 .f32) (k : Fin k0_t1_loop.trips) (acc : Carry F) : FVec F S8x128 .f32 :=
  k0_pay4 acc.1 acc.2.1 (View.ld x5 (Rect.unit (s := S4x8x128) ![0, 3, 0] S1x1x128.size inb_S4x8x128_S1x1x128_0_3_0)) (View.ld x5 (Rect.unit (s := S4x8x128) ![0, 5, 0] S1x1x128.size inb_S4x8x128_S1x1x128_0_5_0)) (View.ld x8 (Rect.unit (s := S4x1024x128) (k0_off1 k) S1x8x128.size (k0_off1_inb k)))

/-- The second state of group 1 after trip `k`. -/
def z1 (x5 : Vec F S4x8x128 .f32) (x8 : Vec F S4x1024x128 .f32) (k : Fin k0_t1_loop.trips) (acc : Carry F) : FVec F S8x128 .f32 :=
  k0_pay9 acc.2.2.1 acc.2.2.2.1 (k0_pay6 (View.ld x5 (Rect.unit (s := S4x8x128) ![1, 3, 0] S1x1x128.size inb_S4x8x128_S1x1x128_1_3_0))) (View.ld x5 (Rect.unit (s := S4x8x128) ![1, 5, 0] S1x1x128.size inb_S4x8x128_S1x1x128_1_5_0)) (View.ld x8 (Rect.unit (s := S4x1024x128) (k0_off2 k) S1x8x128.size (k0_off2_inb k)))

/-- The second state of group 2 after trip `k`. -/
def z2 (x5 : Vec F S4x8x128 .f32) (x8 : Vec F S4x1024x128 .f32) (k : Fin k0_t1_loop.trips) (acc : Carry F) : FVec F S8x128 .f32 :=
  k0_pay15 acc.2.2.2.2.1 (k0_pay12 (View.ld x5 (Rect.unit (s := S4x8x128) ![2, 5, 0] S1x1x128.size inb_S4x8x128_S1x1x128_2_5_0))) (k0_pay14 acc.2.2.2.2.2.1 (View.ld x5 (Rect.unit (s := S4x8x128) ![2, 3, 0] S1x1x128.size inb_S4x8x128_S1x1x128_2_3_0))) (View.ld x8 (Rect.unit (s := S4x1024x128) (k0_off3 k) S1x8x128.size (k0_off3_inb k)))

/-- The second state of group 3 after trip `k`. -/
def z3 (x5 : Vec F S4x8x128 .f32) (x8 : Vec F S4x1024x128 .f32) (k : Fin k0_t1_loop.trips) (acc : Carry F) : FVec F S8x128 .f32 :=
  k0_pay19 acc.2.2.2.2.2.2.1 acc.2.2.2.2.2.2.2 (View.ld x5 (Rect.unit (s := S4x8x128) ![3, 3, 0] S1x1x128.size inb_S4x8x128_S1x1x128_3_3_0)) (View.ld x5 (Rect.unit (s := S4x8x128) ![3, 5, 0] S1x1x128.size inb_S4x8x128_S1x1x128_3_5_0)) (View.ld x8 (Rect.unit (s := S4x1024x128) (k0_off4 k) S1x8x128.size (k0_off4_inb k)))

/-- All states after trip `k`, from those before it. -/
def stepAll (x5 : Vec F S4x8x128 .f32) (x7 x8 : Vec F S4x1024x128 .f32) (k : Fin k0_t1_loop.trips) (acc : Carry F) : Carry F :=
  (x0 x5 x7 k acc, z0 x5 x8 k acc, x1 x5 x7 k acc, z1 x5 x8 k acc, x2 x5 x7 k acc, z2 x5 x8 k acc, x3 x5 x7 k acc, z3 x5 x8 k acc)

/-- The four slabs trip `k` stores: the new first state of each group, group 3's last stored. -/
def slabs (x5 : Vec F S4x8x128 .f32) (x7 : Vec F S4x1024x128 .f32) (k : Fin k0_t1_loop.trips) (acc : Carry F) : List (View.Piece (Elt F) S4x1024x128 .f32) :=
  [⟨Rect.unit (s := S4x1024x128) (k0_off4 k) S1x8x128.size (k0_off4_inb k), shapeCast S1x8x128 (x3 x5 x7 k acc) shapeCasts_S8x128_S1x8x128⟩,
   ⟨Rect.unit (s := S4x1024x128) (k0_off3 k) S1x8x128.size (k0_off3_inb k), shapeCast S1x8x128 (x2 x5 x7 k acc) shapeCasts_S8x128_S1x8x128⟩,
   ⟨Rect.unit (s := S4x1024x128) (k0_off2 k) S1x8x128.size (k0_off2_inb k), shapeCast S1x8x128 (x1 x5 x7 k acc) shapeCasts_S8x128_S1x8x128⟩,
   ⟨Rect.unit (s := S4x1024x128) (k0_off1 k) S1x8x128.size (k0_off1_inb k), shapeCast S1x8x128 (x0 x5 x7 k acc) shapeCasts_S8x128_S1x8x128⟩]

/-- The states before trip `k`. -/
def states (x5 : Vec F S4x8x128 .f32) (x7 x8 : Vec F S4x1024x128 .f32) (init : Carry F) : ℕ → Carry F
  | 0 => init
  | k + 1 => if h : k < k0_t1_loop.trips then stepAll x5 x7 x8 ⟨k, h⟩ (states x5 x7 x8 init k) else states x5 x7 x8 init k

/-- What the buffer of states holds before trip `k`. -/
def held (arg9 : Memref sig .tc .vmem S4x1024x128 .f32) (x5 : Vec F S4x8x128 .f32) (x7 x8 : Vec F S4x1024x128 .f32) (init : Carry F)
    (G : BufTy.Contents (Elt F) arg9.view.ty) : ℕ → BufTy.Contents (Elt F) arg9.view.ty
  | 0 => G
  | k + 1 => if h : k < k0_t1_loop.trips then arg9.view.writes (Elt F) (held arg9 x5 x7 x8 init G k) (slabs x5 x7 ⟨k, h⟩ (states x5 x7 x8 init k))
      else held arg9 x5 x7 x8 init G k

theorem states_succ (x5 : Vec F S4x8x128 .f32) (x7 x8 : Vec F S4x1024x128 .f32) (init : Carry F) (k : Fin k0_t1_loop.trips) :
    states x5 x7 x8 init (k.val + 1) = stepAll x5 x7 x8 k (states x5 x7 x8 init k.val) := by
  rw [states.eq_2]; exact dif_pos k.isLt

theorem held_succ (arg9 : Memref sig .tc .vmem S4x1024x128 .f32) (x5 : Vec F S4x8x128 .f32) (x7 x8 : Vec F S4x1024x128 .f32) (init : Carry F)
    (G : BufTy.Contents (Elt F) arg9.view.ty) (k : Fin k0_t1_loop.trips) :
    held arg9 x5 x7 x8 init G (k.val + 1)
      = arg9.view.writes (Elt F) (held arg9 x5 x7 x8 init G k.val) (slabs x5 x7 k (states x5 x7 x8 init k.val)) := by
  rw [held.eq_2]; exact dif_pos k.isLt

set_option maxHeartbeats 4000000 in
/-- One trip: the tables and the driving terms are read, the new states are yielded and their first halves stored. -/
theorem trip (𝒱 : Variants) (c : Dev nD) (bd : Option 𝒱.V) (E : Set ℕ) (i : grid0.Coords) (arg1 : Memref sig .tc .vmem S4x1024x256 .bf16) (harg1 : arg1.IsWhole) (arg2 : Memref sig .tc .vmem S4x16x256 .f32) (harg2 : arg2.IsWhole) (arg3 : Memref sig .tc .vmem S4x256x256 .bf16) (harg3 : arg3.IsWhole) (arg4 : Memref sig .tc .vmem S4x128x256 .bf16) (harg4 : arg4.IsWhole) (arg5 : Memref sig .tc .vmem S4x8x128 .f32) (harg5 : arg5.IsWhole) (arg6 : Memref sig .tc .vmem S4x1024x256 .bf16) (harg6 : arg6.IsWhole) (arg7 : Memref sig .tc .vmem S4x1024x128 .f32) (harg7 : arg7.IsWhole) (arg8 : Memref sig .tc .vmem S4x1024x128 .f32) (harg8 : arg8.IsWhole) (arg9 : Memref sig .tc .vmem S4x1024x128 .f32) (harg9 : arg9.IsWhole) (v18 : IVec S1024x128 1) (v267 : FVec F S256x128 .f32)
    (X5 : BufTy.Contents (Elt F) arg5.view.ty) (X7 : BufTy.Contents (Elt F) arg7.view.ty) (X8 : BufTy.Contents (Elt F) arg8.view.ty) (k : Fin k0_t1_loop.trips)
    (acc : Carry F) (f9 : BufTy.Contents (Elt F) arg9.view.ty) :
    iprop((arg5.view.loc (c : Thread nD τ) ↦[arg5.view.set]{fullShare} X5) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9))
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 v18 v267 k acc)
        (fun yld => (iprop(⌜yld = stepAll (arg5.view.read (Elt F) X5) (arg7.view.read (Elt F) X7) (arg8.view.read (Elt F) X8) k acc⌝
          ∗ (arg5.view.loc (c : Thread nD τ) ↦[arg5.view.set]{fullShare} X5) ∗ (arg7.view.loc (c : Thread nD τ) ↦[arg7.view.set]{fullShare} X7) ∗ (arg8.view.loc (c : Thread nD τ) ↦[arg8.view.set]{fullShare} X8)
          ∗ (arg9.view.loc (c : Thread nD τ) ↦[arg9.view.set]{fullShare} arg9.view.writes (Elt F) f9 (slabs (arg5.view.read (Elt F) X5) (arg7.view.read (Elt F) X7) k acc))) : sProp 𝕄G)) := by
  have hk : k.val < 128 := Nat.lt_of_lt_of_le k.isLt k0_t1_abs.2.1
  unfold k0_t1_body
  iintro ⟨H5, H7, H8, H9⟩
  sl_exec
  sl_step
  isplitr; · ipureintro; rfl
  isplitl [H5]; · iexact H5
  isplitl [H7]; · iexact H7
  isplitl [H8]; · iexact H8
  iexact H9

/-- The invariant before trip `k`. -/
abbrev inv (c : Dev nD) (arg5 : Memref sig .tc .vmem S4x8x128 .f32) (arg7 arg8 arg9 : Memref sig .tc .vmem S4x1024x128 .f32)
    (X5 : BufTy.Contents (Elt F) arg5.view.ty) (X7 : BufTy.Contents (Elt F) arg7.view.ty) (X8 : BufTy.Contents (Elt F) arg8.view.ty)
    (G : BufTy.Contents (Elt F) arg9.view.ty) (init : Carry F) (k : ℕ) (acc : Carry F) : sProp 𝕄G :=
  iprop((arg5.view.loc (c : Thread nD τ) ↦[arg5.view.set]{fullShare} X5) ∗ (arg7.view.loc (c : Thread nD τ) ↦[arg7.view.set]{fullShare} X7) ∗ (arg8.view.loc (c : Thread nD τ) ↦[arg8.view.set]{fullShare} X8)
    ∗ (∃ f, (arg9.view.loc (c : Thread nD τ) ↦[arg9.view.set]{fullShare} f)
        ∗ ⌜f = held arg9 (arg5.view.read (Elt F) X5) (arg7.view.read (Elt F) X7) (arg8.view.read (Elt F) X8) init G k⌝)
    ∗ ⌜acc = states (arg5.view.read (Elt F) X5) (arg7.view.read (Elt F) X7) (arg8.view.read (Elt F) X8) init k⌝)

/-- The class of invariants of the scan's loop. -/
abbrev LoopTy (𝒱 : Variants) (c : Dev nD) (bd : Option 𝒱.V) (E : Set ℕ) (i : grid0.Coords) (arg1 : Memref sig .tc .vmem S4x1024x256 .bf16) (harg1 : arg1.IsWhole) (arg2 : Memref sig .tc .vmem S4x16x256 .f32) (harg2 : arg2.IsWhole) (arg3 : Memref sig .tc .vmem S4x256x256 .bf16) (harg3 : arg3.IsWhole) (arg4 : Memref sig .tc .vmem S4x128x256 .bf16) (harg4 : arg4.IsWhole) (arg5 : Memref sig .tc .vmem S4x8x128 .f32) (harg5 : arg5.IsWhole) (arg6 : Memref sig .tc .vmem S4x1024x256 .bf16) (harg6 : arg6.IsWhole) (arg7 : Memref sig .tc .vmem S4x1024x128 .f32) (harg7 : arg7.IsWhole) (arg8 : Memref sig .tc .vmem S4x1024x128 .f32) (harg8 : arg8.IsWhole) (arg9 : Memref sig .tc .vmem S4x1024x128 .f32) (harg9 : arg9.IsWhole) (v18 : IVec S1024x128 1) (v267 : FVec F S256x128 .f32) (init : Carry F) :=
  Idealize.ShloMosaic.LoopInv (M := MT nD τ sig Unit (Elt F) ℕ (UR sig nD τ) ℕ) Idealize.ShloMosaic.frame (wpE defs₀ 𝒱 (c : Thread nD τ) bd) E
    k0_t1_loop.lb k0_t1_loop.ub k0_t1_loop.st k0_t1_ok init (k0_t1_body (F := F) i arg1 harg1 arg2 harg2 arg3 harg3 arg4 harg4 arg5 harg5 arg6 harg6 arg7 harg7 arg8 harg8 arg9 harg9 v18 v267)

set_option warn.classDefReducibility false in
/-- The scan's loop by its invariant. -/
@[sl_loop] def loopInv (𝒱 : Variants) (c : Dev nD) (bd : Option 𝒱.V) (E : Set ℕ) (i : grid0.Coords) (arg1 : Memref sig .tc .vmem S4x1024x256 .bf16) (harg1 : arg1.IsWhole) (arg2 : Memref sig .tc .vmem S4x16x256 .f32) (harg2 : arg2.IsWhole) (arg3 : Memref sig .tc .vmem S4x256x256 .bf16) (harg3 : arg3.IsWhole) (arg4 : Memref sig .tc .vmem S4x128x256 .bf16) (harg4 : arg4.IsWhole) (arg5 : Memref sig .tc .vmem S4x8x128 .f32) (harg5 : arg5.IsWhole) (arg6 : Memref sig .tc .vmem S4x1024x256 .bf16) (harg6 : arg6.IsWhole) (arg7 : Memref sig .tc .vmem S4x1024x128 .f32) (harg7 : arg7.IsWhole) (arg8 : Memref sig .tc .vmem S4x1024x128 .f32) (harg8 : arg8.IsWhole) (arg9 : Memref sig .tc .vmem S4x1024x128 .f32) (harg9 : arg9.IsWhole) (v18 : IVec S1024x128 1) (v267 : FVec F S256x128 .f32)
    (X5 : BufTy.Contents (Elt F) arg5.view.ty) (X7 : BufTy.Contents (Elt F) arg7.view.ty) (X8 : BufTy.Contents (Elt F) arg8.view.ty)
    (G : BufTy.Contents (Elt F) arg9.view.ty) (init : Carry F) :
    LoopTy (F := F) 𝒱 c bd E i arg1 harg1 arg2 harg2 arg3 harg3 arg4 harg4 arg5 harg5 arg6 harg6 arg7 harg7 arg8 harg8 arg9 harg9 v18 v267 init where
  inv := inv (F := F) c arg5 arg7 arg8 arg9 X5 X7 X8 G init
  step k acc := by
    iintro ⟨H5, H7, H8, ⟨%f, H9, %hf⟩, %hacc⟩
    subst hacc
    iapply (wp_wand_r Idealize.ShloMosaic.frame (wpE (defs₀ (F := F)) 𝒱 (c : Thread nD τ) bd) E)
    isplitl [H5 H7 H8 H9]
    · iapply (trip (F := F) 𝒱 c bd E i arg1 harg1 arg2 harg2 arg3 harg3 arg4 harg4 arg5 harg5 arg6 harg6 arg7 harg7 arg8 harg8 arg9 harg9 v18 v267 X5 X7 X8 k
        (states (arg5.view.read (Elt F) X5) (arg7.view.read (Elt F) X7) (arg8.view.read (Elt F) X8) init k) f)
      isplitl [H5]; · iexact H5
      isplitl [H7]; · iexact H7
      isplitl [H8]; · iexact H8
      iexact H9
    · iintro %yld ⟨%hy, H5, H7, H8, H9⟩
      isplitl [H5]; · iexact H5
      isplitl [H7]; · iexact H7
      isplitl [H8]; · iexact H8
      isplitl [H9]
      · iexists _; isplitl [H9]; · iexact H9
        ipureintro; rw [hf, held_succ]
      ipureintro; rw [hy, states_succ]

end Cert.KernelIdeal.Ssm

end
-- ==== Proof.SsmScan.lean ====
module

public import proofs.«01_k».proof.Proof.Gen.KernelIdeal.Frame
public import proofs.«01_k».proof.Proof.Gen.KernelIdeal.Skeleton
public import proofs.«01_k».proof.Proof.SsmLoop
public import Idealize.ShloMosaic.Lib.PointwiseCore
public import Idealize.ShloMosaic.Lib.WritesUnit

@[expose] public section

set_option maxRecDepth 16384

noncomputable section

namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The second axis of the buffer of states, over one trip: at trip `k` the store of group `g` covers rows `8 k … 8 k + 7`. -/
theorem read_slab_of_mem {m9 : Memref sig .tc .vmem S4x1024x128 .f32} (f : BufTy.Contents (Elt F) m9.view.ty) (g : Fin 4) (k : ℕ)
    {off : Fin 3 → ℕ} (inb : ∀ a, off a + S1x8x128.size a ≤ S4x1024x128.size a) (hoff : off = ![g.val, 8 * k, 0])
    (w : FVec F S8x128 .f32) (L : List (View.Piece (Elt F) S4x1024x128 .f32)) (r : Fin 1024) (l : Fin 128)
    (h1 : 8 * k ≤ r.val) (h2 : r.val < 8 * k + 8) :
    m9.view.read (Elt F) (m9.view.writes (Elt F) f (⟨Rect.unit (s := S4x1024x128) off S1x8x128.size inb, shapeCast S1x8x128 w shapeCasts_S8x128_S1x8x128⟩ :: L)) (ix3 g r l)
      = w (ix2 ⟨r.val % 8, by omega⟩ l) := by
  have hlt : r.val - 8 * k < 8 := by omega
  rw [View.read_writes_cons_unit_of_mem m9.view f inb _ L (ix3 g r l) (ix3 (0 : Fin 1) (⟨r.val - 8 * k, hlt⟩ : Fin 8) l) hoff
    (by intro a; fin_cases a <;> simp [ix3] <;> omega)]
  pointwise
  congr 1
  have : r.val - 8 * k = r.val % 8 := by omega
  simp only [this]

theorem read_slab_of_group {m9 : Memref sig .tc .vmem S4x1024x128 .f32} (f : BufTy.Contents (Elt F) m9.view.ty) (g g' : Fin 4) (k : ℕ)
    {off : Fin 3 → ℕ} (inb : ∀ a, off a + S1x8x128.size a ≤ S4x1024x128.size a) (hoff : off = ![g'.val, 8 * k, 0])
    (w : S1x8x128.Idx → Elt F .f32) (L : List (View.Piece (Elt F) S4x1024x128 .f32)) (r : Fin 1024) (l : Fin 128) (h : g ≠ g') :
    m9.view.read (Elt F) (m9.view.writes (Elt F) f (⟨Rect.unit (s := S4x1024x128) off S1x8x128.size inb, w⟩ :: L)) (ix3 g r l)
      = m9.view.read (Elt F) (m9.view.writes (Elt F) f L) (ix3 g r l) := by
  rw [View.read_writes_cons_unit_of_not_mem m9.view f inb w L (ix3 g r l) hoff (0 : Fin 3)]
  have : g.val ≠ g'.val := fun e => h (Fin.ext e)
  show g.val < g'.val ∨ g'.val + 1 ≤ g.val
  omega

theorem read_slab_of_row {m9 : Memref sig .tc .vmem S4x1024x128 .f32} (f : BufTy.Contents (Elt F) m9.view.ty) (g g' : Fin 4) (k : ℕ)
    {off : Fin 3 → ℕ} (inb : ∀ a, off a + S1x8x128.size a ≤ S4x1024x128.size a) (hoff : off = ![g'.val, 8 * k, 0])
    (w : S1x8x128.Idx → Elt F .f32) (L : List (View.Piece (Elt F) S4x1024x128 .f32)) (r : Fin 1024) (l : Fin 128) (h : r.val < 8 * k) :
    m9.view.read (Elt F) (m9.view.writes (Elt F) f (⟨Rect.unit (s := S4x1024x128) off S1x8x128.size inb, w⟩ :: L)) (ix3 g r l)
      = m9.view.read (Elt F) (m9.view.writes (Elt F) f L) (ix3 g r l) := by
  rw [View.read_writes_cons_unit_of_not_mem m9.view f inb w L (ix3 g r l) hoff (1 : Fin 3)]
  exact Or.inl h

/-- The first state of one group. -/
def pick (g : Fin 4) (a : Carry F) : FVec F S8x128 .f32 :=
  match g with
  | 0 => a.1
  | 1 => a.2.2.1
  | 2 => a.2.2.2.2.1
  | 3 => a.2.2.2.2.2.2.1

/-- The states all start at zero. -/
abbrev zeros : Carry F := (k0_pay95, k0_pay95, k0_pay95, k0_pay95, k0_pay95, k0_pay95, k0_pay95, k0_pay95)

/-- What the loop leaves in the buffer of states: row `8 k + i` of group `g` is row `i` of the group's first state after trip `k`. -/
def scan (x5 : Vec F S4x8x128 .f32) (x7 x8 : Vec F S4x1024x128 .f32) : Vec F S4x1024x128 .f32 := fun j =>
  pick (j 0) (states x5 x7 x8 zeros ((j 1).val / 8 + 1)) (ix2 (⟨(j 1).val % 8, Nat.mod_lt _ (by decide)⟩ : Fin 8) (j 2))

theorem trips_eq : k0_t1_loop.trips = 128 := by decide

theorem read_held_lt (m9 : Memref sig .tc .vmem S4x1024x128 .f32) (x5 : Vec F S4x8x128 .f32) (x7 x8 : Vec F S4x1024x128 .f32)
    (G : BufTy.Contents (Elt F) m9.view.ty) (g : Fin 4) (r : Fin 1024) (l : Fin 128) (n : ℕ) (hn : n ≤ 128) (hr : r.val < 8 * n) :
    m9.view.read (Elt F) (held m9 x5 x7 x8 zeros G n) (ix3 g r l) = scan x5 x7 x8 (ix3 g r l) := by
  induction n with
  | zero => omega
  | succ n ih =>
    have hlt : n < k0_t1_loop.trips := by rw [trips_eq]; omega
    rw [held_succ m9 x5 x7 x8 zeros G ⟨n, hlt⟩]
    by_cases h : r.val < 8 * n
    · rw [← ih (by omega) h]
      unfold slabs
      rw [read_slab_of_row _ g 3 n _ (k0_off4_eq _) _ _ r l h, read_slab_of_row _ g 2 n _ (k0_off3_eq _) _ _ r l h,
        read_slab_of_row _ g 1 n _ (k0_off2_eq _) _ _ r l h, read_slab_of_row _ g 0 n _ (k0_off1_eq _) _ _ r l h]
      rfl
    · have hd : r.val / 8 = n := by omega
      have hs : scan x5 x7 x8 (ix3 g r l) = pick g (stepAll x5 x7 x8 ⟨n, hlt⟩ (states x5 x7 x8 zeros n)) (ix2 ⟨r.val % 8, by omega⟩ l) := by
        show pick g (states x5 x7 x8 zeros (r.val / 8 + 1)) _ = _
        rw [hd, states_succ x5 x7 x8 zeros ⟨n, hlt⟩]; rfl
      rw [hs]
      unfold slabs
      match g with
      | 3 => rw [read_slab_of_mem _ 3 n _ (k0_off4_eq _) _ _ r l (by omega) (by omega)]; rfl
      | 2 =>
        rw [read_slab_of_group _ 2 3 n _ (k0_off4_eq _) _ _ r l (by decide),
          read_slab_of_mem _ 2 n _ (k0_off3_eq _) _ _ r l (by omega) (by omega)]; rfl
      | 1 =>
        rw [read_slab_of_group _ 1 3 n _ (k0_off4_eq _) _ _ r l (by decide), read_slab_of_group _ 1 2 n _ (k0_off3_eq _) _ _ r l (by decide),
          read_slab_of_mem _ 1 n _ (k0_off2_eq _) _ _ r l (by omega) (by omega)]; rfl
      | 0 =>
        rw [read_slab_of_group _ 0 3 n _ (k0_off4_eq _) _ _ r l (by decide), read_slab_of_group _ 0 2 n _ (k0_off3_eq _) _ _ r l (by decide),
          read_slab_of_group _ 0 1 n _ (k0_off2_eq _) _ _ r l (by decide),
          read_slab_of_mem _ 0 n _ (k0_off1_eq _) _ _ r l (by omega) (by omega)]; rfl

/-- After the loop the buffer of states holds the scan, whatever it held before. -/
theorem read_held (m9 : Memref sig .tc .vmem S4x1024x128 .f32) (x5 : Vec F S4x8x128 .f32) (x7 x8 : Vec F S4x1024x128 .f32)
    (G : BufTy.Contents (Elt F) m9.view.ty) :
    m9.view.read (Elt F) (held m9 x5 x7 x8 zeros G (Scf.trips k0_t1_loop.lb k0_t1_loop.ub k0_t1_loop.st)) = scan x5 x7 x8 := by
  have e : Scf.trips k0_t1_loop.lb k0_t1_loop.ub k0_t1_loop.st = 128 := trips_eq
  rw [e]
  funext j
  obtain ⟨g, r, l, rfl⟩ : ∃ (g : Fin 4) (r : Fin 1024) (l : Fin 128), j = ix3 g r l := ⟨j 0, j 1, j 2, eq_ix3 j⟩
  exact read_held_lt m9 x5 x7 x8 G g r l 128 le_rfl (by omega)

end Cert.KernelIdeal.Ssm

end
-- ==== Proof.SsmBody.lean ====
module

public import proofs.«01_k».proof.Proof.Gen.KernelIdeal.Frame
public import proofs.«01_k».proof.Proof.Gen.KernelIdeal.Skeleton
public import proofs.«01_k».proof.Proof.SsmScan
public import Idealize.ShloMosaic.Lib.PointwiseCore
public import Idealize.ShloMosaic.Lib.WritesUnit

@[expose] public section

set_option maxRecDepth 16384

noncomputable section

namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The first driving term of one group: its chunk's input part, and the previous chunk's carried over one chunk. -/
def gxv (u : Vec F S1x1024x256 .bf16) (w : Vec F S1x256x256 .bf16) (p1 p2 : Vec F S1x1x128 .f32) : FVec F S1024x128 .f32 :=
  k0_pay28 (k0_pay23 u w) (k0_pay25 u w) (k0_pay26 u w) (k0_pay27 p1) p2

/-- The second driving term of one group. -/
def gzv (u : Vec F S1x1024x256 .bf16) (w : Vec F S1x256x256 .bf16) (p1 p3 : Vec F S1x1x128 .f32) : FVec F S1024x128 .f32 :=
  k0_pay29 (k0_pay24 u w) (k0_pay25 u w) (k0_pay26 u w) (k0_pay27 p1) p3

/-- The rows of batch element 0. -/
def part0 (a : FVec F S1024x128 .f32) : FVec F S1x256x128 .f32 :=
  shapeCast S1x256x128 (extractStridedSlice S256x128 ![0, 0] a slices_S1024x128_o0_0_S256x128) shapeCasts_S256x128_S1x256x128

/-- The rows of batch element 1. -/
def part1 (a : FVec F S1024x128 .f32) : FVec F S1x256x128 .f32 :=
  shapeCast S1x256x128 (extractStridedSlice S256x128 ![256, 0] a slices_S1024x128_o256_0_S256x128) shapeCasts_S256x128_S1x256x128

/-- The rows of batch element 2. -/
def part2 (a : FVec F S1024x128 .f32) : FVec F S1x256x128 .f32 :=
  shapeCast S1x256x128 (extractStridedSlice S256x128 ![512, 0] a slices_S1024x128_o512_0_S256x128) shapeCasts_S256x128_S1x256x128

/-- The rows of batch element 3. -/
def part3 (a : FVec F S1024x128 .f32) : FVec F S1x256x128 .f32 :=
  shapeCast S1x256x128 (extractStridedSlice S256x128 ![768, 0] a slices_S1024x128_o768_0_S256x128) shapeCasts_S256x128_S1x256x128

/-- The sixteen stores that interleave four groups' rows: batch element `b` of group `g` goes to rows `b, b + 4, …`. -/
def lanes (a0 a1 a2 a3 : FVec F S1024x128 .f32) : List (View.Piece (Elt F) S4x1024x128 .f32) :=
  [⟨({ off := ![3, 3, 0], size := S1x256x128.size, stride := ![1, 4, 1], inb := inb_S4x1024x128_S1x256x128_3_3_0_s_1_4_1, stride_pos := spos_1_4_1 } : Rect S4x1024x128), part3 a3⟩,
   ⟨({ off := ![3, 2, 0], size := S1x256x128.size, stride := ![1, 4, 1], inb := inb_S4x1024x128_S1x256x128_3_2_0_s_1_4_1, stride_pos := spos_1_4_1 } : Rect S4x1024x128), part2 a3⟩,
   ⟨({ off := ![3, 1, 0], size := S1x256x128.size, stride := ![1, 4, 1], inb := inb_S4x1024x128_S1x256x128_3_1_0_s_1_4_1, stride_pos := spos_1_4_1 } : Rect S4x1024x128), part1 a3⟩,
   ⟨({ off := ![3, 0, 0], size := S1x256x128.size, stride := ![1, 4, 1], inb := inb_S4x1024x128_S1x256x128_3_0_0_s_1_4_1, stride_pos := spos_1_4_1 } : Rect S4x1024x128), part0 a3⟩,
   ⟨({ off := ![2, 3, 0], size := S1x256x128.size, stride := ![1, 4, 1], inb := inb_S4x1024x128_S1x256x128_2_3_0_s_1_4_1, stride_pos := spos_1_4_1 } : Rect S4x1024x128), part3 a2⟩,
   ⟨({ off := ![2, 2, 0], size := S1x256x128.size, stride := ![1, 4, 1], inb := inb_S4x1024x128_S1x256x128_2_2_0_s_1_4_1, stride_pos := spos_1_4_1 } : Rect S4x1024x128), part2 a2⟩,
   ⟨({ off := ![2, 1, 0], size := S1x256x128.size, stride := ![1, 4, 1], inb := inb_S4x1024x128_S1x256x128_2_1_0_s_1_4_1, stride_pos := spos_1_4_1 } : Rect S4x1024x128), part1 a2⟩,
   ⟨({ off := ![2, 0, 0], size := S1x256x128.size, stride := ![1, 4, 1], inb := inb_S4x1024x128_S1x256x128_2_0_0_s_1_4_1, stride_pos := spos_1_4_1 } : Rect S4x1024x128), part0 a2⟩,
   ⟨({ off := ![1, 3, 0], size := S1x256x128.size, stride := ![1, 4, 1], inb := inb_S4x1024x128_S1x256x128_1_3_0_s_1_4_1, stride_pos := spos_1_4_1 } : Rect S4x1024x128), part3 a1⟩,
   ⟨({ off := ![1, 2, 0], size := S1x256x128.size, stride := ![1, 4, 1], inb := inb_S4x1024x128_S1x256x128_1_2_0_s_1_4_1, stride_pos := spos_1_4_1 } : Rect S4x1024x128), part2 a1⟩,
   ⟨({ off := ![1, 1, 0], size := S1x256x128.size, stride := ![1, 4, 1], inb := inb_S4x1024x128_S1x256x128_1_1_0_s_1_4_1, stride_pos := spos_1_4_1 } : Rect S4x1024x128), part1 a1⟩,
   ⟨({ off := ![1, 0, 0], size := S1x256x128.size, stride := ![1, 4, 1], inb := inb_S4x1024x128_S1x256x128_1_0_0_s_1_4_1, stride_pos := spos_1_4_1 } : Rect S4x1024x128), part0 a1⟩,
   ⟨({ off := ![0, 3, 0], size := S1x256x128.size, stride := ![1, 4, 1], inb := inb_S4x1024x128_S1x256x128_0_3_0_s_1_4_1, stride_pos := spos_1_4_1 } : Rect S4x1024x128), part3 a0⟩,
   ⟨({ off := ![0, 2, 0], size := S1x256x128.size, stride := ![1, 4, 1], inb := inb_S4x1024x128_S1x256x128_0_2_0_s_1_4_1, stride_pos := spos_1_4_1 } : Rect S4x1024x128), part2 a0⟩,
   ⟨({ off := ![0, 1, 0], size := S1x256x128.size, stride := ![1, 4, 1], inb := inb_S4x1024x128_S1x256x128_0_1_0_s_1_4_1, stride_pos := spos_1_4_1 } : Rect S4x1024x128), part1 a0⟩,
   ⟨({ off := ![0, 0, 0], size := S1x256x128.size, stride := ![1, 4, 1], inb := inb_S4x1024x128_S1x256x128_0_0_0_s_1_4_1, stride_pos := spos_1_4_1 } : Rect S4x1024x128), part0 a0⟩]

/-- The driving terms of a block of four groups, first and second. -/
def pieceX (x0 : Vec F S4x1024x256 .bf16) (x2 : Vec F S4x256x256 .bf16) (x4 : Vec F S4x8x128 .f32) : List (View.Piece (Elt F) S4x1024x128 .f32) := lanes
  (gxv (View.ld x0 (Rect.unit (s := S4x1024x256) ![0, 0, 0] S1x1024x256.size inb_S4x1024x256_S1x1024x256_0_0_0)) (View.ld x2 (Rect.unit (s := S4x256x256) ![0, 0, 0] S1x256x256.size inb_S4x256x256_S1x256x256_0_0_0)) (View.ld x4 (Rect.unit (s := S4x8x128) ![0, 0, 0] S1x1x128.size inb_S4x8x128_S1x1x128_0_0_0)) (View.ld x4 (Rect.unit (s := S4x8x128) ![0, 1, 0] S1x1x128.size inb_S4x8x128_S1x1x128_0_1_0)))
  (gxv (View.ld x0 (Rect.unit (s := S4x1024x256) ![1, 0, 0] S1x1024x256.size inb_S4x1024x256_S1x1024x256_1_0_0)) (View.ld x2 (Rect.unit (s := S4x256x256) ![1, 0, 0] S1x256x256.size inb_S4x256x256_S1x256x256_1_0_0)) (View.ld x4 (Rect.unit (s := S4x8x128) ![1, 0, 0] S1x1x128.size inb_S4x8x128_S1x1x128_1_0_0)) (View.ld x4 (Rect.unit (s := S4x8x128) ![1, 1, 0] S1x1x128.size inb_S4x8x128_S1x1x128_1_1_0)))
  (gxv (View.ld x0 (Rect.unit (s := S4x1024x256) ![2, 0, 0] S1x1024x256.size inb_S4x1024x256_S1x1024x256_2_0_0)) (View.ld x2 (Rect.unit (s := S4x256x256) ![2, 0, 0] S1x256x256.size inb_S4x256x256_S1x256x256_2_0_0)) (View.ld x4 (Rect.unit (s := S4x8x128) ![2, 0, 0] S1x1x128.size inb_S4x8x128_S1x1x128_2_0_0)) (View.ld x4 (Rect.unit (s := S4x8x128) ![2, 1, 0] S1x1x128.size inb_S4x8x128_S1x1x128_2_1_0)))
  (gxv (View.ld x0 (Rect.unit (s := S4x1024x256) ![3, 0, 0] S1x1024x256.size inb_S4x1024x256_S1x1024x256_3_0_0)) (View.ld x2 (Rect.unit (s := S4x256x256) ![3, 0, 0] S1x256x256.size inb_S4x256x256_S1x256x256_3_0_0)) (View.ld x4 (Rect.unit (s := S4x8x128) ![3, 0, 0] S1x1x128.size inb_S4x8x128_S1x1x128_3_0_0)) (View.ld x4 (Rect.unit (s := S4x8x128) ![3, 1, 0] S1x1x128.size inb_S4x8x128_S1x1x128_3_1_0)))

@[inherit_doc pieceX] def pieceZ (x0 : Vec F S4x1024x256 .bf16) (x2 : Vec F S4x256x256 .bf16) (x4 : Vec F S4x8x128 .f32) : List (View.Piece (Elt F) S4x1024x128 .f32) := lanes
  (gzv (View.ld x0 (Rect.unit (s := S4x1024x256) ![0, 0, 0] S1x1024x256.size inb_S4x1024x256_S1x1024x256_0_0_0)) (View.ld x2 (Rect.unit (s := S4x256x256) ![0, 0, 0] S1x256x256.size inb_S4x256x256_S1x256x256_0_0_0)) (View.ld x4 (Rect.unit (s := S4x8x128) ![0, 0, 0] S1x1x128.size inb_S4x8x128_S1x1x128_0_0_0)) (View.ld x4 (Rect.unit (s := S4x8x128) ![0, 2, 0] S1x1x128.size inb_S4x8x128_S1x1x128_0_2_0)))
  (gzv (View.ld x0 (Rect.unit (s := S4x1024x256) ![1, 0, 0] S1x1024x256.size inb_S4x1024x256_S1x1024x256_1_0_0)) (View.ld x2 (Rect.unit (s := S4x256x256) ![1, 0, 0] S1x256x256.size inb_S4x256x256_S1x256x256_1_0_0)) (View.ld x4 (Rect.unit (s := S4x8x128) ![1, 0, 0] S1x1x128.size inb_S4x8x128_S1x1x128_1_0_0)) (View.ld x4 (Rect.unit (s := S4x8x128) ![1, 2, 0] S1x1x128.size inb_S4x8x128_S1x1x128_1_2_0)))
  (gzv (View.ld x0 (Rect.unit (s := S4x1024x256) ![2, 0, 0] S1x1024x256.size inb_S4x1024x256_S1x1024x256_2_0_0)) (View.ld x2 (Rect.unit (s := S4x256x256) ![2, 0, 0] S1x256x256.size inb_S4x256x256_S1x256x256_2_0_0)) (View.ld x4 (Rect.unit (s := S4x8x128) ![2, 0, 0] S1x1x128.size inb_S4x8x128_S1x1x128_2_0_0)) (View.ld x4 (Rect.unit (s := S4x8x128) ![2, 2, 0] S1x1x128.size inb_S4x8x128_S1x1x128_2_2_0)))
  (gzv (View.ld x0 (Rect.unit (s := S4x1024x256) ![3, 0, 0] S1x1024x256.size inb_S4x1024x256_S1x1024x256_3_0_0)) (View.ld x2 (Rect.unit (s := S4x256x256) ![3, 0, 0] S1x256x256.size inb_S4x256x256_S1x256x256_3_0_0)) (View.ld x4 (Rect.unit (s := S4x8x128) ![3, 0, 0] S1x1x128.size inb_S4x8x128_S1x1x128_3_0_0)) (View.ld x4 (Rect.unit (s := S4x8x128) ![3, 2, 0] S1x1x128.size inb_S4x8x128_S1x1x128_3_2_0)))

/-- The driving terms, interleaved. -/
def driveX (x0 : Vec F S4x1024x256 .bf16) (x2 : Vec F S4x256x256 .bf16) (x4 : Vec F S4x8x128 .f32) : Vec F S4x1024x128 .f32 := View.canon (pieceX x0 x2 x4)
@[inherit_doc driveX] def driveZ (x0 : Vec F S4x1024x256 .bf16) (x2 : Vec F S4x256x256 .bf16) (x4 : Vec F S4x8x128 .f32) : Vec F S4x1024x128 .f32 := View.canon (pieceZ x0 x2 x4)

/-- The lane number of a lag table. -/
abbrev lane : IVec S16x256 32 := iota .tc S16x256 32 [1] iota_S16x256_d1_w32

/-- The input times the lower-triangular table laid out from the lag table. -/
def lag (u : Vec F S1x1024x256 .bf16) (m : Vec F S1x16x256 .f32) : FVec F S1024x256 .f32 :=
  k0_pay111 (k0_pay97 u) (k0_pay98 m) lane (k0_pay102 k0_pay99 (k0_pay100 m) k0_pay101) (k0_pay103 (k0_pay98 m) lane) (k0_pay104 (k0_pay98 m) lane)
    (k0_pay105 (k0_pay98 m) lane) (k0_pay106 (k0_pay98 m) lane) (k0_pay107 (k0_pay98 m) lane) (k0_pay108 (k0_pay98 m) lane) (k0_pay109 (k0_pay98 m) lane) (k0_pay110 lane)

/-- The state each chunk of group 0 starts from. -/
def hin0 (h : Vec F S4x1024x128 .f32) : FVec F S1024x128 .bf16 :=
  k0_pay96 k0_pay21 (View.ld h ({ off := ![0, 0, 0], size := S1x256x128.size, stride := ![1, 4, 1], inb := inb_S4x1024x128_S1x256x128_0_0_0_s_1_4_1, stride_pos := spos_1_4_1 } : Rect S4x1024x128)) (View.ld h ({ off := ![0, 1, 0], size := S1x256x128.size, stride := ![1, 4, 1], inb := inb_S4x1024x128_S1x256x128_0_1_0_s_1_4_1, stride_pos := spos_1_4_1 } : Rect S4x1024x128)) (View.ld h ({ off := ![0, 2, 0], size := S1x256x128.size, stride := ![1, 4, 1], inb := inb_S4x1024x128_S1x256x128_0_2_0_s_1_4_1, stride_pos := spos_1_4_1 } : Rect S4x1024x128)) (View.ld h ({ off := ![0, 3, 0], size := S1x256x128.size, stride := ![1, 4, 1], inb := inb_S4x1024x128_S1x256x128_0_3_0_s_1_4_1, stride_pos := spos_1_4_1 } : Rect S4x1024x128))

/-- The state each chunk of group 1 starts from. -/
def hin1 (h : Vec F S4x1024x128 .f32) : FVec F S1024x128 .bf16 :=
  k0_pay96 k0_pay21 (View.ld h ({ off := ![1, 0, 0], size := S1x256x128.size, stride := ![1, 4, 1], inb := inb_S4x1024x128_S1x256x128_1_0_0_s_1_4_1, stride_pos := spos_1_4_1 } : Rect S4x1024x128)) (View.ld h ({ off := ![1, 1, 0], size := S1x256x128.size, stride := ![1, 4, 1], inb := inb_S4x1024x128_S1x256x128_1_1_0_s_1_4_1, stride_pos := spos_1_4_1 } : Rect S4x1024x128)) (View.ld h ({ off := ![1, 2, 0], size := S1x256x128.size, stride := ![1, 4, 1], inb := inb_S4x1024x128_S1x256x128_1_2_0_s_1_4_1, stride_pos := spos_1_4_1 } : Rect S4x1024x128)) (View.ld h ({ off := ![1, 3, 0], size := S1x256x128.size, stride := ![1, 4, 1], inb := inb_S4x1024x128_S1x256x128_1_3_0_s_1_4_1, stride_pos := spos_1_4_1 } : Rect S4x1024x128))

/-- The state each chunk of group 2 starts from. -/
def hin2 (h : Vec F S4x1024x128 .f32) : FVec F S1024x128 .bf16 :=
  k0_pay96 k0_pay21 (View.ld h ({ off := ![2, 0, 0], size := S1x256x128.size, stride := ![1, 4, 1], inb := inb_S4x1024x128_S1x256x128_2_0_0_s_1_4_1, stride_pos := spos_1_4_1 } : Rect S4x1024x128)) (View.ld h ({ off := ![2, 1, 0], size := S1x256x128.size, stride := ![1, 4, 1], inb := inb_S4x1024x128_S1x256x128_2_1_0_s_1_4_1, stride_pos := spos_1_4_1 } : Rect S4x1024x128)) (View.ld h ({ off := ![2, 2, 0], size := S1x256x128.size, stride := ![1, 4, 1], inb := inb_S4x1024x128_S1x256x128_2_2_0_s_1_4_1, stride_pos := spos_1_4_1 } : Rect S4x1024x128)) (View.ld h ({ off := ![2, 3, 0], size := S1x256x128.size, stride := ![1, 4, 1], inb := inb_S4x1024x128_S1x256x128_2_3_0_s_1_4_1, stride_pos := spos_1_4_1 } : Rect S4x1024x128))

/-- The state each chunk of group 3 starts from. -/
def hin3 (h : Vec F S4x1024x128 .f32) : FVec F S1024x128 .bf16 :=
  k0_pay96 k0_pay21 (View.ld h ({ off := ![3, 0, 0], size := S1x256x128.size, stride := ![1, 4, 1], inb := inb_S4x1024x128_S1x256x128_3_0_0_s_1_4_1, stride_pos := spos_1_4_1 } : Rect S4x1024x128)) (View.ld h ({ off := ![3, 1, 0], size := S1x256x128.size, stride := ![1, 4, 1], inb := inb_S4x1024x128_S1x256x128_3_1_0_s_1_4_1, stride_pos := spos_1_4_1 } : Rect S4x1024x128)) (View.ld h ({ off := ![3, 2, 0], size := S1x256x128.size, stride := ![1, 4, 1], inb := inb_S4x1024x128_S1x256x128_3_2_0_s_1_4_1, stride_pos := spos_1_4_1 } : Rect S4x1024x128)) (View.ld h ({ off := ![3, 3, 0], size := S1x256x128.size, stride := ![1, 4, 1], inb := inb_S4x1024x128_S1x256x128_3_3_0_s_1_4_1, stride_pos := spos_1_4_1 } : Rect S4x1024x128))

/-- What the body stores, given the states: four blocks, one a group. -/
def outs (x0 : Vec F S4x1024x256 .bf16) (x1 : Vec F S4x16x256 .f32) (x3 : Vec F S4x128x256 .bf16) (h : Vec F S4x1024x128 .f32) :
    List (View.Piece (Elt F) S4x1024x256 .bf16) :=
  [⟨Rect.unit (s := S4x1024x256) ![3, 0, 0] S1x1024x256.size inb_S4x1024x256_S1x1024x256_3_0_0, k0_pay112 (hin3 h) (lag (View.ld x0 (Rect.unit (s := S4x1024x256) ![3, 0, 0] S1x1024x256.size inb_S4x1024x256_S1x1024x256_3_0_0)) (View.ld x1 (Rect.unit (s := S4x16x256) ![3, 0, 0] S1x16x256.size inb_S4x16x256_S1x16x256_3_0_0))) (View.ld x3 (Rect.unit (s := S4x128x256) ![3, 0, 0] S1x128x256.size inb_S4x128x256_S1x128x256_3_0_0))⟩,
   ⟨Rect.unit (s := S4x1024x256) ![2, 0, 0] S1x1024x256.size inb_S4x1024x256_S1x1024x256_2_0_0, k0_pay112 (hin2 h) (lag (View.ld x0 (Rect.unit (s := S4x1024x256) ![2, 0, 0] S1x1024x256.size inb_S4x1024x256_S1x1024x256_2_0_0)) (View.ld x1 (Rect.unit (s := S4x16x256) ![2, 0, 0] S1x16x256.size inb_S4x16x256_S1x16x256_2_0_0))) (View.ld x3 (Rect.unit (s := S4x128x256) ![2, 0, 0] S1x128x256.size inb_S4x128x256_S1x128x256_2_0_0))⟩,
   ⟨Rect.unit (s := S4x1024x256) ![1, 0, 0] S1x1024x256.size inb_S4x1024x256_S1x1024x256_1_0_0, k0_pay112 (hin1 h) (lag (View.ld x0 (Rect.unit (s := S4x1024x256) ![1, 0, 0] S1x1024x256.size inb_S4x1024x256_S1x1024x256_1_0_0)) (View.ld x1 (Rect.unit (s := S4x16x256) ![1, 0, 0] S1x16x256.size inb_S4x16x256_S1x16x256_1_0_0))) (View.ld x3 (Rect.unit (s := S4x128x256) ![1, 0, 0] S1x128x256.size inb_S4x128x256_S1x128x256_1_0_0))⟩,
   ⟨Rect.unit (s := S4x1024x256) ![0, 0, 0] S1x1024x256.size inb_S4x1024x256_S1x1024x256_0_0_0, k0_pay112 (hin0 h) (lag (View.ld x0 (Rect.unit (s := S4x1024x256) ![0, 0, 0] S1x1024x256.size inb_S4x1024x256_S1x1024x256_0_0_0)) (View.ld x1 (Rect.unit (s := S4x16x256) ![0, 0, 0] S1x16x256.size inb_S4x16x256_S1x16x256_0_0_0))) (View.ld x3 (Rect.unit (s := S4x128x256) ![0, 0, 0] S1x128x256.size inb_S4x128x256_S1x128x256_0_0_0))⟩]

/-- What the body leaves in its result's block, from its argument blocks. -/
def result (x0 : Vec F S4x1024x256 .bf16) (x1 : Vec F S4x16x256 .f32) (x2 : Vec F S4x256x256 .bf16) (x3 : Vec F S4x128x256 .bf16) (x4 : Vec F S4x8x128 .f32) :
    Vec F S4x1024x256 .bf16 :=
  View.canon (outs x0 x1 x3 (scan x4 (driveX x0 x2 x4) (driveZ x0 x2 x4)))

/-- Two lists of four stores agree when their blocks do. -/
theorem canon_four {a0 a1 a2 a3 b0 b1 b2 b3 : FVec F S1x1024x256 .bf16} (h3 : a3 = b3) (h2 : a2 = b2) (h1 : a1 = b1) (h0 : a0 = b0) :
    View.canon ([⟨Rect.unit (s := S4x1024x256) ![3, 0, 0] S1x1024x256.size inb_S4x1024x256_S1x1024x256_3_0_0, a3⟩, ⟨Rect.unit (s := S4x1024x256) ![2, 0, 0] S1x1024x256.size inb_S4x1024x256_S1x1024x256_2_0_0, a2⟩, ⟨Rect.unit (s := S4x1024x256) ![1, 0, 0] S1x1024x256.size inb_S4x1024x256_S1x1024x256_1_0_0, a1⟩, ⟨Rect.unit (s := S4x1024x256) ![0, 0, 0] S1x1024x256.size inb_S4x1024x256_S1x1024x256_0_0_0, a0⟩] : List (View.Piece (Elt F) S4x1024x256 .bf16))
      = View.canon ([⟨Rect.unit (s := S4x1024x256) ![3, 0, 0] S1x1024x256.size inb_S4x1024x256_S1x1024x256_3_0_0, b3⟩, ⟨Rect.unit (s := S4x1024x256) ![2, 0, 0] S1x1024x256.size inb_S4x1024x256_S1x1024x256_2_0_0, b2⟩, ⟨Rect.unit (s := S4x1024x256) ![1, 0, 0] S1x1024x256.size inb_S4x1024x256_S1x1024x256_1_0_0, b1⟩, ⟨Rect.unit (s := S4x1024x256) ![0, 0, 0] S1x1024x256.size inb_S4x1024x256_S1x1024x256_0_0_0, b0⟩] : List (View.Piece (Elt F) S4x1024x256 .bf16)) := by
  subst h0 h1 h2 h3; rfl

theorem outs_cover (x0 : Vec F S4x1024x256 .bf16) (x1 : Vec F S4x16x256 .f32) (x3 : Vec F S4x128x256 .bf16) (h : Vec F S4x1024x128 .f32) :
    ∀ y, ∃ p ∈ outs x0 x1 x3 h, y ∈ p.1.set :=
  View.cover_of_tiledL _ S1x1024x256.size rfl

end Cert.KernelIdeal.Ssm

end
-- ==== Proof.SsmRun.lean ====
module

public import proofs.«01_k».proof.Proof.Gen.KernelIdeal.Frame
public import proofs.«01_k».proof.Proof.Gen.KernelIdeal.Skeleton
public import proofs.«01_k».proof.Proof.SsmBody

@[expose] public section

set_option maxRecDepth 16384

noncomputable section

namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in set_option sl_exec.stridedRows true in
/-- The body's triple. -/
theorem kernelRun (c : Dev nD) (i : grid0.Coords) (arg1 : Memref sig .tc .vmem S4x1024x256 .bf16) (harg1 : arg1.IsWhole) (arg2 : Memref sig .tc .vmem S4x16x256 .f32) (harg2 : arg2.IsWhole) (arg3 : Memref sig .tc .vmem S4x256x256 .bf16) (harg3 : arg3.IsWhole) (arg4 : Memref sig .tc .vmem S4x128x256 .bf16) (harg4 : arg4.IsWhole) (arg5 : Memref sig .tc .vmem S4x8x128 .f32) (harg5 : arg5.IsWhole) (arg6 : Memref sig .tc .vmem S4x1024x256 .bf16) (harg6 : arg6.IsWhole) (arg7 : Memref sig .tc .vmem S4x1024x128 .f32) (harg7 : arg7.IsWhole) (arg8 : Memref sig .tc .vmem S4x1024x128 .f32) (harg8 : arg8.IsWhole) (arg9 : Memref sig .tc .vmem S4x1024x128 .f32) (harg9 : arg9.IsWhole)
    (x0 : Vec F S4x1024x256 .bf16) (x1 : Vec F S4x16x256 .f32) (x2 : Vec F S4x256x256 .bf16) (x3 : Vec F S4x128x256 .bf16) (x4 : Vec F S4x8x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (result x0 x1 x2 x3 x4) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_ssm i arg1 harg1 arg2 harg2 arg3 harg3 arg4 harg4 arg5 harg5 arg6 harg6 arg7 harg7 arg8 harg8 arg9 harg9) K := by
    intro E K
    simp only [cc0_ssm_eq_skeleton]; unfold cc0_ssm_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    subst hf0 hf1 hf2 hf3 hf4
    sl_exec
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; swap; · iexact H5
      ipureintro
      have hs : arg9.view.read (Elt F) (held arg9 (arg5.view.read (Elt F) f4)
          (arg7.view.read (Elt F) (arg7.view.writes (Elt F) (arg7.view.junk) (pieceX (arg1.view.read (Elt F) f0) (arg3.view.read (Elt F) f2) (arg5.view.read (Elt F) f4))))
          (arg8.view.read (Elt F) (arg8.view.writes (Elt F) (arg8.view.junk) (pieceZ (arg1.view.read (Elt F) f0) (arg3.view.read (Elt F) f2) (arg5.view.read (Elt F) f4))))
          zeros fs2 (Scf.trips k0_t1_loop.lb k0_t1_loop.ub k0_t1_loop.st))
          = scan (arg5.view.read (Elt F) f4) (driveX (arg1.view.read (Elt F) f0) (arg3.view.read (Elt F) f2) (arg5.view.read (Elt F) f4))
              (driveZ (arg1.view.read (Elt F) f0) (arg3.view.read (Elt F) f2) (arg5.view.read (Elt F) f4)) := by
        rw [read_held, View.read_writes_junk_eq_canon, View.read_writes_junk_eq_canon]; rfl
      unfold result; rw [← hs]; unfold outs
      refine (View.read_writes_eq_canon _ _ _ ?_).trans ?_
      · exact View.cover_of_tiledL _ S1x1024x256.size rfl
      sl_unfold_words
      refine canon_four ?_ ?_ ?_ ?_
      · rfl
      · rfl
      · rfl
      · rfl
    isplitl [HS0]
    · iexists _; iexists _; isplitr; swap; · iexact HS0
      ipureintro; rfl
    isplitl [HS1]
    · iexists _; iexists _; isplitr; swap; · iexact HS1
      ipureintro; rfl
    iexists _; iexists _; isplitr; swap; · iexact HS2
    ipureintro; rfl

end Cert.KernelIdeal.Ssm

end
-- ==== Proof.SsmFrame.lean ====
module

public import proofs.«01_k».proof.Proof.SsmRun
public import Idealize.ShloMosaic.Lib.Claim

@[expose] public section

set_option maxRecDepth 16384

noncomputable section

namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's block at point `t`. -/
def block (c : Dev nD) (t : Fin cfg0.N) : Vec F S4x1024x256 .bf16 :=
  result (iblk m c 0 t) (iblk m c 1 t) (iblk m c 2 t) (iblk m c 3 t) (iblk m c 4 t)

/-- The pipeline's contents: every argument block stays, the result's block is what the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => block m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = block m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The windows' staging buffers at point `t`. -/
abbrev stage0 (t : Fin cfg0.N) : Memref sig .tc .vmem S4x1024x256 .bf16 := win0_0.stage (cfg0.slots t 0)
abbrev stage1 (t : Fin cfg0.N) : Memref sig .tc .vmem S4x16x256 .f32 := win0_1.stage (cfg0.slots t 1)
abbrev stage2 (t : Fin cfg0.N) : Memref sig .tc .vmem S4x256x256 .bf16 := win0_2.stage (cfg0.slots t 2)
abbrev stage3 (t : Fin cfg0.N) : Memref sig .tc .vmem S4x128x256 .bf16 := win0_3.stage (cfg0.slots t 3)
abbrev stage4 (t : Fin cfg0.N) : Memref sig .tc .vmem S4x8x128 .f32 := win0_4.stage (cfg0.slots t 4)
abbrev stage5 (t : Fin cfg0.N) : Memref sig .tc .vmem S4x1024x256 .bf16 := win0_5.stage (cfg0.slots t 5)

/-- The three scratch buffers. -/
abbrev scr0 : Memref sig .tc .vmem S4x1024x128 .f32 := Memref.whole cc0_scratch0
abbrev scr1 : Memref sig .tc .vmem S4x1024x128 .f32 := Memref.whole cc0_scratch1
abbrev scr2 : Memref sig .tc .vmem S4x1024x128 .f32 := Memref.whole cc0_scratch2

theorem inv_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- Before the body at point `t`. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d)))

/-- After the body at point `t`. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t))

set_option maxHeartbeats 1600000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, inv_eq]
  unfold block
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply ((kernelRun c (grid0.coords t) _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The program ends with its arguments unchanged and no semaphore count left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

/-- The program's result array, and its arguments unchanged. -/
theorem value : θ_run defs (onTc (τ := τ) (main (F := F))) ⟨m, fun _ => 0, ρ⟩ (fun r => ∀ c : Dev nD,
      r.2.mem ((c.tc : Thread nD τ).loc main_v180) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.2 c).1 5, h.1 c⟩)
    (θ_run_and (frame_of m ρ (dats m) (A_eq m) (run_main m ρ)) (run_main m ρ))

end Cert.KernelIdeal.Ssm

end
-- ==== Proof.SameText.lean ====
module

public import proofs.«01_k».proof.Defs
public import proofs.«01_k».proof.Proof.Gen.Kernel
public import proofs.«01_k».proof.Proof.Gen.KernelIdeal
public import proofs.«01_k».proof.Proof.SsmFrame

/-!
# The kernel and its ideal reading have one text

No operation is replaced between the two programs, so each definition of one is that of the other; the kernel's frame
is then the run of the ideal reading, taken at float words.
-/

@[expose] public section
set_option maxRecDepth 65536
set_option maxHeartbeats 2000000
namespace Cert.Proof
open Idealize.ShloMosaic Idealize.SL.Sem

/-- The two bodies are one. -/
theorem body_same : @Cert.Kernel.cc0_ssm Bits _ Cert.Kernel.Gen.facts = @Cert.KernelIdeal.cc0_ssm Bits _ Cert.KernelIdeal.Gen.facts := rfl

/-- The two tables of bodies are one. -/
theorem bodies_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun x => ?_)
  match l, x with
  | 0, (t, s) =>
    show @Cert.Kernel.cc0_ssm Bits _ Cert.Kernel.Gen.facts _ _ _ _ _ _ _ _ _ _ _ _ _ _ _ _ _ _ _ = _
    rw [body_same]
    rfl
  | ⟨n + 1, h⟩, _ => exact absurd h (Nat.not_lt.2 (Nat.le_add_left _ _))

/-- The two tables with the pipelines are one. -/
theorem defs_same : @Cert.Kernel.defs Bits _ Cert.Kernel.Gen.facts = @Cert.KernelIdeal.defs Bits _ Cert.KernelIdeal.Gen.facts := by
  unfold Cert.Kernel.defs Cert.KernelIdeal.defs
  rw [bodies_same]
  rfl

theorem part0_same : @Cert.Kernel.main_part0 Bits _ Cert.Kernel.Gen.facts = @Cert.KernelIdeal.main_part0 Bits _ Cert.KernelIdeal.Gen.facts := rfl
theorem part1_same : @Cert.Kernel.main_part1 Bits _ Cert.Kernel.Gen.facts = @Cert.KernelIdeal.main_part1 Bits _ Cert.KernelIdeal.Gen.facts := rfl
theorem part2_same : @Cert.Kernel.main_part2 Bits _ Cert.Kernel.Gen.facts = @Cert.KernelIdeal.main_part2 Bits _ Cert.KernelIdeal.Gen.facts := rfl
theorem part3_same : @Cert.Kernel.main_part3 Bits _ Cert.Kernel.Gen.facts = @Cert.KernelIdeal.main_part3 Bits _ Cert.KernelIdeal.Gen.facts := rfl

/-- The two host programs are one. -/
theorem main_same : @Cert.Kernel.main Bits _ Cert.Kernel.Gen.facts = @Cert.KernelIdeal.main Bits _ Cert.KernelIdeal.Gen.facts := by
  unfold Cert.Kernel.main Cert.KernelIdeal.main
  rw [part0_same, part1_same, part2_same, part3_same]
  rfl

/-- The kernel's frame. -/
theorem frame_kernel : Cert.quiescent_Kernel (hKernel := Cert.Kernel.Gen.facts) := by
  intro m ρ _
  rw [defs_same, main_same]
  exact Cert.KernelIdeal.Ssm.frame (F := Bits) m ρ

end Cert.Proof
end
-- ==== Proof.SsmDomain.lean ====
module

public import proofs.«01_k».proof.Pre_ssm_domain
public import Idealize.ShloMosaic.Lib.Pointwise
public import Idealize.ShloMosaic.Lib.ReduceAll
public import Idealize.ShloMosaic.Lib.StableHlo.Predicate

/-!
# What the precondition says

Every argument's entries are real numbers, and no decay rate is zero.
-/

@[expose] public section
noncomputable section
namespace Cert.Ssm
open Cert.Pre_ssm_domain
open Idealize.ShloMosaic

variable [Facts]
open Facts

instance : Subsingleton S_.Idx := ⟨fun a b => funext fun k => k.elim0⟩

theorem and_split {x y : IVec S_ 1} {i : S_.Idx} (h : andi x y i = 1#1) : x i = 1#1 ∧ y i = 1#1 := by
  change IntOp.andi (x i) (y i) = 1#1 at h
  revert h
  generalize x i = a
  generalize y i = b
  revert a b
  decide

/-- A number whose absolute value is below infinity is real. -/
theorem real_of_abs {a : EReal} (h : max a (-a) < ⊤) : ∃ r : ℝ, a = (r : EReal) := by
  induction a with
  | bot => simp at h
  | top => simp at h
  | coe r => exact ⟨r, rfl⟩

theorem ofBits_inf : Ideal.ofBits FTy.f32 0x7F800000#32 = ⊤ := by
  simp [Ideal.ofBits, Ideal.ieee]

theorem ofBits_zero : Ideal.ofBits FTy.f32 0x00000000#32 = 0 := by
  simp [Ideal.ofBits, Ideal.ieee]

/-- Where every entry's absolute value is below infinity, every entry is real. -/
theorem fin_of_all {s : Shape} (x : s.Idx → EReal) (hb : S_.BroadcastsInDim s (![] : Fin 0 → Fin s.rank)) {axes : List (Fin s.rank)} (hr : s.ReducesTo axes S_) (hz : 0 < S_.numel) (c : S_.Idx → BitVec 1) (j : S_.Idx)
    (h : Host.reduce IntOp.andi (cmpf (F := Ideal) (φ := .f32) .olt (Host.absf (F := Ideal) (φ := .f32) x) (broadcastInDim s ![] hb (constant (F := Ideal) S_ .f32 0x7F800000#32))) c hr hz j = 1#1) (i : s.Idx) :
    ∃ r : ℝ, x i = (r : EReal) := by
  have h1 := Host.reduce_andi_all _ _ hr hz j h i
  have h2 : BitVec.ofBool (decide (max (x i) (-(x i)) < Ideal.ofBits FTy.f32 0x7F800000#32)) = 1#1 := h1
  rw [ofBits_inf, StableHlo.Predicate.ofBool_eq_one_iff, decide_eq_true_iff] at h2
  exact real_of_abs h2

/-- Where every entry is above zero, so is each. -/
theorem pos_of_all {s : Shape} (x : s.Idx → EReal) (hb : S_.BroadcastsInDim s (![] : Fin 0 → Fin s.rank)) {axes : List (Fin s.rank)} (hr : s.ReducesTo axes S_) (hz : 0 < S_.numel) (c : S_.Idx → BitVec 1) (j : S_.Idx)
    (h : Host.reduce IntOp.andi (cmpf (F := Ideal) (φ := .f32) .ogt x (broadcastInDim s ![] hb (constant (F := Ideal) S_ .f32 0x00000000#32))) c hr hz j = 1#1) (i : s.Idx) :
    0 < x i := by
  have h1 := Host.reduce_andi_all _ _ hr hz j h i
  have h2 : BitVec.ofBool (decide (Ideal.ofBits FTy.f32 0x00000000#32 < x i)) = 1#1 := h1
  rw [ofBits_zero, StableHlo.Predicate.ofBool_eq_one_iff, decide_eq_true_iff] at h2
  exact h2

/-- The precondition, read entry by entry. -/
theorem domain (a0 : S4x4096x56x16.Idx → EReal) (a1 a2 : S56x64.Idx → EReal) (a3 : S56.Idx → EReal) (a4 a5 : S56x64x16.Idx → EReal)
    (a6 a7 : S56x16x64.Idx → EReal) (a8 : S56x16.Idx → EReal) (h : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) ∧
    (∀ i, 0 < a1 i * a1 i + a2 i * a2 i) := by
  have hj := congrFun h (fun k => k.elim0)
  dsimp only [fn, fn_part1, fn_part2] at hj
  obtain ⟨hj, hp⟩ := and_split hj
  obtain ⟨hj, h8⟩ := and_split hj
  obtain ⟨hj, h7⟩ := and_split hj
  obtain ⟨hj, h6⟩ := and_split hj
  obtain ⟨hj, h5⟩ := and_split hj
  obtain ⟨hj, h4⟩ := and_split hj
  obtain ⟨hj, h3⟩ := and_split hj
  obtain ⟨hj, h2⟩ := and_split hj
  obtain ⟨h0, h1⟩ := and_split hj
  exact ⟨fin_of_all a0 _ _ _ _ _ h0, fin_of_all a1 _ _ _ _ _ h1, fin_of_all a2 _ _ _ _ _ h2, fin_of_all a3 _ _ _ _ _ h3,
    fin_of_all a4 _ _ _ _ _ h4, fin_of_all a5 _ _ _ _ _ h5, fin_of_all a6 _ _ _ _ _ h6, fin_of_all a7 _ _ _ _ _ h7,
    fin_of_all a8 _ _ _ _ _ h8, fun i => pos_of_all _ _ _ _ _ _ hp i⟩

end Cert.Ssm
end
-- ==== Proof.SsmIndex.lean ====
module

public import proofs.«01_k».proof.Proof.SsmBody
public import Idealize.ShloMosaic.Lib.Pointwise

/-!
# The vector expressions of the body, read at an index

At the ideal instance, for operand blocks whose entries are real numbers: the driving terms of the scan, the product with
the lower-triangular table, the states the chunks start from and the last product, each entry as a real number.
-/

@[expose] public section
set_option maxRecDepth 16384
noncomputable section
namespace Cert.KernelIdeal.Ssm
open Cert.KernelIdeal.Gen
open Idealize.ShloMosaic Idealize.ShloMosaic.TcCoe Idealize.ShloMosaic.Tactic

/-- A real sum, as an extended real. -/
theorem coe_sum {ι : Type} (s : Finset ι) (f : ι → ℝ) : ((∑ x ∈ s, f x : ℝ) : EReal) = ∑ x ∈ s, ((f x : ℝ) : EReal) := by
  classical
  induction s using Finset.induction_on with
  | empty => simp
  | insert a s ha ih => rw [Finset.sum_insert ha, Finset.sum_insert ha, EReal.coe_add, ih]

theorem select_one {α : Type} (a b : α) : Scalar.select (1#1) a b = a := by simp [Scalar.select]
theorem select_zero {α : Type} (a b : α) : Scalar.select (0#1) a b = b := by simp [Scalar.select]

/-- The mask of the first row of each batch element. -/
theorem first_row (r : Fin 1024) (l : Fin 128) : k0_pay21 (ix2 r l) = if r.val % 256 = 0 then 1#1 else 0#1 := by
  pointwise [k0_pay21]
  revert r
  decide +kernel

/-- The input part of row `r` at lane `j`. -/
def inp (U : Fin 1024 → Fin 256 → ℝ) (W : Fin 256 → Fin 256 → ℝ) (r : Fin 1024) (j : Fin 256) : ℝ := ∑ x, U r x * W x j

/-- The row before, zero before the first row of a batch element. -/
def before (f : Fin 1024 → ℝ) (r : Fin 1024) : ℝ := if r.val % 256 = 0 then 0 else f ⟨(r.val + 1024 - 1) % 1024, Nat.mod_lt _ (by decide)⟩

/-- The lanes of the first half and of the second half. -/
abbrev lo (l : Fin 128) : Fin 256 := ⟨l.val, by omega⟩
@[inherit_doc lo] abbrev hi (l : Fin 128) : Fin 256 := ⟨128 + l.val, by omega⟩

/-- The first driving term. -/
theorem gxv_at (u : Vec Ideal S1x1024x256 .bf16) (w : Vec Ideal S1x256x256 .bf16) (p1 p2 : Vec Ideal S1x1x128 .f32)
    {U : Fin 1024 → Fin 256 → ℝ} {W : Fin 256 → Fin 256 → ℝ} {P1 P2 : Fin 128 → ℝ}
    (hu : ∀ r x, u (ix3 0 r x) = ((U r x : ℝ) : EReal)) (hw : ∀ x j, w (ix3 0 x j) = ((W x j : ℝ) : EReal))
    (h1 : ∀ l, p1 (ix3 0 0 l) = ((P1 l : ℝ) : EReal)) (h2 : ∀ l, p2 (ix3 0 0 l) = ((P2 l : ℝ) : EReal)) (r : Fin 1024) (l : Fin 128) :
    gxv u w p1 p2 (ix2 r l)
      = ((inp U W r (lo l) + P1 l * before (inp U W · (lo l)) r + P2 l * before (inp U W · (hi l)) r : ℝ) : EReal) := by
  pointwise [gxv, k0_pay28, k0_pay27, k0_pay23, k0_pay25, k0_pay26, k0_pay22, k0_pay24, first_row, hu, hw, h1, h2]
  unfold before inp
  by_cases h : r.val % 256 = 0
  · simp only [h, if_true, select_one, EReal.coe_add, EReal.coe_mul, coe_sum, EReal.coe_zero, mul_zero]
  · simp only [h, if_false, select_zero, EReal.coe_add, EReal.coe_mul, coe_sum]

/-- The second driving term. -/
theorem gzv_at (u : Vec Ideal S1x1024x256 .bf16) (w : Vec Ideal S1x256x256 .bf16) (p1 p3 : Vec Ideal S1x1x128 .f32)
    {U : Fin 1024 → Fin 256 → ℝ} {W : Fin 256 → Fin 256 → ℝ} {P1 P3 : Fin 128 → ℝ}
    (hu : ∀ r x, u (ix3 0 r x) = ((U r x : ℝ) : EReal)) (hw : ∀ x j, w (ix3 0 x j) = ((W x j : ℝ) : EReal))
    (h1 : ∀ l, p1 (ix3 0 0 l) = ((P1 l : ℝ) : EReal)) (h3 : ∀ l, p3 (ix3 0 0 l) = ((P3 l : ℝ) : EReal)) (r : Fin 1024) (l : Fin 128) :
    gzv u w p1 p3 (ix2 r l)
      = ((inp U W r (hi l) + P1 l * before (inp U W · (hi l)) r + P3 l * before (inp U W · (lo l)) r : ℝ) : EReal) := by
  pointwise [gzv, k0_pay29, k0_pay27, k0_pay23, k0_pay25, k0_pay26, k0_pay22, k0_pay24, first_row, hu, hw, h1, h3]
  unfold before inp
  by_cases h : r.val % 256 = 0
  · simp only [h, if_true, select_one, EReal.coe_add, EReal.coe_mul, coe_sum, EReal.coe_zero, mul_zero]
  · simp only [h, if_false, select_zero, EReal.coe_add, EReal.coe_mul, coe_sum]

/-- A row of the lower-triangular table: the lag table's row `x % 16`, moved right by the sixteen lanes of each step. -/
def band (M : Fin 16 → Fin 256 → ℝ) (x j : Fin 256) : ℝ :=
  if 16 * (x.val / 16) ≤ j.val then M ⟨x.val % 16, Nat.mod_lt _ (by decide)⟩ ⟨j.val - 16 * (x.val / 16), by omega⟩ else 0

/-- Sixteen tables of sixteen rows, one under the other. -/
theorem rows_at (f : Fin 16 → FVec Ideal S16x256 .f32)
    (h : Shape.Concatenates ((List.ofFn fun n : Fin 16 => (⟨S16x256, f n⟩ : (s : Shape) × (s.Idx → Ideal .f32))).map (·.1)) S256x256 0) (x j : Fin 256) :
    concatenate S256x256 0 (List.ofFn fun n : Fin 16 => (⟨S16x256, f n⟩ : (s : Shape) × (s.Idx → Ideal .f32))) h (ix2 x j)
      = f ⟨x.val / 16, by omega⟩ (ix2 ⟨x.val % 16, Nat.mod_lt _ (by decide)⟩ j) := by
  refine concatenate_ofFn_apply 0 f h rfl 16 rfl (ix2 x j) ⟨x.val / 16, by omega⟩ rfl _ rfl ?_
  intro b hb
  fin_cases b
  · exact absurd rfl hb
  · rfl

/-- The sixteen shifted copies of a lag table. -/
def copies (m : Vec Ideal S1x16x256 .f32) : Fin 16 → FVec Ideal S16x256 .f32 :=
  ![k0_pay98 m, k0_pay102 k0_pay99 (k0_pay100 m) k0_pay101, k0_pay103 (k0_pay98 m) lane, k0_pay104 (k0_pay98 m) lane,
    k0_pay105 (k0_pay98 m) lane, k0_pay106 (k0_pay98 m) lane, k0_pay107 (k0_pay98 m) lane, k0_pay108 (k0_pay98 m) lane, k0_pay109 (k0_pay98 m) lane,
    select (k0_pay110 lane) (dynamicRotate 1 144#32 none (k0_pay98 m) rotates_S16x256_d1) (broadcast S16x256 (Scalar.ofBits .f32 0x00000000#32)),
    select (cmpi .sge lane (broadcast S16x256 160#32)) (dynamicRotate 1 160#32 none (k0_pay98 m) rotates_S16x256_d1) (broadcast S16x256 (Scalar.ofBits .f32 0x00000000#32)),
    select (cmpi .sge lane (broadcast S16x256 176#32)) (dynamicRotate 1 176#32 none (k0_pay98 m) rotates_S16x256_d1) (broadcast S16x256 (Scalar.ofBits .f32 0x00000000#32)),
    select (cmpi .sge lane (broadcast S16x256 192#32)) (dynamicRotate 1 192#32 none (k0_pay98 m) rotates_S16x256_d1) (broadcast S16x256 (Scalar.ofBits .f32 0x00000000#32)),
    select (cmpi .sge lane (broadcast S16x256 208#32)) (dynamicRotate 1 208#32 none (k0_pay98 m) rotates_S16x256_d1) (broadcast S16x256 (Scalar.ofBits .f32 0x00000000#32)),
    select (cmpi .sge lane (broadcast S16x256 224#32)) (dynamicRotate 1 224#32 none (k0_pay98 m) rotates_S16x256_d1) (broadcast S16x256 (Scalar.ofBits .f32 0x00000000#32)),
    select (cmpi .sge lane (broadcast S16x256 240#32)) (dynamicRotate 1 240#32 none (k0_pay98 m) rotates_S16x256_d1) (broadcast S16x256 (Scalar.ofBits .f32 0x00000000#32))]

theorem lag_eq (u : Vec Ideal S1x1024x256 .bf16) (m : Vec Ideal S1x16x256 .f32) :
    lag u m = matmul dot_S1024x256_S256x256_S1024x256_1_0_0_1_n_n none (k0_pay97 u)
      (truncf .bf16 (concatenate S256x256 0 (List.ofFn fun n : Fin 16 => (⟨S16x256, copies m n⟩ : (s : Shape) × (s.Idx → Ideal .f32)))
        concatenates_S16x256_S16x256_S16x256_S16x256_S16x256_S16x256_S16x256_S16x256_S16x256_S16x256_S16x256_S16x256_S16x256_S16x256_S16x256_S16x256_S256x256_d0) bitsLt_bf16_f32)
      (constant S1024x256 .f32 0x00000000#32) := rfl

/-- The mask of a shift: the lanes from the shift on. -/
theorem shift_mask (c : ℕ) (hc : c < 256) (j : Fin 256) : IntOp.cmpi .sge (BitVec.ofNat 32 j.val) (BitVec.ofNat 32 c) = if c ≤ j.val then 1#1 else 0#1 := by
  have key : ∀ c j : Fin 256, IntOp.cmpi .sge (BitVec.ofNat 32 j.val) (BitVec.ofNat 32 c.val) = if c.val ≤ j.val then 1#1 else 0#1 := by decide +kernel
  exact key ⟨c, hc⟩ j

/-- A shifted copy, from its mask and its rotated entry. -/
theorem shifted {M : Fin 256 → ℝ} (c : ℕ) (h0 : 0 < c) (hc : c < 256) (j : Fin 256) (h : (j.val + 256 - c) % 256 < 256) :
    Scalar.select (IntOp.cmpi .sge (BitVec.ofNat 32 j.val) (BitVec.ofNat 32 c)) ((M ⟨(j.val + 256 - c) % 256, h⟩ : ℝ) : EReal) (0 : EReal)
      = ((if c ≤ j.val then M ⟨j.val - c, by omega⟩ else 0 : ℝ) : EReal) := by
  rw [shift_mask c hc]
  by_cases hj : c ≤ j.val
  · simp only [hj, if_true, select_one]
    congr 3
    omega
  · simp only [hj, if_false, select_zero, EReal.coe_zero]

set_option maxHeartbeats 8000000 in
/-- A shifted copy, read at an index. -/
theorem copies_at (m : Vec Ideal S1x16x256 .f32) {M : Fin 16 → Fin 256 → ℝ} (hm : ∀ p j, m (ix3 0 p j) = ((M p j : ℝ) : EReal))
    (n p : Fin 16) (j : Fin 256) :
    copies m n (ix2 p j) = ((if 16 * n.val ≤ j.val then M p ⟨j.val - 16 * n.val, by omega⟩ else 0 : ℝ) : EReal) := by
  fin_cases n
  · rw [show copies m (⟨0, by decide⟩ : Fin 16) = k0_pay98 m from rfl]
    pointwise [k0_pay98, hm]
  · rw [show copies m (⟨1, by decide⟩ : Fin 16) = k0_pay102 k0_pay99 (k0_pay100 m) k0_pay101 from rfl]
    pointwise [k0_pay102, k0_pay99, k0_pay100, k0_pay101, k0_pay98, hm]
    exact shifted 16 (by decide) (by decide) j _
  · rw [show copies m (⟨2, by decide⟩ : Fin 16) = k0_pay103 (k0_pay98 m) lane from rfl]
    pointwise [k0_pay103, lane, k0_pay98, hm]
    exact shifted 32 (by decide) (by decide) j _
  · rw [show copies m (⟨3, by decide⟩ : Fin 16) = k0_pay104 (k0_pay98 m) lane from rfl]
    pointwise [k0_pay104, lane, k0_pay98, hm]
    exact shifted 48 (by decide) (by decide) j _
  · rw [show copies m (⟨4, by decide⟩ : Fin 16) = k0_pay105 (k0_pay98 m) lane from rfl]
    pointwise [k0_pay105, lane, k0_pay98, hm]
    exact shifted 64 (by decide) (by decide) j _
  · rw [show copies m (⟨5, by decide⟩ : Fin 16) = k0_pay106 (k0_pay98 m) lane from rfl]
    pointwise [k0_pay106, lane, k0_pay98, hm]
    exact shifted 80 (by decide) (by decide) j _
  · rw [show copies m (⟨6, by decide⟩ : Fin 16) = k0_pay107 (k0_pay98 m) lane from rfl]
    pointwise [k0_pay107, lane, k0_pay98, hm]
    exact shifted 96 (by decide) (by decide) j _
  · rw [show copies m (⟨7, by decide⟩ : Fin 16) = k0_pay108 (k0_pay98 m) lane from rfl]
    pointwise [k0_pay108, lane, k0_pay98, hm]
    exact shifted 112 (by decide) (by decide) j _
  · rw [show copies m (⟨8, by decide⟩ : Fin 16) = k0_pay109 (k0_pay98 m) lane from rfl]
    pointwise [k0_pay109, lane, k0_pay98, hm]
    exact shifted 128 (by decide) (by decide) j _
  · rw [show copies m (⟨9, by decide⟩ : Fin 16) = select (k0_pay110 lane) (dynamicRotate 1 144#32 none (k0_pay98 m) rotates_S16x256_d1) (broadcast S16x256 (Scalar.ofBits .f32 0x00000000#32)) from rfl]
    pointwise [k0_pay110, lane, k0_pay98, hm]
    exact shifted 144 (by decide) (by decide) j _
  · rw [show copies m (⟨10, by decide⟩ : Fin 16) = select (cmpi .sge lane (broadcast S16x256 160#32)) (dynamicRotate 1 160#32 none (k0_pay98 m) rotates_S16x256_d1) (broadcast S16x256 (Scalar.ofBits .f32 0x00000000#32)) from rfl]
    pointwise [lane, k0_pay98, hm]
    exact shifted 160 (by decide) (by decide) j _
  · rw [show copies m (⟨11, by decide⟩ : Fin 16) = select (cmpi .sge lane (broadcast S16x256 176#32)) (dynamicRotate 1 176#32 none (k0_pay98 m) rotates_S16x256_d1) (broadcast S16x256 (Scalar.ofBits .f32 0x00000000#32)) from rfl]
    pointwise [lane, k0_pay98, hm]
    exact shifted 176 (by decide) (by decide) j _
  · rw [show copies m (⟨12, by decide⟩ : Fin 16) = select (cmpi .sge lane (broadcast S16x256 192#32)) (dynamicRotate 1 192#32 none (k0_pay98 m) rotates_S16x256_d1) (broadcast S16x256 (Scalar.ofBits .f32 0x00000000#32)) from rfl]
    pointwise [lane, k0_pay98, hm]
    exact shifted 192 (by decide) (by decide) j _
  · rw [show copies m (⟨13, by decide⟩ : Fin 16) = select (cmpi .sge lane (broadcast S16x256 208#32)) (dynamicRotate 1 208#32 none (k0_pay98 m) rotates_S16x256_d1) (broadcast S16x256 (Scalar.ofBits .f32 0x00000000#32)) from rfl]
    pointwise [lane, k0_pay98, hm]
    exact shifted 208 (by decide) (by decide) j _
  · rw [show copies m (⟨14, by decide⟩ : Fin 16) = select (cmpi .sge lane (broadcast S16x256 224#32)) (dynamicRotate 1 224#32 none (k0_pay98 m) rotates_S16x256_d1) (broadcast S16x256 (Scalar.ofBits .f32 0x00000000#32)) from rfl]
    pointwise [lane, k0_pay98, hm]
    exact shifted 224 (by decide) (by decide) j _
  · rw [show copies m (⟨15, by decide⟩ : Fin 16) = select (cmpi .sge lane (broadcast S16x256 240#32)) (dynamicRotate 1 240#32 none (k0_pay98 m) rotates_S16x256_d1) (broadcast S16x256 (Scalar.ofBits .f32 0x00000000#32)) from rfl]
    pointwise [lane, k0_pay98, hm]
    exact shifted 240 (by decide) (by decide) j _

/-- The input times the lower-triangular table. -/
theorem lag_at (u : Vec Ideal S1x1024x256 .bf16) (m : Vec Ideal S1x16x256 .f32) {U : Fin 1024 → Fin 256 → ℝ} {M : Fin 16 → Fin 256 → ℝ}
    (hu : ∀ r x, u (ix3 0 r x) = ((U r x : ℝ) : EReal)) (hm : ∀ p j, m (ix3 0 p j) = ((M p j : ℝ) : EReal)) (r : Fin 1024) (j : Fin 256) :
    lag u m (ix2 r j) = ((inp U (band M) r j : ℝ) : EReal) := by
  rw [lag_eq]
  pointwise [k0_pay97, rows_at, copies_at m hm, hu]
  simp only [inp, band, coe_sum, EReal.coe_mul]

/-- The states the chunks of group 0 start from: the state at the end of the chunk before, zero for the first. -/
theorem hin0_at (h : Vec Ideal S4x1024x128 .f32) {H : Fin 4 → Fin 1024 → Fin 128 → ℝ} (hh : ∀ g r l, h (ix3 g r l) = ((H g r l : ℝ) : EReal))
    (r : Fin 1024) (l : Fin 128) :
    hin0 h (ix2 r l) = ((before (fun r => H 0 ⟨4 * (r.val % 256) + r.val / 256, by omega⟩ l) r : ℝ) : EReal) := by
  pointwise [hin0, k0_pay96, first_row, hh]
  unfold before
  by_cases h0 : r.val % 256 = 0
  · simp only [h0, if_true, select_one, EReal.coe_zero]
  · simp only [h0, if_false, select_zero]
    split_ifs <;> (congr 2; ext; simp only; omega)

/-- The states the chunks of group 1 start from: the state at the end of the chunk before, zero for the first. -/
theorem hin1_at (h : Vec Ideal S4x1024x128 .f32) {H : Fin 4 → Fin 1024 → Fin 128 → ℝ} (hh : ∀ g r l, h (ix3 g r l) = ((H g r l : ℝ) : EReal))
    (r : Fin 1024) (l : Fin 128) :
    hin1 h (ix2 r l) = ((before (fun r => H 1 ⟨4 * (r.val % 256) + r.val / 256, by omega⟩ l) r : ℝ) : EReal) := by
  pointwise [hin1, k0_pay96, first_row, hh]
  unfold before
  by_cases h0 : r.val % 256 = 0
  · simp only [h0, if_true, select_one, EReal.coe_zero]
  · simp only [h0, if_false, select_zero]
    split_ifs <;> (congr 2; ext; simp only; omega)

/-- The states the chunks of group 2 start from: the state at the end of the chunk before, zero for the first. -/
theorem hin2_at (h : Vec Ideal S4x1024x128 .f32) {H : Fin 4 → Fin 1024 → Fin 128 → ℝ} (hh : ∀ g r l, h (ix3 g r l) = ((H g r l : ℝ) : EReal))
    (r : Fin 1024) (l : Fin 128) :
    hin2 h (ix2 r l) = ((before (fun r => H 2 ⟨4 * (r.val % 256) + r.val / 256, by omega⟩ l) r : ℝ) : EReal) := by
  pointwise [hin2, k0_pay96, first_row, hh]
  unfold before
  by_cases h0 : r.val % 256 = 0
  · simp only [h0, if_true, select_one, EReal.coe_zero]
  · simp only [h0, if_false, select_zero]
    split_ifs <;> (congr 2; ext; simp only; omega)

/-- The states the chunks of group 3 start from: the state at the end of the chunk before, zero for the first. -/
theorem hin3_at (h : Vec Ideal S4x1024x128 .f32) {H : Fin 4 → Fin 1024 → Fin 128 → ℝ} (hh : ∀ g r l, h (ix3 g r l) = ((H g r l : ℝ) : EReal))
    (r : Fin 1024) (l : Fin 128) :
    hin3 h (ix2 r l) = ((before (fun r => H 3 ⟨4 * (r.val % 256) + r.val / 256, by omega⟩ l) r : ℝ) : EReal) := by
  pointwise [hin3, k0_pay96, first_row, hh]
  unfold before
  by_cases h0 : r.val % 256 = 0
  · simp only [h0, if_true, select_one, EReal.coe_zero]
  · simp only [h0, if_false, select_zero]
    split_ifs <;> (congr 2; ext; simp only; omega)

/-- The sum of the two products. -/
theorem out_at (a : FVec Ideal S1024x128 .bf16) (b : FVec Ideal S1024x256 .f32) (c : Vec Ideal S1x128x256 .bf16) (r : Fin 1024) (j : Fin 256) :
    k0_pay112 a b c (ix3 0 r j) = b (ix2 r j) + ∑ x, a (ix2 r x) * c (ix3 0 x j) := by
  pointwise [k0_pay112]
end Cert.KernelIdeal.Ssm
end
-- ==== Proof.SsmDrive.lean ====
module

public import proofs.«01_k».proof.Proof.SsmIndex
public import proofs.«01_k».proof.Proof.SsmScan

/-!
# The interleaved driving terms and the scan, read at an index

The driving terms are stored interleaved: row `c` of batch element `b` goes to row `4 c + b`. One trip of the scan takes
eight rows, two rows of each batch element; so row `8 k + i` of the buffer of states is what `k + 1` steps of the two-row
recurrence make of the driving rows `i, 8 + i, …, 8 k + i`.
-/

@[expose] public section
set_option maxRecDepth 16384
noncomputable section
namespace Cert.KernelIdeal.Ssm
open Cert.KernelIdeal.Gen
open Idealize.ShloMosaic Idealize.ShloMosaic.TcCoe Idealize.ShloMosaic.Tactic

theorem part0_at (A : FVec Ideal S1024x128 .f32) (c : Fin 256) (l : Fin 128) : part0 A (ix3 0 c l) = A (ix2 ⟨256 * 0 + c.val, by omega⟩ l) := by
  rw [show (⟨256 * 0 + c.val, by omega⟩ : Fin 1024) = ⟨c.val, by omega⟩ from Fin.ext (by simp)]
  pointwise [part0]
theorem part1_at (A : FVec Ideal S1024x128 .f32) (c : Fin 256) (l : Fin 128) : part1 A (ix3 0 c l) = A (ix2 ⟨256 + c.val, by omega⟩ l) := by
  pointwise [part1]
theorem part2_at (A : FVec Ideal S1024x128 .f32) (c : Fin 256) (l : Fin 128) : part2 A (ix3 0 c l) = A (ix2 ⟨512 + c.val, by omega⟩ l) := by
  pointwise [part2]
theorem part3_at (A : FVec Ideal S1024x128 .f32) (c : Fin 256) (l : Fin 128) : part3 A (ix3 0 c l) = A (ix2 ⟨768 + c.val, by omega⟩ l) := by
  pointwise [part3]

/-- The rectangle of the rows `b, b + 4, …` of group `g`, at an index. -/
theorem strided_emb (g b : ℕ) (hg : g < 4) (hb : b < 4) (R : Rect S4x1024x128) (ho : R.off = ![g, b, 0]) (hs : R.stride = ![1, 4, 1])
    (hz : R.size = S1x256x128.size) (x : R.shape.Idx) (c : Fin 256) (l : Fin 128) (h1 : (x 1).val = c.val) (h2 : (x 2).val = l.val) (h0 : (x 0).val = 0) :
    R.emb x = ix3 (⟨g, hg⟩ : Fin 4) (⟨4 * c.val + b, by omega⟩ : Fin 1024) l := by
  funext a
  apply Fin.ext
  rw [Rect.emb_apply, ho, hs]
  fin_cases a
  · show g + 1 * (x 0).val = g
    omega
  · show b + 4 * (x 1).val = 4 * c.val + b
    omega
  · show 0 + 1 * (x 2).val = l.val
    omega

/-- The array the sixteen stores lay out. -/
def interleaved (a : Fin 4 → FVec Ideal S1024x128 .f32) : S4x1024x128.Idx → Ideal .f32 := fun j =>
  a (j 0) (ix2 (⟨256 * ((j 1).val % 4) + (j 1).val / 4, by have := (j 1).isLt; change (j 1).val < 1024 at this; omega⟩ : Fin 1024) (j 2))

theorem same_row (A : FVec Ideal S1024x128 .f32) (b : ℕ) (hb : b < 4) (c : Fin 256) (l : Fin 128) (h : 256 * b + c.val < 1024) :
    A (ix2 ⟨256 * b + c.val, h⟩ l) = A (ix2 ⟨256 * ((4 * c.val + b) % 4) + (4 * c.val + b) / 4, by omega⟩ l) := by
  congr 2
  ext
  simp only
  omega

/-- The sixteen stores lay out the interleaved array. -/
theorem lanes_at (a : Fin 4 → FVec Ideal S1024x128 .f32) (j : S4x1024x128.Idx) :
    View.canon (lanes (a 0) (a 1) (a 2) (a 3)) j = interleaved a j := by
  refine View.canon_apply_of_pieces (Val := Elt Ideal) (e := .f32) (interleaved a) _ ?_ j ?_
  · intro p hp x
    simp only [lanes, List.mem_cons, List.not_mem_nil, or_false] at hp
    rcases hp with rfl | rfl | rfl | rfl | rfl | rfl | rfl | rfl | rfl | rfl | rfl | rfl | rfl | rfl | rfl | rfl
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 3 3 (by decide) (by decide) _ rfl rfl rfl _ c l rfl rfl rfl]
      exact (part3_at _ c l).trans (same_row (a 3) 3 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 3 2 (by decide) (by decide) _ rfl rfl rfl _ c l rfl rfl rfl]
      exact (part2_at _ c l).trans (same_row (a 3) 2 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 3 1 (by decide) (by decide) _ rfl rfl rfl _ c l rfl rfl rfl]
      exact (part1_at _ c l).trans (same_row (a 3) 1 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 3 0 (by decide) (by decide) _ rfl rfl rfl _ c l rfl rfl rfl]
      exact (part0_at _ c l).trans (same_row (a 3) 0 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 2 3 (by decide) (by decide) _ rfl rfl rfl _ c l rfl rfl rfl]
      exact (part3_at _ c l).trans (same_row (a 2) 3 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 2 2 (by decide) (by decide) _ rfl rfl rfl _ c l rfl rfl rfl]
      exact (part2_at _ c l).trans (same_row (a 2) 2 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 2 1 (by decide) (by decide) _ rfl rfl rfl _ c l rfl rfl rfl]
      exact (part1_at _ c l).trans (same_row (a 2) 1 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 2 0 (by decide) (by decide) _ rfl rfl rfl _ c l rfl rfl rfl]
      exact (part0_at _ c l).trans (same_row (a 2) 0 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 1 3 (by decide) (by decide) _ rfl rfl rfl _ c l rfl rfl rfl]
      exact (part3_at _ c l).trans (same_row (a 1) 3 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 1 2 (by decide) (by decide) _ rfl rfl rfl _ c l rfl rfl rfl]
      exact (part2_at _ c l).trans (same_row (a 1) 2 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 1 1 (by decide) (by decide) _ rfl rfl rfl _ c l rfl rfl rfl]
      exact (part1_at _ c l).trans (same_row (a 1) 1 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 1 0 (by decide) (by decide) _ rfl rfl rfl _ c l rfl rfl rfl]
      exact (part0_at _ c l).trans (same_row (a 1) 0 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 0 3 (by decide) (by decide) _ rfl rfl rfl _ c l rfl rfl rfl]
      exact (part3_at _ c l).trans (same_row (a 0) 3 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 0 2 (by decide) (by decide) _ rfl rfl rfl _ c l rfl rfl rfl]
      exact (part2_at _ c l).trans (same_row (a 0) 2 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 0 1 (by decide) (by decide) _ rfl rfl rfl _ c l rfl rfl rfl]
      exact (part1_at _ c l).trans (same_row (a 0) 1 (by decide) c l (by omega))
    · obtain ⟨e, c, l, rfl⟩ : ∃ (e : Fin 1) (c : Fin 256) (l : Fin 128), x = ix3 e c l := ⟨x 0, x 1, x 2, eq_ix3 x⟩
      obtain rfl : e = 0 := Subsingleton.elim _ _
      rw [strided_emb 0 0 (by decide) (by decide) _ rfl rfl rfl _ c l rfl rfl rfl]
      exact (part0_at _ c l).trans (same_row (a 0) 0 (by decide) c l (by omega))
  · obtain ⟨g, r, l, rfl⟩ : ∃ (g : Fin 4) (r : Fin 1024) (l : Fin 128), j = ix3 g r l := ⟨j 0, j 1, j 2, eq_ix3 j⟩
    obtain ⟨b, hb⟩ : ∃ b : Fin 4, b.val = r.val % 4 := ⟨⟨r.val % 4, Nat.mod_lt _ (by decide)⟩, rfl⟩
    have cover : ∀ p ∈ lanes (a 0) (a 1) (a 2) (a 3), p.1.off = ![g.val, b.val, 0] → p.1.stride = ![1, 4, 1] → p.1.size = S1x256x128.size → ix3 g r l ∈ p.1.set := by
      intro p _ ho hs hz
      rw [LoadRect.mem_set]
      intro d
      rw [ho, hs, hz]
      fin_cases d
      · exact ⟨0, by decide, by simp [ix3]⟩
      · exact ⟨r.val / 4, by show r.val / 4 < 256; omega, by show r.val = b.val + 4 * (r.val / 4); omega⟩
      · exact ⟨l.val, l.isLt, by show l.val = 0 + 1 * l.val; omega⟩
    have pieces : ∀ g b : Fin 4, ∃ p ∈ lanes (a 0) (a 1) (a 2) (a 3), p.1.off = ![g.val, b.val, 0] ∧ p.1.stride = ![1, 4, 1] ∧ p.1.size = S1x256x128.size := by
      intro g b
      match g, b with
      | 0, 0 => exact ⟨(lanes (a 0) (a 1) (a 2) (a 3))[15]'(by simp [lanes]), List.getElem_mem _, rfl, rfl, rfl⟩
      | 0, 1 => exact ⟨(lanes (a 0) (a 1) (a 2) (a 3))[14]'(by simp [lanes]), List.getElem_mem _, rfl, rfl, rfl⟩
      | 0, 2 => exact ⟨(lanes (a 0) (a 1) (a 2) (a 3))[13]'(by simp [lanes]), List.getElem_mem _, rfl, rfl, rfl⟩
      | 0, 3 => exact ⟨(lanes (a 0) (a 1) (a 2) (a 3))[12]'(by simp [lanes]), List.getElem_mem _, rfl, rfl, rfl⟩
      | 1, 0 => exact ⟨(lanes (a 0) (a 1) (a 2) (a 3))[11]'(by simp [lanes]), List.getElem_mem _, rfl, rfl, rfl⟩
      | 1, 1 => exact ⟨(lanes (a 0) (a 1) (a 2) (a 3))[10]'(by simp [lanes]), List.getElem_mem _, rfl, rfl, rfl⟩
      | 1, 2 => exact ⟨(lanes (a 0) (a 1) (a 2) (a 3))[9]'(by simp [lanes]), List.getElem_mem _, rfl, rfl, rfl⟩
      | 1, 3 => exact ⟨(lanes (a 0) (a 1) (a 2) (a 3))[8]'(by simp [lanes]), List.getElem_mem _, rfl, rfl, rfl⟩
      | 2, 0 => exact ⟨(lanes (a 0) (a 1) (a 2) (a 3))[7]'(by simp [lanes]), List.getElem_mem _, rfl, rfl, rfl⟩
      | 2, 1 => exact ⟨(lanes (a 0) (a 1) (a 2) (a 3))[6]'(by simp [lanes]), List.getElem_mem _, rfl, rfl, rfl⟩
      | 2, 2 => exact ⟨(lanes (a 0) (a 1) (a 2) (a 3))[5]'(by simp [lanes]), List.getElem_mem _, rfl, rfl, rfl⟩
      | 2, 3 => exact ⟨(lanes (a 0) (a 1) (a 2) (a 3))[4]'(by simp [lanes]), List.getElem_mem _, rfl, rfl, rfl⟩
      | 3, 0 => exact ⟨(lanes (a 0) (a 1) (a 2) (a 3))[3]'(by simp [lanes]), List.getElem_mem _, rfl, rfl, rfl⟩
      | 3, 1 => exact ⟨(lanes (a 0) (a 1) (a 2) (a 3))[2]'(by simp [lanes]), List.getElem_mem _, rfl, rfl, rfl⟩
      | 3, 2 => exact ⟨(lanes (a 0) (a 1) (a 2) (a 3))[1]'(by simp [lanes]), List.getElem_mem _, rfl, rfl, rfl⟩
      | 3, 3 => exact ⟨(lanes (a 0) (a 1) (a 2) (a 3))[0]'(by simp [lanes]), List.getElem_mem _, rfl, rfl, rfl⟩
    obtain ⟨p, hp, h1, h2, h3⟩ := pieces g b
    exact ⟨p, hp, cover p hp h1 h2 h3⟩

/-- What the recurrence carries for one group: row `i` after `k` trips. -/
def rec2 (Q1 Q2 Q3 : Fin 128 → ℝ) (GX GZ : Fin 1024 → Fin 128 → ℝ) : ℕ → Fin 8 → Fin 128 → ℝ × ℝ
  | 0, _, _ => (0, 0)
  | k + 1, i, l =>
    (Q1 l * (rec2 Q1 Q2 Q3 GX GZ k i l).1 + Q2 l * (rec2 Q1 Q2 Q3 GX GZ k i l).2 + GX ⟨(8 * k + i.val) % 1024, Nat.mod_lt _ (by decide)⟩ l,
     Q1 l * (rec2 Q1 Q2 Q3 GX GZ k i l).2 + Q3 l * (rec2 Q1 Q2 Q3 GX GZ k i l).1 + GZ ⟨(8 * k + i.val) % 1024, Nat.mod_lt _ (by decide)⟩ l)

/-- The carried vectors hold these real numbers. -/
def Holds (a : Carry Ideal) (V : Fin 4 → Fin 8 → Fin 128 → ℝ × ℝ) : Prop := ∀ i l,
  a.1 (ix2 i l) = (((V 0 i l).1 : ℝ) : EReal) ∧ a.2.1 (ix2 i l) = (((V 0 i l).2 : ℝ) : EReal)
  ∧ a.2.2.1 (ix2 i l) = (((V 1 i l).1 : ℝ) : EReal) ∧ a.2.2.2.1 (ix2 i l) = (((V 1 i l).2 : ℝ) : EReal)
  ∧ a.2.2.2.2.1 (ix2 i l) = (((V 2 i l).1 : ℝ) : EReal) ∧ a.2.2.2.2.2.1 (ix2 i l) = (((V 2 i l).2 : ℝ) : EReal)
  ∧ a.2.2.2.2.2.2.1 (ix2 i l) = (((V 3 i l).1 : ℝ) : EReal) ∧ a.2.2.2.2.2.2.2 (ix2 i l) = (((V 3 i l).2 : ℝ) : EReal)

variable (x5 : Vec Ideal S4x8x128 .f32) (x7 x8 : Vec Ideal S4x1024x128 .f32) {P : Fin 4 → Fin 8 → Fin 128 → ℝ}
  {GX GZ : Fin 4 → Fin 1024 → Fin 128 → ℝ}

theorem slab_ix {off : Fin 3 → ℕ} (g : Fin 4) (k : ℕ) (hk : k < 128) (hoff : off = ![g.val, 8 * k, 0]) (i : Fin 8) (l : Fin 128)
    (h0 : off 0 < 4) (h1 : off 1 + i.val < 1024) (h2 : off 2 + l.val < 128) :
    ix3 (⟨off 0, h0⟩ : Fin 4) (⟨off 1 + i.val, h1⟩ : Fin 1024) (⟨off 2 + l.val, h2⟩ : Fin 128) = ix3 g ⟨(8 * k + i.val) % 1024, Nat.mod_lt _ (by decide)⟩ l := by
  subst hoff
  congr 1
  · ext
    show 8 * k + i.val = (8 * k + i.val) % 1024
    omega
  · ext
    show 0 + l.val = l.val
    omega

theorem trip_lt (k : Fin k0_t1_loop.trips) : k.val < 128 := by
  exact lt_of_lt_of_eq k.isLt trips_eq

theorem x0_at (h5 : ∀ g k l, x5 (ix3 g k l) = ((P g k l : ℝ) : EReal)) (h7 : ∀ g r l, x7 (ix3 g r l) = ((GX g r l : ℝ) : EReal))
    (k : Fin k0_t1_loop.trips) (a : Carry Ideal) {V : Fin 4 → Fin 8 → Fin 128 → ℝ × ℝ} (ha : Holds a V) (i : Fin 8) (l : Fin 128) :
    x0 x5 x7 k a (ix2 i l)
      = ((P 0 3 l * (V 0 i l).1 + P 0 4 l * (V 0 i l).2 + GX 0 ⟨(8 * k.val + i.val) % 1024, Nat.mod_lt _ (by decide)⟩ l : ℝ) : EReal) := by
  obtain ⟨h0x, h0z, h1x, h1z, h2x, h2z, h3x, h3z⟩ := ha i l
  pointwise [x0, k0_pay3, k0_pay2, h5]
  rw [slab_ix 0 k.val (trip_lt k) (k0_off1_eq k), h7, h0x, h0z]
  simp only [EReal.coe_add, EReal.coe_mul]

theorem z0_at (h5 : ∀ g k l, x5 (ix3 g k l) = ((P g k l : ℝ) : EReal)) (h8 : ∀ g r l, x8 (ix3 g r l) = ((GZ g r l : ℝ) : EReal))
    (k : Fin k0_t1_loop.trips) (a : Carry Ideal) {V : Fin 4 → Fin 8 → Fin 128 → ℝ × ℝ} (ha : Holds a V) (i : Fin 8) (l : Fin 128) :
    z0 x5 x8 k a (ix2 i l)
      = ((P 0 3 l * (V 0 i l).2 + P 0 5 l * (V 0 i l).1 + GZ 0 ⟨(8 * k.val + i.val) % 1024, Nat.mod_lt _ (by decide)⟩ l : ℝ) : EReal) := by
  obtain ⟨h0x, h0z, h1x, h1z, h2x, h2z, h3x, h3z⟩ := ha i l
  pointwise [z0, k0_pay4, k0_pay2, h5]
  rw [slab_ix 0 k.val (trip_lt k) (k0_off1_eq k), h8, h0x, h0z]
  simp only [EReal.coe_add, EReal.coe_mul]

theorem x1_at (h5 : ∀ g k l, x5 (ix3 g k l) = ((P g k l : ℝ) : EReal)) (h7 : ∀ g r l, x7 (ix3 g r l) = ((GX g r l : ℝ) : EReal))
    (k : Fin k0_t1_loop.trips) (a : Carry Ideal) {V : Fin 4 → Fin 8 → Fin 128 → ℝ × ℝ} (ha : Holds a V) (i : Fin 8) (l : Fin 128) :
    x1 x5 x7 k a (ix2 i l)
      = ((P 1 3 l * (V 1 i l).1 + P 1 4 l * (V 1 i l).2 + GX 1 ⟨(8 * k.val + i.val) % 1024, Nat.mod_lt _ (by decide)⟩ l : ℝ) : EReal) := by
  obtain ⟨h0x, h0z, h1x, h1z, h2x, h2z, h3x, h3z⟩ := ha i l
  pointwise [x1, k0_pay8, k0_pay6, k0_pay7, h5]
  rw [slab_ix 1 k.val (trip_lt k) (k0_off2_eq k), h7, h1x, h1z]
  simp only [EReal.coe_add, EReal.coe_mul]

theorem z1_at (h5 : ∀ g k l, x5 (ix3 g k l) = ((P g k l : ℝ) : EReal)) (h8 : ∀ g r l, x8 (ix3 g r l) = ((GZ g r l : ℝ) : EReal))
    (k : Fin k0_t1_loop.trips) (a : Carry Ideal) {V : Fin 4 → Fin 8 → Fin 128 → ℝ × ℝ} (ha : Holds a V) (i : Fin 8) (l : Fin 128) :
    z1 x5 x8 k a (ix2 i l)
      = ((P 1 3 l * (V 1 i l).2 + P 1 5 l * (V 1 i l).1 + GZ 1 ⟨(8 * k.val + i.val) % 1024, Nat.mod_lt _ (by decide)⟩ l : ℝ) : EReal) := by
  obtain ⟨h0x, h0z, h1x, h1z, h2x, h2z, h3x, h3z⟩ := ha i l
  pointwise [z1, k0_pay9, k0_pay6, h5]
  rw [slab_ix 1 k.val (trip_lt k) (k0_off2_eq k), h8, h1x, h1z]
  simp only [EReal.coe_add, EReal.coe_mul]

theorem x2_at (h5 : ∀ g k l, x5 (ix3 g k l) = ((P g k l : ℝ) : EReal)) (h7 : ∀ g r l, x7 (ix3 g r l) = ((GX g r l : ℝ) : EReal))
    (k : Fin k0_t1_loop.trips) (a : Carry Ideal) {V : Fin 4 → Fin 8 → Fin 128 → ℝ × ℝ} (ha : Holds a V) (i : Fin 8) (l : Fin 128) :
    x2 x5 x7 k a (ix2 i l)
      = ((P 2 3 l * (V 2 i l).1 + P 2 4 l * (V 2 i l).2 + GX 2 ⟨(8 * k.val + i.val) % 1024, Nat.mod_lt _ (by decide)⟩ l : ℝ) : EReal) := by
  obtain ⟨h0x, h0z, h1x, h1z, h2x, h2z, h3x, h3z⟩ := ha i l
  pointwise [x2, k0_pay13, k0_pay11, h5]
  rw [slab_ix 2 k.val (trip_lt k) (k0_off3_eq k), h7, h2x, h2z]
  simp only [EReal.coe_add, EReal.coe_mul]

theorem z2_at (h5 : ∀ g k l, x5 (ix3 g k l) = ((P g k l : ℝ) : EReal)) (h8 : ∀ g r l, x8 (ix3 g r l) = ((GZ g r l : ℝ) : EReal))
    (k : Fin k0_t1_loop.trips) (a : Carry Ideal) {V : Fin 4 → Fin 8 → Fin 128 → ℝ × ℝ} (ha : Holds a V) (i : Fin 8) (l : Fin 128) :
    z2 x5 x8 k a (ix2 i l)
      = ((P 2 3 l * (V 2 i l).2 + P 2 5 l * (V 2 i l).1 + GZ 2 ⟨(8 * k.val + i.val) % 1024, Nat.mod_lt _ (by decide)⟩ l : ℝ) : EReal) := by
  obtain ⟨h0x, h0z, h1x, h1z, h2x, h2z, h3x, h3z⟩ := ha i l
  pointwise [z2, k0_pay15, k0_pay12, k0_pay14, k0_pay11, h5]
  rw [slab_ix 2 k.val (trip_lt k) (k0_off3_eq k), h8, h2x, h2z]
  simp only [EReal.coe_add, EReal.coe_mul]

theorem x3_at (h5 : ∀ g k l, x5 (ix3 g k l) = ((P g k l : ℝ) : EReal)) (h7 : ∀ g r l, x7 (ix3 g r l) = ((GX g r l : ℝ) : EReal))
    (k : Fin k0_t1_loop.trips) (a : Carry Ideal) {V : Fin 4 → Fin 8 → Fin 128 → ℝ × ℝ} (ha : Holds a V) (i : Fin 8) (l : Fin 128) :
    x3 x5 x7 k a (ix2 i l)
      = ((P 3 3 l * (V 3 i l).1 + P 3 4 l * (V 3 i l).2 + GX 3 ⟨(8 * k.val + i.val) % 1024, Nat.mod_lt _ (by decide)⟩ l : ℝ) : EReal) := by
  obtain ⟨h0x, h0z, h1x, h1z, h2x, h2z, h3x, h3z⟩ := ha i l
  pointwise [x3, k0_pay18, k0_pay17, h5]
  rw [slab_ix 3 k.val (trip_lt k) (k0_off4_eq k), h7, h3x, h3z]
  simp only [EReal.coe_add, EReal.coe_mul]

theorem z3_at (h5 : ∀ g k l, x5 (ix3 g k l) = ((P g k l : ℝ) : EReal)) (h8 : ∀ g r l, x8 (ix3 g r l) = ((GZ g r l : ℝ) : EReal))
    (k : Fin k0_t1_loop.trips) (a : Carry Ideal) {V : Fin 4 → Fin 8 → Fin 128 → ℝ × ℝ} (ha : Holds a V) (i : Fin 8) (l : Fin 128) :
    z3 x5 x8 k a (ix2 i l)
      = ((P 3 3 l * (V 3 i l).2 + P 3 5 l * (V 3 i l).1 + GZ 3 ⟨(8 * k.val + i.val) % 1024, Nat.mod_lt _ (by decide)⟩ l : ℝ) : EReal) := by
  obtain ⟨h0x, h0z, h1x, h1z, h2x, h2z, h3x, h3z⟩ := ha i l
  pointwise [z3, k0_pay19, k0_pay17, h5]
  rw [slab_ix 3 k.val (trip_lt k) (k0_off4_eq k), h8, h3x, h3z]
  simp only [EReal.coe_add, EReal.coe_mul]

/-- The carried vectors before trip `k`. -/
theorem states_hold (h5 : ∀ g k l, x5 (ix3 g k l) = ((P g k l : ℝ) : EReal)) (h7 : ∀ g r l, x7 (ix3 g r l) = ((GX g r l : ℝ) : EReal))
    (h8 : ∀ g r l, x8 (ix3 g r l) = ((GZ g r l : ℝ) : EReal)) (k : ℕ) (hk : k ≤ 128) :
    Holds (states x5 x7 x8 zeros k) (fun g i l => rec2 (P g 3) (P g 4) (P g 5) (GX g) (GZ g) k i l) := by
  induction k with
  | zero =>
    intro i l
    have z : (k0_pay95 : FVec Ideal S8x128 .f32) (ix2 i l) = ((0 : ℝ) : EReal) := by pointwise [k0_pay95]; rfl
    exact ⟨z, z, z, z, z, z, z, z⟩
  | succ k ih =>
    have hlt : k < k0_t1_loop.trips := by rw [trips_eq]; omega
    have e := states_succ x5 x7 x8 zeros ⟨k, hlt⟩
    have ha := ih (by omega)
    intro i l
    rw [show k + 1 = (⟨k, hlt⟩ : Fin k0_t1_loop.trips).val + 1 from rfl, e]
    exact ⟨x0_at x5 x7 h5 h7 _ _ ha i l, z0_at x5 x8 h5 h8 _ _ ha i l, x1_at x5 x7 h5 h7 _ _ ha i l, z1_at x5 x8 h5 h8 _ _ ha i l,
      x2_at x5 x7 h5 h7 _ _ ha i l, z2_at x5 x8 h5 h8 _ _ ha i l, x3_at x5 x7 h5 h7 _ _ ha i l, z3_at x5 x8 h5 h8 _ _ ha i l⟩

/-- The buffer of states after the loop. -/
theorem scan_at (h5 : ∀ g k l, x5 (ix3 g k l) = ((P g k l : ℝ) : EReal)) (h7 : ∀ g r l, x7 (ix3 g r l) = ((GX g r l : ℝ) : EReal))
    (h8 : ∀ g r l, x8 (ix3 g r l) = ((GZ g r l : ℝ) : EReal)) (g : Fin 4) (r : Fin 1024) (l : Fin 128) :
    scan x5 x7 x8 (ix3 g r l)
      = (((rec2 (P g 3) (P g 4) (P g 5) (GX g) (GZ g) (r.val / 8 + 1) ⟨r.val % 8, Nat.mod_lt _ (by decide)⟩ l).1 : ℝ) : EReal) := by
  obtain ⟨h0x, h0z, h1x, h1z, h2x, h2z, h3x, h3z⟩ := states_hold x5 x7 x8 h5 h7 h8 (r.val / 8 + 1) (by omega) ⟨r.val % 8, Nat.mod_lt _ (by decide)⟩ l
  match g with
  | 0 => exact h0x
  | 1 => exact h1x
  | 2 => exact h2x
  | 3 => exact h3x

end Cert.KernelIdeal.Ssm
end
-- ==== Proof.SsmValue.lean ====
module

public import proofs.«01_k».proof.Proof.SsmDrive

/-!
# What one grid point computes

The block the body stores, read at an index, for argument blocks whose entries are real numbers.
-/

@[expose] public section
set_option maxRecDepth 16384
noncomputable section
namespace Cert.KernelIdeal.Ssm
open Cert.KernelIdeal.Gen
open Idealize.ShloMosaic Idealize.ShloMosaic.TcCoe Idealize.ShloMosaic.Tactic

/-- The driving term of the first state: this row's input and the two parts of the row before. -/
def drvX (U : Fin 1024 → Fin 256 → ℝ) (W : Fin 256 → Fin 256 → ℝ) (P : Fin 8 → Fin 128 → ℝ) (r : Fin 1024) (l : Fin 128) : ℝ :=
  inp U W r (lo l) + P 0 l * before (inp U W · (lo l)) r + P 1 l * before (inp U W · (hi l)) r

/-- The driving term of the second state. -/
def drvZ (U : Fin 1024 → Fin 256 → ℝ) (W : Fin 256 → Fin 256 → ℝ) (P : Fin 8 → Fin 128 → ℝ) (r : Fin 1024) (l : Fin 128) : ℝ :=
  inp U W r (hi l) + P 0 l * before (inp U W · (hi l)) r + P 2 l * before (inp U W · (lo l)) r

/-- The row a stored row holds: row `4 c + b` holds row `256 b + c`. -/
abbrev rowOf (r : Fin 1024) : Fin 1024 := ⟨256 * (r.val % 4) + r.val / 4, by omega⟩

/-- The buffer of states after the loop. -/
def stateOf (U : Fin 1024 → Fin 256 → ℝ) (W : Fin 256 → Fin 256 → ℝ) (P : Fin 8 → Fin 128 → ℝ) (r : Fin 1024) (l : Fin 128) : ℝ :=
  (rec2 (P 3) (P 4) (P 5) (fun r => drvX U W P (rowOf r)) (fun r => drvZ U W P (rowOf r)) (r.val / 8 + 1) ⟨r.val % 8, Nat.mod_lt _ (by decide)⟩ l).1

/-- What a chunk starts from. -/
def startOf (U : Fin 1024 → Fin 256 → ℝ) (W : Fin 256 → Fin 256 → ℝ) (P : Fin 8 → Fin 128 → ℝ) (r : Fin 1024) (l : Fin 128) : ℝ :=
  before (fun r => stateOf U W P ⟨4 * (r.val % 256) + r.val / 256, by omega⟩ l) r

/-- One entry of a group's result. -/
def resultOf (U : Fin 1024 → Fin 256 → ℝ) (M : Fin 16 → Fin 256 → ℝ) (W : Fin 256 → Fin 256 → ℝ) (V : Fin 128 → Fin 256 → ℝ)
    (P : Fin 8 → Fin 128 → ℝ) (r : Fin 1024) (j : Fin 256) : ℝ :=
  inp U (band M) r j + ∑ l, startOf U W P r l * V l j

variable (x0 : Vec Ideal S4x1024x256 .bf16) (x1 : Vec Ideal S4x16x256 .f32) (x2 : Vec Ideal S4x256x256 .bf16) (x3 : Vec Ideal S4x128x256 .bf16)
  (x4 : Vec Ideal S4x8x128 .f32) {U : Fin 4 → Fin 1024 → Fin 256 → ℝ} {M : Fin 4 → Fin 16 → Fin 256 → ℝ} {W : Fin 4 → Fin 256 → Fin 256 → ℝ}
  {V : Fin 4 → Fin 128 → Fin 256 → ℝ} {P : Fin 4 → Fin 8 → Fin 128 → ℝ}

theorem driveX_at (h0 : ∀ g r x, x0 (ix3 g r x) = ((U g r x : ℝ) : EReal)) (h2 : ∀ g x j, x2 (ix3 g x j) = ((W g x j : ℝ) : EReal))
    (h4 : ∀ g k l, x4 (ix3 g k l) = ((P g k l : ℝ) : EReal)) (g : Fin 4) (r : Fin 1024) (l : Fin 128) :
    driveX x0 x2 x4 (ix3 g r l) = ((drvX (U g) (W g) (P g) (rowOf r) l : ℝ) : EReal) := by
  refine (lanes_at ![_, _, _, _] (ix3 g r l)).trans ?_
  match g with
  | 0 => exact gxv_at _ _ _ _ (fun r x => by pointwise [h0]) (fun r x => by pointwise [h2]) (fun l => by pointwise [h4]) (fun l => by pointwise [h4]) _ l
  | 1 => exact gxv_at _ _ _ _ (fun r x => by pointwise [h0]) (fun r x => by pointwise [h2]) (fun l => by pointwise [h4]) (fun l => by pointwise [h4]) _ l
  | 2 => exact gxv_at _ _ _ _ (fun r x => by pointwise [h0]) (fun r x => by pointwise [h2]) (fun l => by pointwise [h4]) (fun l => by pointwise [h4]) _ l
  | 3 => exact gxv_at _ _ _ _ (fun r x => by pointwise [h0]) (fun r x => by pointwise [h2]) (fun l => by pointwise [h4]) (fun l => by pointwise [h4]) _ l

theorem driveZ_at (h0 : ∀ g r x, x0 (ix3 g r x) = ((U g r x : ℝ) : EReal)) (h2 : ∀ g x j, x2 (ix3 g x j) = ((W g x j : ℝ) : EReal))
    (h4 : ∀ g k l, x4 (ix3 g k l) = ((P g k l : ℝ) : EReal)) (g : Fin 4) (r : Fin 1024) (l : Fin 128) :
    driveZ x0 x2 x4 (ix3 g r l) = ((drvZ (U g) (W g) (P g) (rowOf r) l : ℝ) : EReal) := by
  refine (lanes_at ![_, _, _, _] (ix3 g r l)).trans ?_
  match g with
  | 0 => exact gzv_at _ _ _ _ (fun r x => by pointwise [h0]) (fun r x => by pointwise [h2]) (fun l => by pointwise [h4]) (fun l => by pointwise [h4]) _ l
  | 1 => exact gzv_at _ _ _ _ (fun r x => by pointwise [h0]) (fun r x => by pointwise [h2]) (fun l => by pointwise [h4]) (fun l => by pointwise [h4]) _ l
  | 2 => exact gzv_at _ _ _ _ (fun r x => by pointwise [h0]) (fun r x => by pointwise [h2]) (fun l => by pointwise [h4]) (fun l => by pointwise [h4]) _ l
  | 3 => exact gzv_at _ _ _ _ (fun r x => by pointwise [h0]) (fun r x => by pointwise [h2]) (fun l => by pointwise [h4]) (fun l => by pointwise [h4]) _ l

/-- The buffer of states after the loop, from the argument blocks. -/
theorem state_at (h0 : ∀ g r x, x0 (ix3 g r x) = ((U g r x : ℝ) : EReal)) (h2 : ∀ g x j, x2 (ix3 g x j) = ((W g x j : ℝ) : EReal))
    (h4 : ∀ g k l, x4 (ix3 g k l) = ((P g k l : ℝ) : EReal)) (g : Fin 4) (r : Fin 1024) (l : Fin 128) :
    scan x4 (driveX x0 x2 x4) (driveZ x0 x2 x4) (ix3 g r l) = ((stateOf (U g) (W g) (P g) r l : ℝ) : EReal) :=
  scan_at x4 _ _ h4 (GX := fun g r => drvX (U g) (W g) (P g) (rowOf r)) (GZ := fun g r => drvZ (U g) (W g) (P g) (rowOf r))
    (fun g r l => driveX_at x0 x2 x4 h0 h2 h4 g r l) (fun g r l => driveZ_at x0 x2 x4 h0 h2 h4 g r l) g r l

/-- One group's stored block. -/
theorem group_at (u : Vec Ideal S1x1024x256 .bf16) (m : Vec Ideal S1x16x256 .f32) (v : Vec Ideal S1x128x256 .bf16) (hin : FVec Ideal S1024x128 .bf16)
    {U : Fin 1024 → Fin 256 → ℝ} {M : Fin 16 → Fin 256 → ℝ} {V : Fin 128 → Fin 256 → ℝ} {H : Fin 1024 → Fin 128 → ℝ}
    (hu : ∀ r x, u (ix3 0 r x) = ((U r x : ℝ) : EReal)) (hm : ∀ p j, m (ix3 0 p j) = ((M p j : ℝ) : EReal))
    (hv : ∀ l j, v (ix3 0 l j) = ((V l j : ℝ) : EReal)) (hh : ∀ r l, hin (ix2 r l) = ((H r l : ℝ) : EReal)) (r : Fin 1024) (j : Fin 256) :
    k0_pay112 hin (lag u m) v (ix3 0 r j) = ((inp U (band M) r j + ∑ l, H r l * V l j : ℝ) : EReal) := by
  rw [out_at, lag_at u m hu hm]
  simp only [hh, hv, EReal.coe_add, coe_sum, EReal.coe_mul]

theorem tile_emb (g : ℕ) (hg : g < 4) (R : Rect S4x1024x256) (ho : R.off = ![g, 0, 0]) (hs : R.stride = fun _ => 1)
    (x : R.shape.Idx) (r : Fin 1024) (j : Fin 256) (h0 : (x 0).val = 0) (h1 : (x 1).val = r.val) (h2 : (x 2).val = j.val) :
    R.emb x = ix3 (⟨g, hg⟩ : Fin 4) r j := by
  funext a
  apply Fin.ext
  rw [Rect.emb_apply, ho, hs]
  fin_cases a
  · show g + 1 * (x 0).val = g
    omega
  · show 0 + 1 * (x 1).val = r.val
    omega
  · show 0 + 1 * (x 2).val = j.val
    omega

/-- The block the body stores. -/
theorem result_at (h0 : ∀ g r x, x0 (ix3 g r x) = ((U g r x : ℝ) : EReal)) (h1 : ∀ g p j, x1 (ix3 g p j) = ((M g p j : ℝ) : EReal))
    (h2 : ∀ g x j, x2 (ix3 g x j) = ((W g x j : ℝ) : EReal)) (h3 : ∀ g l j, x3 (ix3 g l j) = ((V g l j : ℝ) : EReal))
    (h4 : ∀ g k l, x4 (ix3 g k l) = ((P g k l : ℝ) : EReal)) (y : S4x1024x256.Idx) :
    result x0 x1 x2 x3 x4 y = ((resultOf (U (y 0)) (M (y 0)) (W (y 0)) (V (y 0)) (P (y 0)) (y 1) (y 2) : ℝ) : EReal) := by
  have hs := state_at x0 x2 x4 h0 h2 h4
  refine View.canon_apply_of_pieces (Val := Elt Ideal) (e := .bf16)
    (fun y => ((resultOf (U (y 0)) (M (y 0)) (W (y 0)) (V (y 0)) (P (y 0)) (y 1) (y 2) : ℝ) : EReal)) _ ?_ y ?_
  · intro p hp x
    simp only [outs, List.mem_cons, List.not_mem_nil, or_false] at hp
    rcases hp with rfl | rfl | rfl | rfl
    · obtain ⟨e, r, j, rfl⟩ : ∃ (e : Fin 1) (r : Fin 1024) (j : Fin 256), x = ix3 e r j := ⟨x 0, x 1, x 2, eq_ix3 x⟩
      obtain rfl : e = 0 := Subsingleton.elim _ _
      rw [tile_emb 3 (by decide) _ rfl rfl _ r j rfl rfl rfl]
      exact group_at _ _ _ _ (fun r x => by pointwise [h0]) (fun r x => by pointwise [h1]) (fun r x => by pointwise [h3]) (fun r l => hin3_at _ hs r l) r j
    · obtain ⟨e, r, j, rfl⟩ : ∃ (e : Fin 1) (r : Fin 1024) (j : Fin 256), x = ix3 e r j := ⟨x 0, x 1, x 2, eq_ix3 x⟩
      obtain rfl : e = 0 := Subsingleton.elim _ _
      rw [tile_emb 2 (by decide) _ rfl rfl _ r j rfl rfl rfl]
      exact group_at _ _ _ _ (fun r x => by pointwise [h0]) (fun r x => by pointwise [h1]) (fun r x => by pointwise [h3]) (fun r l => hin2_at _ hs r l) r j
    · obtain ⟨e, r, j, rfl⟩ : ∃ (e : Fin 1) (r : Fin 1024) (j : Fin 256), x = ix3 e r j := ⟨x 0, x 1, x 2, eq_ix3 x⟩
      obtain rfl : e = 0 := Subsingleton.elim _ _
      rw [tile_emb 1 (by decide) _ rfl rfl _ r j rfl rfl rfl]
      exact group_at _ _ _ _ (fun r x => by pointwise [h0]) (fun r x => by pointwise [h1]) (fun r x => by pointwise [h3]) (fun r l => hin1_at _ hs r l) r j
    · obtain ⟨e, r, j, rfl⟩ : ∃ (e : Fin 1) (r : Fin 1024) (j : Fin 256), x = ix3 e r j := ⟨x 0, x 1, x 2, eq_ix3 x⟩
      obtain rfl : e = 0 := Subsingleton.elim _ _
      rw [tile_emb 0 (by decide) _ rfl rfl _ r j rfl rfl rfl]
      exact group_at _ _ _ _ (fun r x => by pointwise [h0]) (fun r x => by pointwise [h1]) (fun r x => by pointwise [h3]) (fun r l => hin0_at _ hs r l) r j
  · obtain ⟨g, r, j, rfl⟩ : ∃ (g : Fin 4) (r : Fin 1024) (j : Fin 256), y = ix3 g r j := ⟨y 0, y 1, y 2, eq_ix3 y⟩
    have pieces : ∀ g : Fin 4, ∃ p ∈ outs x0 x1 x3 (scan x4 (driveX x0 x2 x4) (driveZ x0 x2 x4)),
        p.1.off = ![g.val, 0, 0] ∧ (p.1.stride = fun _ => 1) ∧ p.1.size = S1x1024x256.size := by
      intro g
      match g with
      | 0 => exact ⟨(outs x0 x1 x3 (scan x4 (driveX x0 x2 x4) (driveZ x0 x2 x4)))[3]'(by simp [outs]), List.getElem_mem _, rfl, rfl, rfl⟩
      | 1 => exact ⟨(outs x0 x1 x3 (scan x4 (driveX x0 x2 x4) (driveZ x0 x2 x4)))[2]'(by simp [outs]), List.getElem_mem _, rfl, rfl, rfl⟩
      | 2 => exact ⟨(outs x0 x1 x3 (scan x4 (driveX x0 x2 x4) (driveZ x0 x2 x4)))[1]'(by simp [outs]), List.getElem_mem _, rfl, rfl, rfl⟩
      | 3 => exact ⟨(outs x0 x1 x3 (scan x4 (driveX x0 x2 x4) (driveZ x0 x2 x4)))[0]'(by simp [outs]), List.getElem_mem _, rfl, rfl, rfl⟩
    obtain ⟨p, hp, e1, e2, e3⟩ := pieces g
    refine ⟨p, hp, ?_⟩
    rw [LoadRect.mem_set]
    intro d
    rw [e1, e2, e3]
    fin_cases d
    · exact ⟨0, by decide, by simp [ix3]⟩
    · exact ⟨r.val, r.isLt, by show r.val = 0 + 1 * r.val; omega⟩
    · exact ⟨j.val, j.isLt, by show j.val = 0 + 1 * j.val; omega⟩

end Cert.KernelIdeal.Ssm
end
-- ==== Proof.Tables.lean ====
module

public import Idealize.ShloMosaic.Lib.Pointwise

/-!
# The tables of the state-space scan, over the reals

The inputs as real numbers and, from them, what the host operations tabulate: the powers of a lane's decay, the zero-order-hold input matrix, the lag kernel, the maps into and out of a
chunk's state, and the rows of decays.
-/

@[expose] public section
noncomputable section
namespace Cert.Ssm

/-- The inputs, as real numbers: `u` at batch, step, group and channel; the decay `ar + i ai` of a group and lane; the logarithm `ld` of a group's step; the input matrix `br + i bi` and the
output matrix `cr + i ci` of a group; and the direct term `ds`. -/
structure Params where
  u : Fin 4 → Fin 4096 → Fin 56 → Fin 16 → ℝ
  ar : Fin 56 → Fin 64 → ℝ
  ai : Fin 56 → Fin 64 → ℝ
  ld : Fin 56 → ℝ
  br : Fin 56 → Fin 64 → Fin 16 → ℝ
  bi : Fin 56 → Fin 64 → Fin 16 → ℝ
  cr : Fin 56 → Fin 16 → Fin 64 → ℝ
  ci : Fin 56 → Fin 16 → Fin 64 → ℝ
  ds : Fin 56 → Fin 16 → ℝ

namespace Params

variable (p : Params)

/-- The real part of the decay over `t` steps. -/
def pr (g : Fin 56) (t : ℝ) (n : Fin 64) : ℝ := Real.exp (p.ar g n * Real.exp (p.ld g) * t) * Real.cos (p.ai g n * Real.exp (p.ld g) * t)
/-- The imaginary part of the decay over `t` steps. -/
def pi (g : Fin 56) (t : ℝ) (n : Fin 64) : ℝ := Real.exp (p.ar g n * Real.exp (p.ld g) * t) * Real.sin (p.ai g n * Real.exp (p.ld g) * t)

/-- The squared modulus of a decay rate. -/
def den (g : Fin 56) (n : Fin 64) : ℝ := p.ar g n * p.ar g n + p.ai g n * p.ai g n

/-- The real part of the zero-order-hold factor `(exp (a dt) - 1) / a`. -/
def fr (g : Fin 56) (n : Fin 64) : ℝ := (p.pr g 1 n - 1) * (p.ar g n / p.den g n) - p.pi g 1 n * (-p.ai g n / p.den g n)
/-- The imaginary part of the zero-order-hold factor. -/
def fi (g : Fin 56) (n : Fin 64) : ℝ := (p.pr g 1 n - 1) * (-p.ai g n / p.den g n) + p.pi g 1 n * (p.ar g n / p.den g n)

/-- The real part of the discretised input matrix. -/
def bbr (g : Fin 56) (n : Fin 64) (x : Fin 16) : ℝ := p.fr g n * p.br g n x - p.fi g n * p.bi g n x
/-- The imaginary part of the discretised input matrix. -/
def bbi (g : Fin 56) (n : Fin 64) (x : Fin 16) : ℝ := p.fr g n * p.bi g n x + p.fi g n * p.br g n x

/-- The real part of the output matrix times the decay over `t` steps. -/
def car (g : Fin 56) (t : ℝ) (q : Fin 16) (n : Fin 64) : ℝ := p.cr g q n * p.pr g t n - p.ci g q n * p.pi g t n
/-- The imaginary part of the output matrix times the decay over `t` steps. -/
def cai (g : Fin 56) (t : ℝ) (q : Fin 16) (n : Fin 64) : ℝ := p.cr g q n * p.pi g t n + p.ci g q n * p.pr g t n

/-- The lag kernel: what channel `x` adds to channel `q` `s` steps later, the direct term at lag zero included. -/
def kern (g : Fin 56) (s q x : Fin 16) : ℝ :=
  ∑ n, p.car g (s.val : ℝ) q n * p.bbr g n x - ∑ n, p.cai g (s.val : ℝ) q n * p.bbi g n x
    + if s = 0 then p.ds g q * (if q = x then 1 else 0) else 0

/-- The real part of what channel `x` at step `s` of a chunk adds to the state at the chunk's end. -/
def wr (g : Fin 56) (s x : Fin 16) (n : Fin 64) : ℝ := p.pr g ((15 - s.val : ℕ) : ℝ) n * p.bbr g n x - p.pi g ((15 - s.val : ℕ) : ℝ) n * p.bbi g n x
/-- The imaginary part of what channel `x` at step `s` of a chunk adds to the state at the chunk's end. -/
def wi (g : Fin 56) (s x : Fin 16) (n : Fin 64) : ℝ := p.pr g ((15 - s.val : ℕ) : ℝ) n * p.bbi g n x + p.pi g ((15 - s.val : ℕ) : ℝ) n * p.bbr g n x

/-- The lag kernel as the matrix the kernel reads: row `x`, column `16 s + q`. -/
def M (g : Fin 56) (x : Fin 16) (j : Fin 256) : ℝ := p.kern g ⟨j.val / 16, by omega⟩ ⟨j.val % 16, by omega⟩ x

/-- The maps into the state: row `16 s + x`, and four column blocks of 64 lanes, the real part, the imaginary part twice, the real part. -/
def W (g : Fin 56) (j l : Fin 256) : ℝ :=
  if l.val < 64 then p.wr g ⟨j.val / 16, by omega⟩ ⟨j.val % 16, by omega⟩ ⟨l.val % 64, by omega⟩
  else if l.val < 192 then p.wi g ⟨j.val / 16, by omega⟩ ⟨j.val % 16, by omega⟩ ⟨l.val % 64, by omega⟩
  else p.wr g ⟨j.val / 16, by omega⟩ ⟨j.val % 16, by omega⟩ ⟨l.val % 64, by omega⟩

/-- The maps out of the state: 64 lanes of real part, 64 of imaginary part; column `16 s + q`. -/
def V (g : Fin 56) (l : Fin 128) (j : Fin 256) : ℝ :=
  if l.val < 64 then p.car g ((j.val / 16 + 1 : ℕ) : ℝ) ⟨j.val % 16, by omega⟩ ⟨l.val % 64, by omega⟩
  else -p.cai g ((j.val / 16 + 1 : ℕ) : ℝ) ⟨j.val % 16, by omega⟩ ⟨l.val % 64, by omega⟩

/-- The rows of decays: over sixteen steps in rows 0 to 2, over thirty-two in rows 3 to 5. -/
def P (g : Fin 56) (k : Fin 8) (l : Fin 128) : ℝ :=
  let n : Fin 64 := ⟨l.val % 64, by omega⟩
  ![p.pr g 16 n, if l.val < 64 then -p.pi g 16 n else p.pi g 16 n, if l.val < 64 then p.pi g 16 n else -p.pi g 16 n,
    p.pr g 32 n, if l.val < 64 then -p.pi g 32 n else p.pi g 32 n, if l.val < 64 then p.pi g 32 n else -p.pi g 32 n, 0, 0] k

/-- The inputs by group, chunk row `256 b + c` and chunk column `16 s + x`. -/
def U (g : Fin 56) (r : Fin 1024) (j : Fin 256) : ℝ :=
  p.u ⟨r.val / 256, by omega⟩ ⟨r.val % 256 * 16 + j.val / 16, by omega⟩ g ⟨j.val % 16, by omega⟩

/-- The real part of what step `t` adds to the state. -/
def bur (b : Fin 4) (t : Fin 4096) (g : Fin 56) (n : Fin 64) : ℝ := ∑ x, p.bbr g n x * p.u b t g x
/-- The imaginary part of what step `t` adds to the state. -/
def bui (b : Fin 4) (t : Fin 4096) (g : Fin 56) (n : Fin 64) : ℝ := ∑ x, p.bbi g n x * p.u b t g x

/-- The state, real and imaginary part, after the first `k` steps. -/
def st (b : Fin 4) (g : Fin 56) (n : Fin 64) : ℕ → ℝ × ℝ
  | 0 => (0, 0)
  | k + 1 => (p.pr g 1 n * (st b g n k).1 - p.pi g 1 n * (st b g n k).2 + p.bur b ⟨k % 4096, Nat.mod_lt _ (by decide)⟩ g n,
      p.pr g 1 n * (st b g n k).2 + p.pi g 1 n * (st b g n k).1 + p.bui b ⟨k % 4096, Nat.mod_lt _ (by decide)⟩ g n)

/-- The output at batch `b`, step `t`, group `g`, channel `q`. -/
def y (b : Fin 4) (t : Fin 4096) (g : Fin 56) (q : Fin 16) : ℝ :=
  ∑ n, p.cr g q n * (p.st b g n (t.val + 1)).1 - ∑ n, p.ci g q n * (p.st b g n (t.val + 1)).2 + p.ds g q * p.u b t g q

end Params
end Cert.Ssm
end
-- ==== Proof.SsmMath.lean ====
module

public import proofs.«01_k».proof.Proof.SsmValue
public import proofs.«01_k».proof.Proof.Tables

/-!
# The chunked scan computes the recurrence

The state as a complex number a lane: `sixteen` steps at once from a chunk's start, two chunks at once in the loop, and the output of a chunk from its start and its own inputs.
-/

@[expose] public section
noncomputable section
namespace Cert.Ssm
open Cert.KernelIdeal.Ssm

variable (p : Params) (g : Fin 56)

/-- The decay over one step. -/
def dec (n : Fin 64) : ℂ := ⟨p.pr g 1 n, p.pi g 1 n⟩
/-- The discretised input matrix. -/
def bb (n : Fin 64) (x : Fin 16) : ℂ := ⟨p.bbr g n x, p.bbi g n x⟩
/-- The output matrix. -/
def cc (q : Fin 16) (n : Fin 64) : ℂ := ⟨p.cr g q n, p.ci g q n⟩
/-- What step `t` adds to the state; nothing past the last step. -/
def add (b : Fin 4) (n : Fin 64) (t : ℕ) : ℂ := ⟨p.bur b ⟨t % 4096, Nat.mod_lt _ (by decide)⟩ g n, p.bui b ⟨t % 4096, Nat.mod_lt _ (by decide)⟩ g n⟩
/-- The state after `k` steps. -/
def sta (b : Fin 4) (n : Fin 64) (k : ℕ) : ℂ := ⟨(p.st b g n k).1, (p.st b g n k).2⟩

theorem dec_pow (n : Fin 64) (t : ℕ) : dec p g n ^ t = ⟨p.pr g (t : ℝ) n, p.pi g (t : ℝ) n⟩ := by
  induction t with
  | zero => apply Complex.ext <;> simp [Params.pr, Params.pi]
  | succ t ih =>
    rw [pow_succ, ih]
    have hc : p.ai g n * Real.exp (p.ld g) * ((t + 1 : ℕ) : ℝ) = p.ai g n * Real.exp (p.ld g) * t + p.ai g n * Real.exp (p.ld g) * 1 := by push_cast; ring
    have he : p.ar g n * Real.exp (p.ld g) * ((t + 1 : ℕ) : ℝ) = p.ar g n * Real.exp (p.ld g) * t + p.ar g n * Real.exp (p.ld g) * 1 := by push_cast; ring
    apply Complex.ext
    · simp only [dec, Complex.mul_re, Params.pr, Params.pi, hc, he, Real.exp_add, Real.cos_add]
      ring
    · simp only [dec, Complex.mul_im, Params.pr, Params.pi, hc, he, Real.exp_add, Real.sin_add]
      ring

theorem sta_zero (b : Fin 4) (n : Fin 64) : sta p g b n 0 = 0 := rfl

theorem sta_succ (b : Fin 4) (n : Fin 64) (k : ℕ) : sta p g b n (k + 1) = dec p g n * sta p g b n k + add p g b n k := by
  apply Complex.ext
  · simp [sta, dec, add, Params.st]
  · simp [sta, dec, add, Params.st]

/-- Several steps at once. -/
theorem sta_add (b : Fin 4) (n : Fin 64) (k s : ℕ) :
    sta p g b n (k + s) = dec p g n ^ s * sta p g b n k + ∑ i ∈ Finset.range s, dec p g n ^ (s - 1 - i) * add p g b n (k + i) := by
  induction s with
  | zero => simp
  | succ s ih =>
    rw [← Nat.add_assoc, sta_succ, ih, Finset.sum_range_succ, mul_add, Finset.mul_sum, pow_succ']
    have e : ∀ i ∈ Finset.range s, dec p g n * (dec p g n ^ (s - 1 - i) * add p g b n (k + i)) = dec p g n ^ (s + 1 - 1 - i) * add p g b n (k + i) := by
      intro i hi
      have hi := Finset.mem_range.1 hi
      rw [show s + 1 - 1 - i = (s - 1 - i) + 1 by omega, pow_succ']
      ring
    rw [Finset.sum_congr rfl e]
    simp only [Nat.add_sub_cancel, Nat.sub_self, pow_zero, one_mul]
    ring

/-- A sum over a chunk's columns is one over its steps and channels. -/
theorem sum_cols {R : Type} [AddCommMonoid R] (f : Fin 256 → R) :
    ∑ x, f x = ∑ s : Fin 16, ∑ q : Fin 16, f ⟨16 * s.val + q.val, by omega⟩ := by
  rw [← Fintype.sum_prod_type' (fun (s q : Fin 16) => f ⟨16 * s.val + q.val, by omega⟩)]
  refine (Fintype.sum_equiv (finProdFinEquiv (m := 16) (n := 16)) _ _ fun x => congrArg f (Fin.ext ?_)).symm
  show 16 * x.1.val + x.2.val = x.2.val + 16 * x.1.val
  omega

theorem sum_lanes {R : Type} [AddCommMonoid R] (f : Fin 128 → R) :
    ∑ l, f l = ∑ n : Fin 64, (f ⟨n.val, by omega⟩ + f ⟨64 + n.val, by omega⟩) := by
  rw [Finset.sum_add_distrib]
  exact Fin.sum_univ_add (a := 64) (b := 64) f

/-- A lane's two numbers: the real part first in the first half, the imaginary part first in the second. -/
def pair (l : Fin 128) (z : ℂ) : ℝ × ℝ := if l.val < 64 then (z.re, z.im) else (z.im, z.re)

theorem pair_zero (l : Fin 128) : pair l 0 = (0, 0) := by unfold pair; split <;> rfl
theorem pair_add (l : Fin 128) (z w : ℂ) : pair l (z + w) = ((pair l z).1 + (pair l w).1, (pair l z).2 + (pair l w).2) := by
  unfold pair; split <;> simp
theorem pair_smul (l : Fin 128) (a : ℝ) (z : ℂ) : pair l (a * z) = (a * (pair l z).1, a * (pair l z).2) := by
  unfold pair; split <;> simp
theorem pair_sum (l : Fin 128) {ι : Type} [Fintype ι] (f : ι → ℂ) : pair l (∑ i, f i) = (∑ i, (pair l (f i)).1, ∑ i, (pair l (f i)).2) := by
  unfold pair; split <;> simp

/-- The number of a lane. -/
abbrev lane (l : Fin 128) : Fin 64 := ⟨l.val % 64, by omega⟩

theorem pair_mul16 (l : Fin 128) (z : ℂ) :
    pair l (dec p g (lane l) ^ 16 * z)
      = (p.P g 0 l * (pair l z).1 + p.P g 1 l * (pair l z).2, p.P g 0 l * (pair l z).2 + p.P g 2 l * (pair l z).1) := by
  rw [dec_pow]
  have h0 : p.P g 0 l = p.pr g 16 (lane l) := rfl
  have h1 : p.P g 1 l = if l.val < 64 then -p.pi g 16 (lane l) else p.pi g 16 (lane l) := rfl
  have h2 : p.P g 2 l = if l.val < 64 then p.pi g 16 (lane l) else -p.pi g 16 (lane l) := rfl
  rw [h0, h1, h2]
  unfold pair
  split <;> simp <;> ring_nf <;> simp

theorem pair_mul32 (l : Fin 128) (z : ℂ) :
    pair l (dec p g (lane l) ^ 32 * z)
      = (p.P g 3 l * (pair l z).1 + p.P g 4 l * (pair l z).2, p.P g 3 l * (pair l z).2 + p.P g 5 l * (pair l z).1) := by
  rw [dec_pow]
  have h0 : p.P g 3 l = p.pr g 32 (lane l) := rfl
  have h1 : p.P g 4 l = if l.val < 64 then -p.pi g 32 (lane l) else p.pi g 32 (lane l) := rfl
  have h2 : p.P g 5 l = if l.val < 64 then p.pi g 32 (lane l) else -p.pi g 32 (lane l) := rfl
  rw [h0, h1, h2]
  unfold pair
  split <;> simp <;> ring_nf <;> simp

/-- What a chunk's inputs add to its state. -/
def chunk (r : Fin 1024) (n : Fin 64) : ℂ :=
  ∑ x : Fin 256, (p.U g r x : ℂ) * (dec p g n ^ (15 - x.val / 16) * bb p g n ⟨x.val % 16, by omega⟩)

theorem pair_W (x : Fin 256) (l : Fin 128) :
    pair l (dec p g (lane l) ^ (15 - x.val / 16) * bb p g (lane l) ⟨x.val % 16, by omega⟩) = (p.W g x (lo l), p.W g x (hi l)) := by
  have el : (⟨(lo l).val % 64, by omega⟩ : Fin 64) = lane l := rfl
  have eh : (⟨(hi l).val % 64, by omega⟩ : Fin 64) = lane l := Fin.ext (by show (128 + l.val) % 64 = l.val % 64; omega)
  rw [dec_pow]
  unfold Params.W pair
  rw [el, eh]
  by_cases hl : l.val < 64
  · rw [if_pos hl, if_pos (show (lo l).val < 64 from hl), if_neg (show ¬ (hi l).val < 64 by show ¬ 128 + l.val < 64; omega), if_pos (show (hi l).val < 192 by show 128 + l.val < 192; omega)]
    simp only [bb, Complex.mul_re, Complex.mul_im, Params.wr, Params.wi]
  · rw [if_neg hl, if_neg (show ¬ (lo l).val < 64 from hl), if_pos (show (lo l).val < 192 by show l.val < 192; omega), if_neg (show ¬ (hi l).val < 64 by show ¬ 128 + l.val < 64; omega), if_neg (show ¬ (hi l).val < 192 by show ¬ 128 + l.val < 192; omega)]
    simp only [bb, Complex.mul_re, Complex.mul_im, Params.wr, Params.wi]

theorem pair_chunk (r : Fin 1024) (l : Fin 128) : pair l (chunk p g r (lane l)) = (inp (p.U g) (p.W g) r (lo l), inp (p.U g) (p.W g) r (hi l)) := by
  unfold chunk
  rw [pair_sum]
  simp only [pair_smul, pair_W]
  rfl

/-- The chunk before, nothing before a batch element's first. -/
def prev (f : Fin 1024 → ℂ) (r : Fin 1024) : ℂ := if r.val % 256 = 0 then 0 else f ⟨(r.val + 1024 - 1) % 1024, Nat.mod_lt _ (by decide)⟩

theorem pair_prev (f : Fin 1024 → ℂ) (r : Fin 1024) (l : Fin 128) :
    pair l (prev f r) = (before (fun r => (pair l (f r)).1) r, before (fun r => (pair l (f r)).2) r) := by
  unfold prev before
  split
  · exact pair_zero l
  · rfl

/-- What two chunks' inputs add to the state. -/
def chunk2 (r : Fin 1024) (n : Fin 64) : ℂ := chunk p g r n + dec p g n ^ 16 * prev (chunk p g · n) r

theorem pair_chunk2 (r : Fin 1024) (l : Fin 128) : pair l (chunk2 p g r (lane l)) = (drvX (p.U g) (p.W g) (p.P g) r l, drvZ (p.U g) (p.W g) (p.P g) r l) := by
  unfold chunk2
  rw [pair_add, pair_mul16, pair_prev]
  simp only [pair_chunk]
  unfold drvX drvZ
  rw [add_assoc, add_assoc]

/-- The loop's recurrence over complex numbers. -/
def crec (n : Fin 64) : ℕ → Fin 8 → ℂ
  | 0, _ => 0
  | k + 1, i => dec p g n ^ 32 * crec n k i + chunk2 p g (rowOf ⟨(8 * k + i.val) % 1024, Nat.mod_lt _ (by decide)⟩) n

theorem pair_crec (k : ℕ) (i : Fin 8) (l : Fin 128) :
    pair l (crec p g (lane l) k i)
      = rec2 (p.P g 3) (p.P g 4) (p.P g 5) (fun r => drvX (p.U g) (p.W g) (p.P g) (rowOf r)) (fun r => drvZ (p.U g) (p.W g) (p.P g) (rowOf r)) k i l := by
  induction k with
  | zero => exact pair_zero l
  | succ k ih =>
    show pair l (_ * _ + _) = _
    rw [pair_add, pair_mul32, pair_chunk2, ih]
    rfl

theorem add_eq (b : Fin 4) (n : Fin 64) (t : ℕ) (ht : t < 4096) : add p g b n t = ∑ x, bb p g n x * (p.u b ⟨t, ht⟩ g x : ℂ) := by
  have e : (⟨t % 4096, Nat.mod_lt _ (by decide)⟩ : Fin 4096) = ⟨t, ht⟩ := Fin.ext (Nat.mod_eq_of_lt ht)
  unfold add
  rw [e]
  apply Complex.ext
  · simp [Params.bur, bb]
  · simp [Params.bui, bb]

theorem U_eq (b : Fin 4) (c : ℕ) (hc : c < 256) (s x : Fin 16) :
    p.U g ⟨256 * b.val + c, by omega⟩ ⟨16 * s.val + x.val, by omega⟩ = p.u b ⟨16 * c + s.val, by omega⟩ g x := by
  have e1 : (⟨(256 * b.val + c) / 256, by omega⟩ : Fin 4) = b := Fin.ext (by show (256 * b.val + c) / 256 = b.val; omega)
  have e2 : (256 * b.val + c) % 256 * 16 + (16 * s.val + x.val) / 16 = 16 * c + s.val := by omega
  have e3 : (⟨(16 * s.val + x.val) % 16, by omega⟩ : Fin 16) = x := Fin.ext (by show (16 * s.val + x.val) % 16 = x.val; omega)
  unfold Params.U
  simp only [e1, e2, e3]

/-- A chunk's inputs, as the sixteen steps. -/
theorem chunk_eq (b : Fin 4) (c : ℕ) (hc : c < 256) (n : Fin 64) :
    chunk p g ⟨256 * b.val + c, by omega⟩ n = ∑ i ∈ Finset.range 16, dec p g n ^ (16 - 1 - i) * add p g b n (16 * c + i) := by
  unfold chunk
  rw [sum_cols, ← Fin.sum_univ_eq_sum_range (fun i => dec p g n ^ (16 - 1 - i) * add p g b n (16 * c + i)) 16]
  refine Finset.sum_congr rfl fun s _ => ?_
  rw [add_eq p g b n (16 * c + s.val) (by omega), Finset.mul_sum]
  refine Finset.sum_congr rfl fun x _ => ?_
  have e1 : (16 * s.val + x.val) / 16 = s.val := by omega
  have e2 : (⟨(16 * s.val + x.val) % 16, by omega⟩ : Fin 16) = x := Fin.ext (by show (16 * s.val + x.val) % 16 = x.val; omega)
  simp only [U_eq p g b c hc, e1, e2]
  ring

/-- A chunk's end from its start. -/
theorem sta_chunk (b : Fin 4) (c : ℕ) (hc : c < 256) (n : Fin 64) :
    sta p g b n (16 * (c + 1)) = dec p g n ^ 16 * sta p g b n (16 * c) + chunk p g ⟨256 * b.val + c, by omega⟩ n := by
  rw [chunk_eq p g b c hc n, Nat.mul_succ, sta_add]

/-- A chunk's end from the start of the chunk before it. -/
theorem sta_chunk2 (b : Fin 4) (c : ℕ) (hc : c < 256) (n : Fin 64) :
    sta p g b n (16 * (c + 1)) = dec p g n ^ 32 * sta p g b n (16 * (c - 1)) + chunk2 p g ⟨256 * b.val + c, by omega⟩ n := by
  rw [sta_chunk p g b c hc n]
  unfold chunk2 prev
  rcases Nat.eq_zero_or_pos c with rfl | h
  · rw [if_pos (by show (256 * b.val + 0) % 256 = 0; omega)]
    show _ * sta p g b n 0 + _ = _ * sta p g b n 0 + _
    rw [sta_zero]
    ring
  · obtain ⟨d, rfl⟩ : ∃ d, c = d + 1 := ⟨c - 1, by omega⟩
    rw [if_neg (by show ¬ (256 * b.val + (d + 1)) % 256 = 0; omega), sta_chunk p g b d (by omega) n]
    have e : (⟨((256 * b.val + (d + 1)) + 1024 - 1) % 1024, Nat.mod_lt _ (by decide)⟩ : Fin 1024) = ⟨256 * b.val + d, by omega⟩ :=
      Fin.ext (by show ((256 * b.val + (d + 1)) + 1024 - 1) % 1024 = 256 * b.val + d; omega)
    rw [e, Nat.add_sub_cancel]
    ring

/-- The loop's states are the chunks' ends. -/
theorem crec_eq (n : Fin 64) (k : ℕ) (hk : k < 128) (i : Fin 8) :
    crec p g n (k + 1) i = sta p g ⟨i.val % 4, by omega⟩ n (16 * (2 * k + i.val / 4 + 1)) := by
  induction k with
  | zero =>
    show _ * 0 + chunk2 p g _ n = _
    rw [sta_chunk2 p g _ _ (by omega) n]
    have e : 16 * (2 * 0 + i.val / 4 - 1) = 0 := by omega
    rw [e, sta_zero]
    congr 2
    exact Fin.ext (by show 256 * ((8 * 0 + i.val) % 1024 % 4) + (8 * 0 + i.val) % 1024 / 4 = 256 * (i.val % 4) + (2 * 0 + i.val / 4); omega)
  | succ k ih =>
    show _ * crec p g n (k + 1) i + chunk2 p g _ n = _
    rw [ih (by omega), sta_chunk2 p g _ (2 * (k + 1) + i.val / 4) (by omega) n]
    have e : 2 * (k + 1) + i.val / 4 - 1 = 2 * k + i.val / 4 + 1 := by omega
    rw [e]
    congr 2
    exact Fin.ext (by show 256 * ((8 * (k + 1) + i.val) % 1024 % 4) + (8 * (k + 1) + i.val) % 1024 / 4 = 256 * (i.val % 4) + (2 * (k + 1) + i.val / 4); omega)

/-- What a chunk starts from, in the lane's first number. -/
theorem start_eq (b : Fin 4) (c : ℕ) (hc : c < 256) (l : Fin 128) :
    startOf (p.U g) (p.W g) (p.P g) ⟨256 * b.val + c, by omega⟩ l = (pair l (sta p g b (lane l) (16 * c))).1 := by
  unfold startOf before
  rcases Nat.eq_zero_or_pos c with rfl | h
  · rw [if_pos (by show (256 * b.val + 0) % 256 = 0; omega)]
    show 0 = (pair l (sta p g b (lane l) 0)).1
    rw [sta_zero, pair_zero]
  · obtain ⟨d, rfl⟩ : ∃ d, c = d + 1 := ⟨c - 1, by omega⟩
    rw [if_neg (by show ¬ (256 * b.val + (d + 1)) % 256 = 0; omega)]
    have e : (⟨((256 * b.val + (d + 1)) + 1024 - 1) % 1024, Nat.mod_lt _ (by decide)⟩ : Fin 1024) = ⟨256 * b.val + d, by omega⟩ :=
      Fin.ext (by show ((256 * b.val + (d + 1)) + 1024 - 1) % 1024 = 256 * b.val + d; omega)
    rw [e]
    show stateOf (p.U g) (p.W g) (p.P g) ⟨4 * ((256 * b.val + d) % 256) + (256 * b.val + d) / 256, by omega⟩ l = _
    have e' : (⟨4 * ((256 * b.val + d) % 256) + (256 * b.val + d) / 256, by omega⟩ : Fin 1024) = ⟨4 * d + b.val, by omega⟩ :=
      Fin.ext (by show 4 * ((256 * b.val + d) % 256) + (256 * b.val + d) / 256 = 4 * d + b.val; omega)
    rw [e']
    unfold stateOf
    rw [← pair_crec, crec_eq _ _ _ _ (by show (4 * d + b.val) / 8 < 128; omega)]
    have e1 : (⟨(4 * d + b.val) % 8 % 4, by omega⟩ : Fin 4) = b := Fin.ext (by show (4 * d + b.val) % 8 % 4 = b.val; omega)
    have e2 : 16 * (2 * ((4 * d + b.val) / 8) + (4 * d + b.val) % 8 / 4 + 1) = 16 * (d + 1) := by omega
    simp only [e1, e2]

theorem V_eq (b : Fin 4) (c : ℕ) (hc : c < 256) (s q : Fin 16) :
    ∑ l, startOf (p.U g) (p.W g) (p.P g) ⟨256 * b.val + c, by omega⟩ l * p.V g l ⟨16 * s.val + q.val, by omega⟩
      = ∑ n, (cc p g q n * (dec p g n ^ (s.val + 1) * sta p g b n (16 * c))).re := by
  rw [sum_lanes]
  refine Finset.sum_congr rfl fun n _ => ?_
  rw [start_eq p g b c hc, start_eq p g b c hc]
  have e1 : lane ⟨n.val, by omega⟩ = n := Fin.ext (by show n.val % 64 = n.val; omega)
  have e2 : lane ⟨64 + n.val, by omega⟩ = n := Fin.ext (by show (64 + n.val) % 64 = n.val; omega)
  rw [e1, e2]
  have hs : (16 * s.val + q.val) / 16 = s.val := by omega
  have hq : (⟨(16 * s.val + q.val) % 16, by omega⟩ : Fin 16) = q := Fin.ext (by show (16 * s.val + q.val) % 16 = q.val; omega)
  have v1 : p.V g ⟨n.val, by omega⟩ ⟨16 * s.val + q.val, by omega⟩ = p.car g ((s.val + 1 : ℕ) : ℝ) q n := by
    unfold Params.V
    rw [if_pos (show n.val < 64 by omega)]
    simp only [hs, hq]
    exact congrArg _ e1
  have v2 : p.V g ⟨64 + n.val, by omega⟩ ⟨16 * s.val + q.val, by omega⟩ = -p.cai g ((s.val + 1 : ℕ) : ℝ) q n := by
    unfold Params.V
    rw [if_neg (show ¬ 64 + n.val < 64 by omega)]
    simp only [hs, hq]
    exact congrArg (fun n => -p.cai g ((s.val + 1 : ℕ) : ℝ) q n) e2
  rw [v1, v2, dec_pow]
  unfold pair
  rw [if_pos (show n.val < 64 by omega), if_neg (show ¬ 64 + n.val < 64 by omega)]
  simp only [Complex.mul_re, Complex.mul_im, Params.car, Params.cai, cc]
  ring

theorem kern_eq (s q x : Fin 16) :
    p.kern g s q x = ∑ n, (cc p g q n * (dec p g n ^ s.val * bb p g n x)).re + if s = 0 then p.ds g q * (if q = x then 1 else 0) else 0 := by
  unfold Params.kern
  rw [← Finset.sum_sub_distrib]
  congr 1
  refine Finset.sum_congr rfl fun n _ => ?_
  rw [dec_pow]
  simp only [Complex.mul_re, Complex.mul_im, Params.car, Params.cai, cc, bb]
  ring

theorem band_eq (i s q x : Fin 16) :
    band (p.M g) ⟨16 * i.val + x.val, by omega⟩ ⟨16 * s.val + q.val, by omega⟩
      = if i.val ≤ s.val then p.kern g ⟨s.val - i.val, by omega⟩ q x else 0 := by
  unfold band
  have e1 : (16 * i.val + x.val) / 16 = i.val := by omega
  simp only [e1]
  by_cases h : i.val ≤ s.val
  · rw [if_pos h, if_pos (by omega)]
    unfold Params.M
    congr 1
    · exact Fin.ext (by show (16 * s.val + q.val - 16 * i.val) / 16 = s.val - i.val; omega)
    · exact Fin.ext (by show (16 * s.val + q.val - 16 * i.val) % 16 = q.val; omega)
    · exact Fin.ext (by show (16 * i.val + x.val) % 16 = x.val; omega)
  · rw [if_neg h, if_neg (by omega)]

/-- What a chunk's step `i` adds to its step `s`. -/
theorem lag_eq (b : Fin 4) (c : ℕ) (hc : c < 256) (i d q : Fin 16) :
    ∑ x, p.u b ⟨16 * c + i.val, by omega⟩ g x * p.kern g d q x
      = ∑ n, (cc p g q n * (dec p g n ^ d.val * add p g b n (16 * c + i.val))).re
        + if d = 0 then p.ds g q * p.u b ⟨16 * c + i.val, by omega⟩ g q else 0 := by
  have h1 : ∀ x, p.u b ⟨16 * c + i.val, by omega⟩ g x * p.kern g d q x
      = ∑ n, (cc p g q n * (dec p g n ^ d.val * (bb p g n x * (p.u b ⟨16 * c + i.val, by omega⟩ g x : ℂ)))).re
        + if d = 0 then p.ds g q * (if q = x then p.u b ⟨16 * c + i.val, by omega⟩ g x else 0) else 0 := by
    intro x
    rw [kern_eq, mul_add, Finset.mul_sum]
    congr 1
    · refine Finset.sum_congr rfl fun n _ => ?_
      rw [show cc p g q n * (dec p g n ^ d.val * (bb p g n x * (p.u b ⟨16 * c + i.val, by omega⟩ g x : ℂ)))
        = (p.u b ⟨16 * c + i.val, by omega⟩ g x : ℂ) * (cc p g q n * (dec p g n ^ d.val * bb p g n x)) by ring, Complex.re_ofReal_mul]
    · split <;> [split <;> ring; ring]
  rw [Finset.sum_congr rfl fun x _ => h1 x, Finset.sum_add_distrib, Finset.sum_comm]
  congr 1
  · refine Finset.sum_congr rfl fun n _ => ?_
    rw [add_eq p g b n (16 * c + i.val) (by omega), ← Complex.re_sum, ← Finset.mul_sum, ← Finset.mul_sum]
  · by_cases hd : d = 0
    · simp [hd]
    · simp [hd]

/-- What a chunk's own inputs add to an output. -/
theorem own_eq (b : Fin 4) (c : ℕ) (hc : c < 256) (s q : Fin 16) :
    inp (p.U g) (band (p.M g)) ⟨256 * b.val + c, by omega⟩ ⟨16 * s.val + q.val, by omega⟩
      = ∑ n, (cc p g q n * ∑ i ∈ Finset.range (s.val + 1), dec p g n ^ (s.val + 1 - 1 - i) * add p g b n (16 * c + i)).re
        + p.ds g q * p.u b ⟨16 * c + s.val, by omega⟩ g q := by
  unfold inp
  rw [sum_cols]
  have h1 : ∀ i : Fin 16, ∑ x : Fin 16, p.U g ⟨256 * b.val + c, by omega⟩ ⟨16 * i.val + x.val, by omega⟩
        * band (p.M g) ⟨16 * i.val + x.val, by omega⟩ ⟨16 * s.val + q.val, by omega⟩
      = (if i.val ≤ s.val then ∑ n, (cc p g q n * (dec p g n ^ (s.val + 1 - 1 - i.val) * add p g b n (16 * c + i.val))).re else 0)
        + if i = s then p.ds g q * p.u b ⟨16 * c + s.val, by omega⟩ g q else 0 := by
    intro i
    simp only [U_eq p g b c hc, band_eq]
    by_cases h : i.val ≤ s.val
    · simp only [if_pos h]
      rw [lag_eq p g b c hc, Nat.add_sub_cancel]
      congr 1
      by_cases e : i = s
      · subst e
        rw [if_pos rfl, if_pos (Fin.ext (Nat.sub_self _))]
      · rw [if_neg e, if_neg]
        intro h0
        have h0 : s.val - i.val = 0 := congrArg Fin.val h0
        exact e (Fin.ext (by omega))
    · have e : i ≠ s := fun e => h (le_of_eq (congrArg Fin.val e))
      simp [h, e]
  rw [Finset.sum_congr rfl fun i _ => h1 i, Finset.sum_add_distrib, Finset.sum_ite_eq' Finset.univ s, if_pos (Finset.mem_univ _)]
  congr 1
  rw [Fin.sum_univ_eq_sum_range (fun i => if i ≤ s.val then ∑ n, (cc p g q n * (dec p g n ^ (s.val + 1 - 1 - i) * add p g b n (16 * c + i))).re else 0) 16]
  rw [← Finset.sum_subset (s₁ := Finset.range (s.val + 1)) (fun i hi => Finset.mem_range.2 (by have := Finset.mem_range.1 hi; omega))
    (fun i _ hi => if_neg fun h => hi (Finset.mem_range.2 (by omega)))]
  rw [Finset.sum_congr rfl fun i hi => if_pos (Nat.lt_succ_iff.1 (Finset.mem_range.1 hi)), Finset.sum_comm]
  refine Finset.sum_congr rfl fun n _ => ?_
  rw [← Complex.re_sum, ← Finset.mul_sum]

/-- The chunked scan's output is the recurrence's. -/
theorem result_eq_aux (b : Fin 4) (c : ℕ) (hc : c < 256) (s q : Fin 16) :
    resultOf (p.U g) (p.M g) (p.W g) (p.V g) (p.P g) ⟨256 * b.val + c, by omega⟩ ⟨16 * s.val + q.val, by omega⟩
      = p.y b ⟨16 * c + s.val, by omega⟩ g q := by
  unfold resultOf
  rw [own_eq p g b c hc, V_eq p g b c hc, add_right_comm, ← Finset.sum_add_distrib]
  unfold Params.y
  rw [← Finset.sum_sub_distrib]
  congr 1
  refine Finset.sum_congr rfl fun n _ => ?_
  have e := sta_add p g b n (16 * c) (s.val + 1)
  rw [← Complex.add_re, ← mul_add, add_comm (∑ i ∈ Finset.range (s.val + 1), _), ← e, Complex.mul_re]
  rfl

theorem result_eq (r : Fin 1024) (j : Fin 256) :
    resultOf (p.U g) (p.M g) (p.W g) (p.V g) (p.P g) r j
      = p.y ⟨r.val / 256, by omega⟩ ⟨r.val % 256 * 16 + j.val / 16, by omega⟩ g ⟨j.val % 16, by omega⟩ := by
  have h := result_eq_aux p g ⟨r.val / 256, by omega⟩ (r.val % 256) (by omega) ⟨j.val / 16, by omega⟩ ⟨j.val % 16, by omega⟩
  have er : (⟨256 * (r.val / 256) + r.val % 256, by omega⟩ : Fin 1024) = r := Fin.ext (by show 256 * (r.val / 256) + r.val % 256 = r.val; omega)
  have ej : (⟨16 * (j.val / 16) + j.val % 16, by omega⟩ : Fin 256) = j := Fin.ext (by show 16 * (j.val / 16) + j.val % 16 = j.val; omega)
  have et : 16 * (r.val % 256) + j.val / 16 = r.val % 256 * 16 + j.val / 16 := by omega
  simp only [er, ej, et] at h
  exact h

end Cert.Ssm
end
-- ==== Proof.HostRead.lean ====
module

public import Idealize.ShloMosaic.Lib.StableHlo.RunRead

/-!
# A line of host operations, each written buffer as its operation's value

When no reference of a line is written twice, and an operation's operands are not written from it on, the buffer an
operation writes holds, after the whole line, the operation's function of what its operands hold after the whole line.
-/

@[expose] public section
noncomputable section
namespace Cert.HostRead
open Idealize.ShloMosaic Idealize.ShloMosaic.StableHlo

variable {τ : Topo} {sig : RefSig} {Val : EltTy → Type}

/-- The line with its written references, in order. -/
structure Line (ops : List (HloOp τ sig Val)) (W : List (Ref sig .tc)) : Prop where
  writes : ops.map HloOp.writes = W.map fun w => {Proc.devRef (τ := τ) .tc w}

variable {ops : List (HloOp τ sig Val)} {W : List (Ref sig .tc)}

theorem Line.drop (h : Line ops W) (i : ℕ) : (ops.drop i).map HloOp.writes = (W.drop i).map fun w => {Proc.devRef (τ := τ) .tc w} := by
  rw [List.map_drop, List.map_drop, h.writes]

theorem after_split (ops : List (HloOp τ sig Val)) : ∀ (i : ℕ) (V : Valuation τ sig Val), after ops V = after (ops.drop i) (after (ops.take i) V) := by
  induction ops with
  | nil => intro i V; simp
  | cons op ops ih =>
    intro i V
    cases i with
    | zero => rfl
    | succ i => exact ih i _

/-- A reference not written from position `i` on is read the same before position `i` and at the end. -/
theorem Line.operand (h : Line ops W) (i : ℕ) {x : Ref sig .tc} (hx : x ∉ W.drop i) (V : Valuation τ sig Val) :
    upto ops V i (Proc.devRef .tc x) = after ops V (Proc.devRef .tc x) := by
  rw [after_split ops i V, after_of_writes_sub (ops.drop i) _ (forall_writes_sub_of_map (h.drop i)) hx]
  rfl

/-- What operation `i` writes is read at the end as it wrote it. -/
theorem Line.result (h : Line ops W) (i : ℕ) {op : HloOp τ sig Val} (hop : ops[i]? = some op) {y : Ref sig .tc} (hy : y ∉ W.drop (i + 1))
    (V : Valuation τ sig Val) : after ops V (Proc.devRef .tc y) = op.result (upto ops V i) (Proc.devRef .tc y) := by
  obtain ⟨hi, he⟩ := List.getElem?_eq_some_iff.mp hop
  refine after_last_write (W.drop (i + 1)) ?_ (h.drop (i + 1)) hy V
  rw [List.drop_eq_getElem_cons hi, he]

variable (V : Valuation τ sig Val)

theorem Line.nullary (h : Line ops W) (i : ℕ) {y : Ref sig .tc} {v : y.ty.Contents Val} {hy'} (hop : ops[i]? = some (StableHlo.nullary y v hy'))
    (hy : y ∉ W.drop (i + 1)) : after ops V (Proc.devRef .tc y) = v := by
  rw [h.result i hop hy, nullary_result']

theorem Line.unary (h : Line ops W) (i : ℕ) {x y : Ref sig .tc} {f : x.ty.Contents Val → y.ty.Contents Val} {hx' hy'}
    (hop : ops[i]? = some (StableHlo.unary x y f hx' hy')) (hx : x ∉ W.drop i) (hy : y ∉ W.drop (i + 1)) :
    after ops V (Proc.devRef .tc y) = f (after ops V (Proc.devRef .tc x)) := by
  rw [h.result i hop hy, unary_result', h.operand i hx]

theorem Line.binary (h : Line ops W) (i : ℕ) {a b y : Ref sig .tc} {f : a.ty.Contents Val → b.ty.Contents Val → y.ty.Contents Val} {ha' hb' hy'}
    (hop : ops[i]? = some (StableHlo.binary a b y f ha' hb' hy')) (ha : a ∉ W.drop i) (hb : b ∉ W.drop i) (hy : y ∉ W.drop (i + 1)) :
    after ops V (Proc.devRef .tc y) = f (after ops V (Proc.devRef .tc a)) (after ops V (Proc.devRef .tc b)) := by
  rw [h.result i hop hy, binary_result', h.operand i ha, h.operand i hb]

theorem Line.ternary (h : Line ops W) (i : ℕ) {a b c y : Ref sig .tc}
    {f : a.ty.Contents Val → b.ty.Contents Val → c.ty.Contents Val → y.ty.Contents Val} {ha' hb' hc' hy'}
    (hop : ops[i]? = some (StableHlo.ternary a b c y f ha' hb' hc' hy')) (ha : a ∉ W.drop i) (hb : b ∉ W.drop i) (hc : c ∉ W.drop i) (hy : y ∉ W.drop (i + 1)) :
    after ops V (Proc.devRef .tc y) = f (after ops V (Proc.devRef .tc a)) (after ops V (Proc.devRef .tc b)) (after ops V (Proc.devRef .tc c)) := by
  rw [h.result i hop hy, ternary_result', h.operand i ha, h.operand i hb, h.operand i hc]

theorem Line.reshape (h : Line ops W) (i : ℕ) {x y : Ref sig .tc} {he hn hx' hy'}
    (hop : ops[i]? = some (StableHlo.reshape (Val := Val) x y he hn hx' hy')) (hx : x ∉ W.drop i) (hy : y ∉ W.drop (i + 1)) :
    after ops V (Proc.devRef .tc y) = fun i => he ▸ shapeCast y.ty.shape (after ops V (Proc.devRef .tc x)) hn i := by
  rw [h.result i hop hy, reshape_result', h.operand i hx]

theorem Line.nary (h : Line ops W) (i : ℕ) {n : ℕ} {xs : Fin n → Ref sig .tc} {y : Ref sig .tc}
    {f : ((k : Fin n) → (xs k).ty.Contents Val) → y.ty.Contents Val} {hxs' hy'}
    (hop : ops[i]? = some (StableHlo.nary xs y f hxs' hy')) (hxs : ∀ k, xs k ∉ W.drop i) (hy : y ∉ W.drop (i + 1)) :
    after ops V (Proc.devRef .tc y) = f (fun k => after ops V (Proc.devRef .tc (xs k))) := by
  rw [h.result i hop hy, nary_result']
  congr 1
  funext k
  exact h.operand i (hxs k) V

end Cert.HostRead
end
-- ==== Proof.HostEqs.lean ====
module

public import proofs.«01_k».proof.Proof.Gen.KernelIdeal.Frame
public import proofs.«01_k».proof.Proof.HostRead
public import Idealize.ShloMosaic.Lib.Pointwise

/-!
# The host operations' buffers

What each buffer holds after the host operations, as its operation's value of the buffers it reads.
-/

@[expose] public section
set_option maxRecDepth 65536
set_option maxHeartbeats 4000000
noncomputable section
namespace Cert.KernelIdeal.Host
open Cert.KernelIdeal.Gen Cert.HostRead
open Idealize.ShloMosaic Idealize.ShloMosaic.TcCoe

variable (m : (ℓ : Loc nD τ sig) → Buf (Elt Ideal) ℓ) (c : Dev nD)

/-- The references the line writes, in order. -/
noncomputable def written : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_cst, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_c, main_v83, main_v84, main_v85, main_v86, main_v87, main_v88, main_v89, main_v90, main_c_0, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_cst_1, main_v168, main_v169, main_v170, main_v171, main_v172, main_v173, main_v174, main_v175, main_v176, main_v177, main_v178, main_v179]

theorem line : Line (hostOps0 : List (HloOp τ sig (Elt Ideal))) written := ⟨rfl⟩

noncomputable def arg0 : FVec Ideal S4x4096x56x16 .f32 := V m c main_arg0
noncomputable def arg1 : FVec Ideal S56x64 .f32 := V m c main_arg1
noncomputable def arg2 : FVec Ideal S56x64 .f32 := V m c main_arg2
noncomputable def arg3 : FVec Ideal S56 .f32 := V m c main_arg3
noncomputable def arg4 : FVec Ideal S56x64x16 .f32 := V m c main_arg4
noncomputable def arg5 : FVec Ideal S56x64x16 .f32 := V m c main_arg5
noncomputable def arg6 : FVec Ideal S56x16x64 .f32 := V m c main_arg6
noncomputable def arg7 : FVec Ideal S56x16x64 .f32 := V m c main_arg7
noncomputable def arg8 : FVec Ideal S56x16 .f32 := V m c main_arg8
noncomputable def v0 : FVec Ideal S1024x16x56x16 .f32 := V m c main_v0
noncomputable def v1 : FVec Ideal S56x1024x16x16 .f32 := V m c main_v1
noncomputable def v2 : FVec Ideal S56x1024x256 .f32 := V m c main_v2
noncomputable def v3 : FVec Ideal S56x1024x256 .bf16 := V m c main_v3
noncomputable def v4 : FVec Ideal S56 .f32 := V m c main_v4
noncomputable def v5 : FVec Ideal S56x1 .f32 := V m c main_v5
noncomputable def v6 : FVec Ideal S33 .f32 := V m c main_v6
noncomputable def v7 : FVec Ideal S1x33x1 .f32 := V m c main_v7
noncomputable def v8 : FVec Ideal S56x1x64 .f32 := V m c main_v8
noncomputable def v9 : FVec Ideal S56x1x1 .f32 := V m c main_v9
noncomputable def v10 : FVec Ideal S56x1x64 .f32 := V m c main_v10
noncomputable def v11 : FVec Ideal S56x1x64 .f32 := V m c main_v11
noncomputable def v12 : FVec Ideal S56x33x64 .f32 := V m c main_v12
noncomputable def v13 : FVec Ideal S56x33x64 .f32 := V m c main_v13
noncomputable def v14 : FVec Ideal S56x33x64 .f32 := V m c main_v14
noncomputable def v15 : FVec Ideal S56x33x64 .f32 := V m c main_v15
noncomputable def v16 : FVec Ideal S56x1x64 .f32 := V m c main_v16
noncomputable def v17 : FVec Ideal S56x1x1 .f32 := V m c main_v17
noncomputable def v18 : FVec Ideal S56x1x64 .f32 := V m c main_v18
noncomputable def v19 : FVec Ideal S56x1x64 .f32 := V m c main_v19
noncomputable def v20 : FVec Ideal S56x33x64 .f32 := V m c main_v20
noncomputable def v21 : FVec Ideal S56x33x64 .f32 := V m c main_v21
noncomputable def v22 : FVec Ideal S56x33x64 .f32 := V m c main_v22
noncomputable def v23 : FVec Ideal S56x33x64 .f32 := V m c main_v23
noncomputable def v24 : FVec Ideal S56x33x64 .f32 := V m c main_v24
noncomputable def v25 : FVec Ideal S56x33x64 .f32 := V m c main_v25
noncomputable def v26 : FVec Ideal S56x33x64 .f32 := V m c main_v26
noncomputable def v27 : FVec Ideal S56x1x64 .f32 := V m c main_v27
noncomputable def v28 : FVec Ideal S56x64 .f32 := V m c main_v28
noncomputable def v29 : FVec Ideal S56x1x64 .f32 := V m c main_v29
noncomputable def v30 : FVec Ideal S56x64 .f32 := V m c main_v30
noncomputable def v31 : FVec Ideal S56x64 .f32 := V m c main_v31
noncomputable def v32 : FVec Ideal S56x64 .f32 := V m c main_v32
noncomputable def v33 : FVec Ideal S56x64 .f32 := V m c main_v33
noncomputable def cst : FVec Ideal S_ .f32 := V m c main_cst
noncomputable def v34 : FVec Ideal S56x64 .f32 := V m c main_v34
noncomputable def v35 : FVec Ideal S56x64 .f32 := V m c main_v35
noncomputable def v36 : FVec Ideal S56x64 .f32 := V m c main_v36
noncomputable def v37 : FVec Ideal S56x64 .f32 := V m c main_v37
noncomputable def v38 : FVec Ideal S56x64 .f32 := V m c main_v38
noncomputable def v39 : FVec Ideal S56x64 .f32 := V m c main_v39
noncomputable def v40 : FVec Ideal S56x64 .f32 := V m c main_v40
noncomputable def v41 : FVec Ideal S56x64 .f32 := V m c main_v41
noncomputable def v42 : FVec Ideal S56x64 .f32 := V m c main_v42
noncomputable def v43 : FVec Ideal S56x64 .f32 := V m c main_v43
noncomputable def v44 : FVec Ideal S56x64 .f32 := V m c main_v44
noncomputable def v45 : FVec Ideal S56x64x1 .f32 := V m c main_v45
noncomputable def v46 : FVec Ideal S56x64x1 .f32 := V m c main_v46
noncomputable def v47 : FVec Ideal S56x64x16 .f32 := V m c main_v47
noncomputable def v48 : FVec Ideal S56x64x16 .f32 := V m c main_v48
noncomputable def v49 : FVec Ideal S56x64x16 .f32 := V m c main_v49
noncomputable def v50 : FVec Ideal S56x64x16 .f32 := V m c main_v50
noncomputable def v51 : FVec Ideal S56x64x16 .f32 := V m c main_v51
noncomputable def v52 : FVec Ideal S56x64x16 .f32 := V m c main_v52
noncomputable def v53 : FVec Ideal S56x64x16 .f32 := V m c main_v53
noncomputable def v54 : FVec Ideal S56x64x16 .f32 := V m c main_v54
noncomputable def v55 : FVec Ideal S56x64x16 .f32 := V m c main_v55
noncomputable def v56 : FVec Ideal S56x64x16 .f32 := V m c main_v56
noncomputable def v57 : FVec Ideal S56x1x16x64 .f32 := V m c main_v57
noncomputable def v58 : FVec Ideal S56x1x16x64 .f32 := V m c main_v58
noncomputable def v59 : FVec Ideal S56x16x64 .f32 := V m c main_v59
noncomputable def v60 : FVec Ideal S56x16x1x64 .f32 := V m c main_v60
noncomputable def v61 : FVec Ideal S56x16x64 .f32 := V m c main_v61
noncomputable def v62 : FVec Ideal S56x16x1x64 .f32 := V m c main_v62
noncomputable def v63 : FVec Ideal S56x16x16x64 .f32 := V m c main_v63
noncomputable def v64 : FVec Ideal S56x16x16x64 .f32 := V m c main_v64
noncomputable def v65 : FVec Ideal S56x16x16x64 .f32 := V m c main_v65
noncomputable def v66 : FVec Ideal S56x16x16x64 .f32 := V m c main_v66
noncomputable def v67 : FVec Ideal S56x16x16x64 .f32 := V m c main_v67
noncomputable def v68 : FVec Ideal S56x16x16x64 .f32 := V m c main_v68
noncomputable def v69 : FVec Ideal S56x16x16x64 .f32 := V m c main_v69
noncomputable def v70 : FVec Ideal S56x16x16x64 .f32 := V m c main_v70
noncomputable def v71 : FVec Ideal S56x16x16x64 .f32 := V m c main_v71
noncomputable def v72 : FVec Ideal S56x16x16x64 .f32 := V m c main_v72
noncomputable def v73 : FVec Ideal S56x16x16x64 .f32 := V m c main_v73
noncomputable def v74 : FVec Ideal S56x16x16x64 .f32 := V m c main_v74
noncomputable def v75 : FVec Ideal S56x16x16x64 .f32 := V m c main_v75
noncomputable def v76 : FVec Ideal S56x16x16x64 .f32 := V m c main_v76
noncomputable def v77 : FVec Ideal S56x16x16x16 .f32 := V m c main_v77
noncomputable def v78 : FVec Ideal S56x16x16x16 .f32 := V m c main_v78
noncomputable def v79 : FVec Ideal S56x16x16x16 .f32 := V m c main_v79
noncomputable def v80 : FVec Ideal S56x16x1 .f32 := V m c main_v80
noncomputable def v81 : IVec S16x16 32 := V m c main_v81
noncomputable def v82 : IVec S16x16 32 := V m c main_v82
noncomputable def cstI : IVec S_ 32 := V m c main_c
noncomputable def v83 : IVec S16x16 32 := V m c main_v83
noncomputable def v84 : IVec S16x16 32 := V m c main_v84
noncomputable def v85 : IVec S16x16 1 := V m c main_v85
noncomputable def v86 : FVec Ideal S16x16 .f32 := V m c main_v86
noncomputable def v87 : FVec Ideal S1x16x16 .f32 := V m c main_v87
noncomputable def v88 : FVec Ideal S56x16x16 .f32 := V m c main_v88
noncomputable def v89 : FVec Ideal S56x16x16 .f32 := V m c main_v89
noncomputable def v90 : FVec Ideal S56x16x16 .f32 := V m c main_v90
noncomputable def c_0 : IVec S_ 32 := V m c main_c_0
noncomputable def v91 : IVec S1 32 := V m c main_v91
noncomputable def v92 : FVec Ideal S56x16x16x16 .f32 := V m c main_v92
noncomputable def v93 : FVec Ideal S56x16x16x16 .f32 := V m c main_v93
noncomputable def v94 : FVec Ideal S56x16x256 .f32 := V m c main_v94
noncomputable def v95 : FVec Ideal S56x16x64 .f32 := V m c main_v95
noncomputable def v96 : FVec Ideal S56x16x64 .f32 := V m c main_v96
noncomputable def v97 : FVec Ideal S56x16x64 .f32 := V m c main_v97
noncomputable def v98 : FVec Ideal S56x16x64 .f32 := V m c main_v98
noncomputable def v99 : FVec Ideal S56x16x64 .f32 := V m c main_v99
noncomputable def v100 : FVec Ideal S56x1x16x64 .f32 := V m c main_v100
noncomputable def v101 : FVec Ideal S56x16x64 .f32 := V m c main_v101
noncomputable def v102 : FVec Ideal S56x1x16x64 .f32 := V m c main_v102
noncomputable def v103 : FVec Ideal S56x16x1x64 .f32 := V m c main_v103
noncomputable def v104 : FVec Ideal S56x16x1x64 .f32 := V m c main_v104
noncomputable def v105 : FVec Ideal S56x16x16x64 .f32 := V m c main_v105
noncomputable def v106 : FVec Ideal S56x16x16x64 .f32 := V m c main_v106
noncomputable def v107 : FVec Ideal S56x16x16x64 .f32 := V m c main_v107
noncomputable def v108 : FVec Ideal S56x16x16x64 .f32 := V m c main_v108
noncomputable def v109 : FVec Ideal S56x16x16x64 .f32 := V m c main_v109
noncomputable def v110 : FVec Ideal S56x16x16x64 .f32 := V m c main_v110
noncomputable def v111 : FVec Ideal S56x16x16x64 .f32 := V m c main_v111
noncomputable def v112 : FVec Ideal S56x16x16x64 .f32 := V m c main_v112
noncomputable def v113 : FVec Ideal S56x16x16x64 .f32 := V m c main_v113
noncomputable def v114 : FVec Ideal S56x16x16x64 .f32 := V m c main_v114
noncomputable def v115 : FVec Ideal S56x16x16x64 .f32 := V m c main_v115
noncomputable def v116 : FVec Ideal S56x16x16x64 .f32 := V m c main_v116
noncomputable def v117 : FVec Ideal S56x16x16x64 .f32 := V m c main_v117
noncomputable def v118 : FVec Ideal S56x16x16x64 .f32 := V m c main_v118
noncomputable def v119 : FVec Ideal S56x256x64 .f32 := V m c main_v119
noncomputable def v120 : FVec Ideal S56x256x64 .f32 := V m c main_v120
noncomputable def v121 : FVec Ideal S56x256x256 .f32 := V m c main_v121
noncomputable def v122 : FVec Ideal S56x64x16 .f32 := V m c main_v122
noncomputable def v123 : FVec Ideal S56x64x1x16 .f32 := V m c main_v123
noncomputable def v124 : FVec Ideal S56x64x16 .f32 := V m c main_v124
noncomputable def v125 : FVec Ideal S56x64x1x16 .f32 := V m c main_v125
noncomputable def v126 : FVec Ideal S56x16x64 .f32 := V m c main_v126
noncomputable def v127 : FVec Ideal S56x64x16 .f32 := V m c main_v127
noncomputable def v128 : FVec Ideal S56x64x16x1 .f32 := V m c main_v128
noncomputable def v129 : FVec Ideal S56x16x64 .f32 := V m c main_v129
noncomputable def v130 : FVec Ideal S56x64x16 .f32 := V m c main_v130
noncomputable def v131 : FVec Ideal S56x64x16x1 .f32 := V m c main_v131
noncomputable def v132 : FVec Ideal S56x64x16x16 .f32 := V m c main_v132
noncomputable def v133 : FVec Ideal S56x64x16x16 .f32 := V m c main_v133
noncomputable def v134 : FVec Ideal S56x64x16x16 .f32 := V m c main_v134
noncomputable def v135 : FVec Ideal S56x64x16x16 .f32 := V m c main_v135
noncomputable def v136 : FVec Ideal S56x64x16x16 .f32 := V m c main_v136
noncomputable def v137 : FVec Ideal S56x64x16x16 .f32 := V m c main_v137
noncomputable def v138 : FVec Ideal S56x64x16x16 .f32 := V m c main_v138
noncomputable def v139 : FVec Ideal S56x64x16x16 .f32 := V m c main_v139
noncomputable def v140 : FVec Ideal S56x64x16x16 .f32 := V m c main_v140
noncomputable def v141 : FVec Ideal S56x64x16x16 .f32 := V m c main_v141
noncomputable def v142 : FVec Ideal S56x64x16x16 .f32 := V m c main_v142
noncomputable def v143 : FVec Ideal S56x64x16x16 .f32 := V m c main_v143
noncomputable def v144 : FVec Ideal S56x64x16x16 .f32 := V m c main_v144
noncomputable def v145 : FVec Ideal S56x64x16x16 .f32 := V m c main_v145
noncomputable def v146 : FVec Ideal S56x64x256 .f32 := V m c main_v146
noncomputable def v147 : FVec Ideal S56x64x256 .f32 := V m c main_v147
noncomputable def v148 : FVec Ideal S56x64x256 .f32 := V m c main_v148
noncomputable def v149 : FVec Ideal S56x128x256 .f32 := V m c main_v149
noncomputable def v150 : FVec Ideal S56x1x64 .f32 := V m c main_v150
noncomputable def v151 : FVec Ideal S56x64 .f32 := V m c main_v151
noncomputable def v152 : FVec Ideal S56x1x64 .f32 := V m c main_v152
noncomputable def v153 : FVec Ideal S56x64 .f32 := V m c main_v153
noncomputable def v154 : FVec Ideal S56x128 .f32 := V m c main_v154
noncomputable def v155 : FVec Ideal S56x64 .f32 := V m c main_v155
noncomputable def v156 : FVec Ideal S56x128 .f32 := V m c main_v156
noncomputable def v157 : FVec Ideal S56x64 .f32 := V m c main_v157
noncomputable def v158 : FVec Ideal S56x128 .f32 := V m c main_v158
noncomputable def v159 : FVec Ideal S56x1x64 .f32 := V m c main_v159
noncomputable def v160 : FVec Ideal S56x64 .f32 := V m c main_v160
noncomputable def v161 : FVec Ideal S56x1x64 .f32 := V m c main_v161
noncomputable def v162 : FVec Ideal S56x64 .f32 := V m c main_v162
noncomputable def v163 : FVec Ideal S56x128 .f32 := V m c main_v163
noncomputable def v164 : FVec Ideal S56x64 .f32 := V m c main_v164
noncomputable def v165 : FVec Ideal S56x128 .f32 := V m c main_v165
noncomputable def v166 : FVec Ideal S56x64 .f32 := V m c main_v166
noncomputable def v167 : FVec Ideal S56x128 .f32 := V m c main_v167
noncomputable def cst_1 : FVec Ideal S_ .f32 := V m c main_cst_1
noncomputable def v168 : FVec Ideal S56x128 .f32 := V m c main_v168
noncomputable def v169 : FVec Ideal S56x1x128 .f32 := V m c main_v169
noncomputable def v170 : FVec Ideal S56x1x128 .f32 := V m c main_v170
noncomputable def v171 : FVec Ideal S56x1x128 .f32 := V m c main_v171
noncomputable def v172 : FVec Ideal S56x1x128 .f32 := V m c main_v172
noncomputable def v173 : FVec Ideal S56x1x128 .f32 := V m c main_v173
noncomputable def v174 : FVec Ideal S56x1x128 .f32 := V m c main_v174
noncomputable def v175 : FVec Ideal S56x1x128 .f32 := V m c main_v175
noncomputable def v176 : FVec Ideal S56x1x128 .f32 := V m c main_v176
noncomputable def v177 : FVec Ideal S56x8x128 .f32 := V m c main_v177
noncomputable def v178 : FVec Ideal S56x256x256 .bf16 := V m c main_v178
noncomputable def v179 : FVec Ideal S56x128x256 .bf16 := V m c main_v179

theorem e_v0 : v0 m c = shapeCast S1024x16x56x16 (arg0 m c) shapeCasts_S4x4096x56x16_S1024x16x56x16 := by
  have h := line.reshape (fun b => m (c, b)) 0 (x := main_arg0) (y := main_v0) rfl (by decide +kernel) (by decide +kernel)
  exact h
theorem e_v1 : v1 m c = transpose S56x1024x16x16 [2, 0, 1, 3] (v0 m c) transposes_S1024x16x56x16_S56x1024x16x16_2_0_1_3 := by
  have h := line.unary (fun b => m (c, b)) 1 (x := main_v0) (y := main_v1) rfl (by decide +kernel) (by decide +kernel)
  exact h
theorem e_v2 : v2 m c = shapeCast S56x1024x256 (v1 m c) shapeCasts_S56x1024x16x16_S56x1024x256 := by
  have h := line.reshape (fun b => m (c, b)) 2 (x := main_v1) (y := main_v2) rfl (by decide +kernel) (by decide +kernel)
  exact h
theorem e_v3 : v3 m c = truncf .bf16 (v2 m c) bitsLt_bf16_f32 := by
  have h := line.unary (fun b => m (c, b)) 3 (x := main_v2) (y := main_v3) rfl (by decide +kernel) (by decide +kernel)
  exact h
theorem e_v4 : v4 m c = Host.exp (arg3 m c) := by
  have h := line.unary (fun b => m (c, b)) 4 (x := main_arg3) (y := main_v4) rfl (by decide +kernel) (by decide +kernel)
  exact h
theorem e_v5 : v5 m c = broadcastInDim S56x1 ![0] bcast_S56_S56x1_0 (v4 m c) := by
  have h := line.unary (fun b => m (c, b)) 5 (x := main_v4) (y := main_v5) rfl (by decide +kernel) (by decide +kernel)
  exact h
theorem e_v6 : v6 m c = sitofp .f32 (iotaInDim S33 32 0) := by
  have h := line.nullary (fun b => m (c, b)) 6 (y := main_v6) rfl (by decide +kernel)
  exact h
theorem e_v7 : v7 m c = broadcastInDim S1x33x1 ![1] bcast_S33_S1x33x1_1 (v6 m c) := by
  have h := line.unary (fun b => m (c, b)) 7 (x := main_v6) (y := main_v7) rfl (by decide +kernel) (by decide +kernel)
  exact h
theorem e_v8 : v8 m c = broadcastInDim S56x1x64 ![0, 2] bcast_S56x64_S56x1x64_0_2 (arg1 m c) := by
  have h := line.unary (fun b => m (c, b)) 8 (x := main_arg1) (y := main_v8) rfl (by decide +kernel) (by decide +kernel)
  exact h
theorem e_v9 : v9 m c = broadcastInDim S56x1x1 ![0, 2] bcast_S56x1_S56x1x1_0_2 (v5 m c) := by
  have h := line.unary (fun b => m (c, b)) 9 (x := main_v5) (y := main_v9) rfl (by decide +kernel) (by decide +kernel)
  exact h
theorem e_v10 : v10 m c = broadcastInDim S56x1x64 ![0, 1, 2] bcast_S56x1x1_S56x1x64_0_1_2 (v9 m c) := by
  have h := line.unary (fun b => m (c, b)) 10 (x := main_v9) (y := main_v10) rfl (by decide +kernel) (by decide +kernel)
  exact h
theorem e_v11 : v11 m c = mulf (v8 m c) (v10 m c) := by
  have h := line.binary (fun b => m (c, b)) 11 (a := main_v8) (b := main_v10) (y := main_v11) rfl (by decide +kernel) (by decide +kernel) (by decide +kernel)
  exact h
theorem e_v12 : v12 m c = broadcastInDim S56x33x64 ![0, 1, 2] bcast_S56x1x64_S56x33x64_0_1_2 (v11 m c) := by
  have h := line.unary (fun b => m (c, b)) 12 (x := main_v11) (y := main_v12) rfl (by decide +kernel) (by decide +kernel)
  exact h
theorem e_v13 : v13 m c = broadcastInDim S56x33x64 ![0, 1, 2] bcast_S1x33x1_S56x33x64_0_1_2 (v7 m c) := by
  have h := line.unary (fun b => m (c, b)) 13 (x := main_v7) (y := main_v13) rfl (by decide +kernel) (by decide +kernel)
  exact h
theorem e_v14 : v14 m c = mulf (v12 m c) (v13 m c) := by
  have h := line.binary (fun b => m (c, b)) 14 (a := main_v12) (b := main_v13) (y := main_v14) rfl (by decide +kernel) (by decide +kernel) (by decide +kernel)
  exact h
theorem e_v15 : v15 m c = Host.exp (v14 m c) := by
  have h := line.unary (fun b => m (c, b)) 15 (x := main_v14) (y := main_v15) rfl (by decide +kernel) (by decide +kernel)
  exact h
theorem e_v16 : v16 m c = broadcastInDim S56x1x64 ![0, 2] bcast_S56x64_S56x1x64_0_2 (arg2 m c) := by
  have h := line.unary (fun b => m (c, b)) 16 (x := main_arg2) (y := main_v16) rfl (by decide +kernel) (by decide +kernel)
  exact h
theorem e_v17 : v17 m c = broadcastInDim S56x1x1 ![0, 2] bcast_S56x1_S56x1x1_0_2 (v5 m c) := by
  have h := line.unary (fun b => m (c, b)) 17 (x := main_v5) (y := main_v17) rfl (by decide +kernel) (by decide +kernel)
  exact h
theorem e_v18 : v18 m c = broadcastInDim S56x1x64 ![0, 1, 2] bcast_S56x1x1_S56x1x64_0_1_2 (v17 m c) := by
  have h := line.unary (fun b => m (c, b)) 18 (x := main_v17) (y := main_v18) rfl (by decide +kernel) (by decide +kernel)
  exact h
theorem e_v19 : v19 m c = mulf (v16 m c) (v18 m c) := by
  have h := line.binary (fun b => m (c, b)) 19 (a := main_v16) (b := main_v18) (y := main_v19) rfl (by decide +kernel) (by decide +kernel) (by decide +kernel)
  exact h
theorem e_v20 : v20 m c = broadcastInDim S56x33x64 ![0, 1, 2] bcast_S56x1x64_S56x33x64_0_1_2 (v19 m c) := by
  have h := line.unary (fun b => m (c, b)) 20 (x := main_v19) (y := main_v20) rfl (by decide +kernel) (by decide +kernel)
  exact h
theorem e_v21 : v21 m c = broadcastInDim S56x33x64 ![0, 1, 2] bcast_S1x33x1_S56x33x64_0_1_2 (v7 m c) := by
  have h := line.unary (fun b => m (c, b)) 21 (x := main_v7) (y := main_v21) rfl (by decide +kernel) (by decide +kernel)
  exact h
theorem e_v22 : v22 m c = mulf (v20 m c) (v21 m c) := by
  have h := line.binary (fun b => m (c, b)) 22 (a := main_v20) (b := main_v21) (y := main_v22) rfl (by decide +kernel) (by decide +kernel) (by decide +kernel)
  exact h
theorem e_v23 : v23 m c = Host.cos (v22 m c) := by
  have h := line.unary (fun b => m (c, b)) 23 (x := main_v22) (y := main_v23) rfl (by decide +kernel) (by decide +kernel)
  exact h
theorem e_v24 : v24 m c = mulf (v15 m c) (v23 m c) := by
  have h := line.binary (fun b => m (c, b)) 24 (a := main_v15) (b := main_v23) (y := main_v24) rfl (by decide +kernel) (by decide +kernel) (by decide +kernel)
  exact h
theorem e_v25 : v25 m c = Host.sin (v22 m c) := by
  have h := line.unary (fun b => m (c, b)) 25 (x := main_v22) (y := main_v25) rfl (by decide +kernel) (by decide +kernel)
  exact h
theorem e_v26 : v26 m c = mulf (v15 m c) (v25 m c) := by
  have h := line.binary (fun b => m (c, b)) 26 (a := main_v15) (b := main_v25) (y := main_v26) rfl (by decide +kernel) (by decide +kernel) (by decide +kernel)
  exact h
theorem e_v27 : v27 m c = extractStridedSlice S56x1x64 ![0, 1, 0] (v24 m c) slices_S56x33x64_S56x1x64_0_1_0 := by
  have h := line.unary (fun b => m (c, b)) 27 (x := main_v24) (y := main_v27) rfl (by decide +kernel) (by decide +kernel)
  exact h
theorem e_v28 : v28 m c = shapeCast S56x64 (v27 m c) shapeCasts_S56x1x64_S56x64 := by
  have h := line.reshape (fun b => m (c, b)) 28 (x := main_v27) (y := main_v28) rfl (by decide +kernel) (by decide +kernel)
  exact h
theorem e_v29 : v29 m c = extractStridedSlice S56x1x64 ![0, 1, 0] (v26 m c) slices_S56x33x64_S56x1x64_0_1_0 := by
  have h := line.unary (fun b => m (c, b)) 29 (x := main_v26) (y := main_v29) rfl (by decide +kernel) (by decide +kernel)
  exact h
theorem e_v30 : v30 m c = shapeCast S56x64 (v29 m c) shapeCasts_S56x1x64_S56x64 := by
  have h := line.reshape (fun b => m (c, b)) 30 (x := main_v29) (y := main_v30) rfl (by decide +kernel) (by decide +kernel)
  exact h
theorem e_v31 : v31 m c = mulf (arg1 m c) (arg1 m c) := by
  have h := line.binary (fun b => m (c, b)) 31 (a := main_arg1) (b := main_arg1) (y := main_v31) rfl (by decide +kernel) (by decide +kernel) (by decide +kernel)
  exact h
theorem e_v32 : v32 m c = mulf (arg2 m c) (arg2 m c) := by
  have h := line.binary (fun b => m (c, b)) 32 (a := main_arg2) (b := main_arg2) (y := main_v32) rfl (by decide +kernel) (by decide +kernel) (by decide +kernel)
  exact h
theorem e_v33 : v33 m c = addf (v31 m c) (v32 m c) := by
  have h := line.binary (fun b => m (c, b)) 33 (a := main_v31) (b := main_v32) (y := main_v33) rfl (by decide +kernel) (by decide +kernel) (by decide +kernel)
  exact h
theorem e_cst : cst m c = constant S_ .f32 0x3F800000#32 := by
  have h := line.nullary (fun b => m (c, b)) 34 (y := main_cst) rfl (by decide +kernel)
  exact h
theorem e_v34 : v34 m c = broadcastInDim S56x64 ![] bcast_S_S56x64 (cst m c) := by
  have h := line.unary (fun b => m (c, b)) 35 (x := main_cst) (y := main_v34) rfl (by decide +kernel) (by decide +kernel)
  exact h
theorem e_v35 : v35 m c = subf (v28 m c) (v34 m c) := by
  have h := line.binary (fun b => m (c, b)) 36 (a := main_v28) (b := main_v34) (y := main_v35) rfl (by decide +kernel) (by decide +kernel) (by decide +kernel)
  exact h
theorem e_v36 : v36 m c = Host.divf (arg1 m c) (v33 m c) := by
  have h := line.binary (fun b => m (c, b)) 37 (a := main_arg1) (b := main_v33) (y := main_v36) rfl (by decide +kernel) (by decide +kernel) (by decide +kernel)
  exact h
theorem e_v37 : v37 m c = Host.negf (arg2 m c) := by
  have h := line.unary (fun b => m (c, b)) 38 (x := main_arg2) (y := main_v37) rfl (by decide +kernel) (by decide +kernel)
  exact h
theorem e_v38 : v38 m c = Host.divf (v37 m c) (v33 m c) := by
  have h := line.binary (fun b => m (c, b)) 39 (a := main_v37) (b := main_v33) (y := main_v38) rfl (by decide +kernel) (by decide +kernel) (by decide +kernel)
  exact h
theorem e_v39 : v39 m c = mulf (v35 m c) (v36 m c) := by
  have h := line.binary (fun b => m (c, b)) 40 (a := main_v35) (b := main_v36) (y := main_v39) rfl (by decide +kernel) (by decide +kernel) (by decide +kernel)
  exact h
theorem e_v40 : v40 m c = mulf (v30 m c) (v38 m c) := by
  have h := line.binary (fun b => m (c, b)) 41 (a := main_v30) (b := main_v38) (y := main_v40) rfl (by decide +kernel) (by decide +kernel) (by decide +kernel)
  exact h
theorem e_v41 : v41 m c = subf (v39 m c) (v40 m c) := by
  have h := line.binary (fun b => m (c, b)) 42 (a := main_v39) (b := main_v40) (y := main_v41) rfl (by decide +kernel) (by decide +kernel) (by decide +kernel)
  exact h
theorem e_v42 : v42 m c = mulf (v35 m c) (v38 m c) := by
  have h := line.binary (fun b => m (c, b)) 43 (a := main_v35) (b := main_v38) (y := main_v42) rfl (by decide +kernel) (by decide +kernel) (by decide +kernel)
  exact h
theorem e_v43 : v43 m c = mulf (v30 m c) (v36 m c) := by
  have h := line.binary (fun b => m (c, b)) 44 (a := main_v30) (b := main_v36) (y := main_v43) rfl (by decide +kernel) (by decide +kernel) (by decide +kernel)
  exact h
theorem e_v44 : v44 m c = addf (v42 m c) (v43 m c) := by
  have h := line.binary (fun b => m (c, b)) 45 (a := main_v42) (b := main_v43) (y := main_v44) rfl (by decide +kernel) (by decide +kernel) (by decide +kernel)
  exact h
theorem e_v45 : v45 m c = broadcastInDim S56x64x1 ![0, 1] bcast_S56x64_S56x64x1_0_1 (v41 m c) := by
  have h := line.unary (fun b => m (c, b)) 46 (x := main_v41) (y := main_v45) rfl (by decide +kernel) (by decide +kernel)
  exact h
theorem e_v46 : v46 m c = broadcastInDim S56x64x1 ![0, 1] bcast_S56x64_S56x64x1_0_1 (v44 m c) := by
  have h := line.unary (fun b => m (c, b)) 47 (x := main_v44) (y := main_v46) rfl (by decide +kernel) (by decide +kernel)
  exact h
theorem e_v47 : v47 m c = broadcastInDim S56x64x16 ![0, 1, 2] bcast_S56x64x1_S56x64x16_0_1_2 (v45 m c) := by
  have h := line.unary (fun b => m (c, b)) 48 (x := main_v45) (y := main_v47) rfl (by decide +kernel) (by decide +kernel)
  exact h
theorem e_v48 : v48 m c = mulf (v47 m c) (arg4 m c) := by
  have h := line.binary (fun b => m (c, b)) 49 (a := main_v47) (b := main_arg4) (y := main_v48) rfl (by decide +kernel) (by decide +kernel) (by decide +kernel)
  exact h
theorem e_v49 : v49 m c = broadcastInDim S56x64x16 ![0, 1, 2] bcast_S56x64x1_S56x64x16_0_1_2 (v46 m c) := by
  have h := line.unary (fun b => m (c, b)) 50 (x := main_v46) (y := main_v49) rfl (by decide +kernel) (by decide +kernel)
  exact h
theorem e_v50 : v50 m c = mulf (v49 m c) (arg5 m c) := by
  have h := line.binary (fun b => m (c, b)) 51 (a := main_v49) (b := main_arg5) (y := main_v50) rfl (by decide +kernel) (by decide +kernel) (by decide +kernel)
  exact h
theorem e_v51 : v51 m c = subf (v48 m c) (v50 m c) := by
  have h := line.binary (fun b => m (c, b)) 52 (a := main_v48) (b := main_v50) (y := main_v51) rfl (by decide +kernel) (by decide +kernel) (by decide +kernel)
  exact h
theorem e_v52 : v52 m c = broadcastInDim S56x64x16 ![0, 1, 2] bcast_S56x64x1_S56x64x16_0_1_2 (v45 m c) := by
  have h := line.unary (fun b => m (c, b)) 53 (x := main_v45) (y := main_v52) rfl (by decide +kernel) (by decide +kernel)
  exact h
theorem e_v53 : v53 m c = mulf (v52 m c) (arg5 m c) := by
  have h := line.binary (fun b => m (c, b)) 54 (a := main_v52) (b := main_arg5) (y := main_v53) rfl (by decide +kernel) (by decide +kernel) (by decide +kernel)
  exact h
theorem e_v54 : v54 m c = broadcastInDim S56x64x16 ![0, 1, 2] bcast_S56x64x1_S56x64x16_0_1_2 (v46 m c) := by
  have h := line.unary (fun b => m (c, b)) 55 (x := main_v46) (y := main_v54) rfl (by decide +kernel) (by decide +kernel)
  exact h
theorem e_v55 : v55 m c = mulf (v54 m c) (arg4 m c) := by
  have h := line.binary (fun b => m (c, b)) 56 (a := main_v54) (b := main_arg4) (y := main_v55) rfl (by decide +kernel) (by decide +kernel) (by decide +kernel)
  exact h
theorem e_v56 : v56 m c = addf (v53 m c) (v55 m c) := by
  have h := line.binary (fun b => m (c, b)) 57 (a := main_v53) (b := main_v55) (y := main_v56) rfl (by decide +kernel) (by decide +kernel) (by decide +kernel)
  exact h
theorem e_v57 : v57 m c = broadcastInDim S56x1x16x64 ![0, 2, 3] bcast_S56x16x64_S56x1x16x64_0_2_3 (arg6 m c) := by
  have h := line.unary (fun b => m (c, b)) 58 (x := main_arg6) (y := main_v57) rfl (by decide +kernel) (by decide +kernel)
  exact h
theorem e_v58 : v58 m c = broadcastInDim S56x1x16x64 ![0, 2, 3] bcast_S56x16x64_S56x1x16x64_0_2_3 (arg7 m c) := by
  have h := line.unary (fun b => m (c, b)) 59 (x := main_arg7) (y := main_v58) rfl (by decide +kernel) (by decide +kernel)
  exact h
theorem e_v59 : v59 m c = extractStridedSlice S56x16x64 ![0, 0, 0] (v24 m c) slices_S56x33x64_S56x16x64_0_0_0 := by
  have h := line.unary (fun b => m (c, b)) 60 (x := main_v24) (y := main_v59) rfl (by decide +kernel) (by decide +kernel)
  exact h
theorem e_v60 : v60 m c = broadcastInDim S56x16x1x64 ![0, 1, 3] bcast_S56x16x64_S56x16x1x64_0_1_3 (v59 m c) := by
  have h := line.unary (fun b => m (c, b)) 61 (x := main_v59) (y := main_v60) rfl (by decide +kernel) (by decide +kernel)
  exact h
theorem e_v61 : v61 m c = extractStridedSlice S56x16x64 ![0, 0, 0] (v26 m c) slices_S56x33x64_S56x16x64_0_0_0 := by
  have h := line.unary (fun b => m (c, b)) 62 (x := main_v26) (y := main_v61) rfl (by decide +kernel) (by decide +kernel)
  exact h
theorem e_v62 : v62 m c = broadcastInDim S56x16x1x64 ![0, 1, 3] bcast_S56x16x64_S56x16x1x64_0_1_3 (v61 m c) := by
  have h := line.unary (fun b => m (c, b)) 63 (x := main_v61) (y := main_v62) rfl (by decide +kernel) (by decide +kernel)
  exact h
theorem e_v63 : v63 m c = broadcastInDim S56x16x16x64 ![0, 1, 2, 3] bcast_S56x1x16x64_S56x16x16x64_0_1_2_3 (v57 m c) := by
  have h := line.unary (fun b => m (c, b)) 64 (x := main_v57) (y := main_v63) rfl (by decide +kernel) (by decide +kernel)
  exact h
theorem e_v64 : v64 m c = broadcastInDim S56x16x16x64 ![0, 1, 2, 3] bcast_S56x16x1x64_S56x16x16x64_0_1_2_3 (v60 m c) := by
  have h := line.unary (fun b => m (c, b)) 65 (x := main_v60) (y := main_v64) rfl (by decide +kernel) (by decide +kernel)
  exact h
theorem e_v65 : v65 m c = mulf (v63 m c) (v64 m c) := by
  have h := line.binary (fun b => m (c, b)) 66 (a := main_v63) (b := main_v64) (y := main_v65) rfl (by decide +kernel) (by decide +kernel) (by decide +kernel)
  exact h
theorem e_v66 : v66 m c = broadcastInDim S56x16x16x64 ![0, 1, 2, 3] bcast_S56x1x16x64_S56x16x16x64_0_1_2_3 (v58 m c) := by
  have h := line.unary (fun b => m (c, b)) 67 (x := main_v58) (y := main_v66) rfl (by decide +kernel) (by decide +kernel)
  exact h
theorem e_v67 : v67 m c = broadcastInDim S56x16x16x64 ![0, 1, 2, 3] bcast_S56x16x1x64_S56x16x16x64_0_1_2_3 (v62 m c) := by
  have h := line.unary (fun b => m (c, b)) 68 (x := main_v62) (y := main_v67) rfl (by decide +kernel) (by decide +kernel)
  exact h
theorem e_v68 : v68 m c = mulf (v66 m c) (v67 m c) := by
  have h := line.binary (fun b => m (c, b)) 69 (a := main_v66) (b := main_v67) (y := main_v68) rfl (by decide +kernel) (by decide +kernel) (by decide +kernel)
  exact h
theorem e_v69 : v69 m c = subf (v65 m c) (v68 m c) := by
  have h := line.binary (fun b => m (c, b)) 70 (a := main_v65) (b := main_v68) (y := main_v69) rfl (by decide +kernel) (by decide +kernel) (by decide +kernel)
  exact h
theorem e_v70 : v70 m c = broadcastInDim S56x16x16x64 ![0, 1, 2, 3] bcast_S56x1x16x64_S56x16x16x64_0_1_2_3 (v57 m c) := by
  have h := line.unary (fun b => m (c, b)) 71 (x := main_v57) (y := main_v70) rfl (by decide +kernel) (by decide +kernel)
  exact h
theorem e_v71 : v71 m c = broadcastInDim S56x16x16x64 ![0, 1, 2, 3] bcast_S56x16x1x64_S56x16x16x64_0_1_2_3 (v62 m c) := by
  have h := line.unary (fun b => m (c, b)) 72 (x := main_v62) (y := main_v71) rfl (by decide +kernel) (by decide +kernel)
  exact h
theorem e_v72 : v72 m c = mulf (v70 m c) (v71 m c) := by
  have h := line.binary (fun b => m (c, b)) 73 (a := main_v70) (b := main_v71) (y := main_v72) rfl (by decide +kernel) (by decide +kernel) (by decide +kernel)
  exact h
theorem e_v73 : v73 m c = broadcastInDim S56x16x16x64 ![0, 1, 2, 3] bcast_S56x1x16x64_S56x16x16x64_0_1_2_3 (v58 m c) := by
  have h := line.unary (fun b => m (c, b)) 74 (x := main_v58) (y := main_v73) rfl (by decide +kernel) (by decide +kernel)
  exact h
theorem e_v74 : v74 m c = broadcastInDim S56x16x16x64 ![0, 1, 2, 3] bcast_S56x16x1x64_S56x16x16x64_0_1_2_3 (v60 m c) := by
  have h := line.unary (fun b => m (c, b)) 75 (x := main_v60) (y := main_v74) rfl (by decide +kernel) (by decide +kernel)
  exact h
theorem e_v75 : v75 m c = mulf (v73 m c) (v74 m c) := by
  have h := line.binary (fun b => m (c, b)) 76 (a := main_v73) (b := main_v74) (y := main_v75) rfl (by decide +kernel) (by decide +kernel) (by decide +kernel)
  exact h
theorem e_v76 : v76 m c = addf (v72 m c) (v75 m c) := by
  have h := line.binary (fun b => m (c, b)) 77 (a := main_v72) (b := main_v75) (y := main_v76) rfl (by decide +kernel) (by decide +kernel) (by decide +kernel)
  exact h
theorem e_v77 : v77 m c = Host.dotGeneral dot_S56x16x16x64_S56x64x16_S56x16x16x16_3_1_12_2_0_0 (some .bf16x3) (v69 m c) (v51 m c) := by
  have h := line.binary (fun b => m (c, b)) 78 (a := main_v69) (b := main_v51) (y := main_v77) rfl (by decide +kernel) (by decide +kernel) (by decide +kernel)
  exact h
theorem e_v78 : v78 m c = Host.dotGeneral dot_S56x16x16x64_S56x64x16_S56x16x16x16_3_1_12_2_0_0 (some .bf16x3) (v76 m c) (v56 m c) := by
  have h := line.binary (fun b => m (c, b)) 79 (a := main_v76) (b := main_v56) (y := main_v78) rfl (by decide +kernel) (by decide +kernel) (by decide +kernel)
  exact h
theorem e_v79 : v79 m c = subf (v77 m c) (v78 m c) := by
  have h := line.binary (fun b => m (c, b)) 80 (a := main_v77) (b := main_v78) (y := main_v79) rfl (by decide +kernel) (by decide +kernel) (by decide +kernel)
  exact h
theorem e_v80 : v80 m c = broadcastInDim S56x16x1 ![0, 1] bcast_S56x16_S56x16x1_0_1 (arg8 m c) := by
  have h := line.unary (fun b => m (c, b)) 81 (x := main_arg8) (y := main_v80) rfl (by decide +kernel) (by decide +kernel)
  exact h
theorem e_v81 : v81 m c = iotaInDim S16x16 32 0 := by
  have h := line.nullary (fun b => m (c, b)) 82 (y := main_v81) rfl (by decide +kernel)
  exact h
theorem e_v82 : v82 m c = iotaInDim S16x16 32 1 := by
  have h := line.nullary (fun b => m (c, b)) 83 (y := main_v82) rfl (by decide +kernel)
  exact h
theorem e_cstI : cstI m c = constantI S_ 32 0#32 := by
  have h := line.nullary (fun b => m (c, b)) 84 (y := main_c) rfl (by decide +kernel)
  exact h
theorem e_v83 : v83 m c = broadcastInDim S16x16 ![] bcast_S_S16x16 (cstI m c) := by
  have h := line.unary (fun b => m (c, b)) 85 (x := main_c) (y := main_v83) rfl (by decide +kernel) (by decide +kernel)
  exact h
theorem e_v84 : v84 m c = addi (v81 m c) (v83 m c) := by
  have h := line.binary (fun b => m (c, b)) 86 (a := main_v81) (b := main_v83) (y := main_v84) rfl (by decide +kernel) (by decide +kernel) (by decide +kernel)
  exact h
theorem e_v85 : v85 m c = cmpi .eq (v84 m c) (v82 m c) := by
  have h := line.binary (fun b => m (c, b)) 87 (a := main_v84) (b := main_v82) (y := main_v85) rfl (by decide +kernel) (by decide +kernel) (by decide +kernel)
  exact h
theorem e_v86 : v86 m c = uitofp .f32 (v85 m c) := by
  have h := line.unary (fun b => m (c, b)) 88 (x := main_v85) (y := main_v86) rfl (by decide +kernel) (by decide +kernel)
  exact h
theorem e_v87 : v87 m c = broadcastInDim S1x16x16 ![1, 2] bcast_S16x16_S1x16x16_1_2 (v86 m c) := by
  have h := line.unary (fun b => m (c, b)) 89 (x := main_v86) (y := main_v87) rfl (by decide +kernel) (by decide +kernel)
  exact h
theorem e_v88 : v88 m c = broadcastInDim S56x16x16 ![0, 1, 2] bcast_S56x16x1_S56x16x16_0_1_2 (v80 m c) := by
  have h := line.unary (fun b => m (c, b)) 90 (x := main_v80) (y := main_v88) rfl (by decide +kernel) (by decide +kernel)
  exact h
theorem e_v89 : v89 m c = broadcastInDim S56x16x16 ![0, 1, 2] bcast_S1x16x16_S56x16x16_0_1_2 (v87 m c) := by
  have h := line.unary (fun b => m (c, b)) 91 (x := main_v87) (y := main_v89) rfl (by decide +kernel) (by decide +kernel)
  exact h
theorem e_v90 : v90 m c = mulf (v88 m c) (v89 m c) := by
  have h := line.binary (fun b => m (c, b)) 92 (a := main_v88) (b := main_v89) (y := main_v90) rfl (by decide +kernel) (by decide +kernel) (by decide +kernel)
  exact h
theorem e_c_0 : c_0 m c = constantI S_ 32 0#32 := by
  have h := line.nullary (fun b => m (c, b)) 93 (y := main_c_0) rfl (by decide +kernel)
  exact h
theorem e_v91 : v91 m c = broadcastInDim S1 ![] bcast_S_S1 (c_0 m c) := by
  have h := line.unary (fun b => m (c, b)) 94 (x := main_c_0) (y := main_v91) rfl (by decide +kernel) (by decide +kernel)
  exact h
theorem e_v92 : v92 m c = Host.scatter scatter_S56x16x16x16_S1_S56x16x16_012_1_1_0 FloatOps.addf (v79 m c) (v91 m c) (v90 m c) := by
  have h := line.ternary (fun b => m (c, b)) 95 (a := main_v79) (b := main_v91) (c := main_v90) (y := main_v92) rfl (by decide +kernel) (by decide +kernel) (by decide +kernel) (by decide +kernel)
  exact h
theorem e_v93 : v93 m c = transpose S56x16x16x16 [0, 3, 1, 2] (v92 m c) transposes_S56x16x16x16_S56x16x16x16_0_3_1_2 := by
  have h := line.unary (fun b => m (c, b)) 96 (x := main_v92) (y := main_v93) rfl (by decide +kernel) (by decide +kernel)
  exact h
theorem e_v94 : v94 m c = shapeCast S56x16x256 (v93 m c) shapeCasts_S56x16x16x16_S56x16x256 := by
  have h := line.reshape (fun b => m (c, b)) 97 (x := main_v93) (y := main_v94) rfl (by decide +kernel) (by decide +kernel)
  exact h
theorem e_v95 : v95 m c = extractStridedSlice S56x16x64 ![0, 0, 0] (v24 m c) slices_S56x33x64_S56x16x64_0_0_0 := by
  have h := line.unary (fun b => m (c, b)) 98 (x := main_v24) (y := main_v95) rfl (by decide +kernel) (by decide +kernel)
  exact h
theorem e_v96 : v96 m c = Host.reverse [1] (v95 m c) := by
  have h := line.unary (fun b => m (c, b)) 99 (x := main_v95) (y := main_v96) rfl (by decide +kernel) (by decide +kernel)
  exact h
theorem e_v97 : v97 m c = extractStridedSlice S56x16x64 ![0, 0, 0] (v26 m c) slices_S56x33x64_S56x16x64_0_0_0 := by
  have h := line.unary (fun b => m (c, b)) 100 (x := main_v26) (y := main_v97) rfl (by decide +kernel) (by decide +kernel)
  exact h
theorem e_v98 : v98 m c = Host.reverse [1] (v97 m c) := by
  have h := line.unary (fun b => m (c, b)) 101 (x := main_v97) (y := main_v98) rfl (by decide +kernel) (by decide +kernel)
  exact h
theorem e_v99 : v99 m c = transpose S56x16x64 [0, 2, 1] (v51 m c) transposes_S56x64x16_S56x16x64_0_2_1 := by
  have h := line.unary (fun b => m (c, b)) 102 (x := main_v51) (y := main_v99) rfl (by decide +kernel) (by decide +kernel)
  exact h
theorem e_v100 : v100 m c = broadcastInDim S56x1x16x64 ![0, 2, 3] bcast_S56x16x64_S56x1x16x64_0_2_3 (v99 m c) := by
  have h := line.unary (fun b => m (c, b)) 103 (x := main_v99) (y := main_v100) rfl (by decide +kernel) (by decide +kernel)
  exact h
theorem e_v101 : v101 m c = transpose S56x16x64 [0, 2, 1] (v56 m c) transposes_S56x64x16_S56x16x64_0_2_1 := by
  have h := line.unary (fun b => m (c, b)) 104 (x := main_v56) (y := main_v101) rfl (by decide +kernel) (by decide +kernel)
  exact h
theorem e_v102 : v102 m c = broadcastInDim S56x1x16x64 ![0, 2, 3] bcast_S56x16x64_S56x1x16x64_0_2_3 (v101 m c) := by
  have h := line.unary (fun b => m (c, b)) 105 (x := main_v101) (y := main_v102) rfl (by decide +kernel) (by decide +kernel)
  exact h
theorem e_v103 : v103 m c = broadcastInDim S56x16x1x64 ![0, 1, 3] bcast_S56x16x64_S56x16x1x64_0_1_3 (v96 m c) := by
  have h := line.unary (fun b => m (c, b)) 106 (x := main_v96) (y := main_v103) rfl (by decide +kernel) (by decide +kernel)
  exact h
theorem e_v104 : v104 m c = broadcastInDim S56x16x1x64 ![0, 1, 3] bcast_S56x16x64_S56x16x1x64_0_1_3 (v98 m c) := by
  have h := line.unary (fun b => m (c, b)) 107 (x := main_v98) (y := main_v104) rfl (by decide +kernel) (by decide +kernel)
  exact h
theorem e_v105 : v105 m c = broadcastInDim S56x16x16x64 ![0, 1, 2, 3] bcast_S56x16x1x64_S56x16x16x64_0_1_2_3 (v103 m c) := by
  have h := line.unary (fun b => m (c, b)) 108 (x := main_v103) (y := main_v105) rfl (by decide +kernel) (by decide +kernel)
  exact h
theorem e_v106 : v106 m c = broadcastInDim S56x16x16x64 ![0, 1, 2, 3] bcast_S56x1x16x64_S56x16x16x64_0_1_2_3 (v100 m c) := by
  have h := line.unary (fun b => m (c, b)) 109 (x := main_v100) (y := main_v106) rfl (by decide +kernel) (by decide +kernel)
  exact h
theorem e_v107 : v107 m c = mulf (v105 m c) (v106 m c) := by
  have h := line.binary (fun b => m (c, b)) 110 (a := main_v105) (b := main_v106) (y := main_v107) rfl (by decide +kernel) (by decide +kernel) (by decide +kernel)
  exact h
theorem e_v108 : v108 m c = broadcastInDim S56x16x16x64 ![0, 1, 2, 3] bcast_S56x16x1x64_S56x16x16x64_0_1_2_3 (v104 m c) := by
  have h := line.unary (fun b => m (c, b)) 111 (x := main_v104) (y := main_v108) rfl (by decide +kernel) (by decide +kernel)
  exact h
theorem e_v109 : v109 m c = broadcastInDim S56x16x16x64 ![0, 1, 2, 3] bcast_S56x1x16x64_S56x16x16x64_0_1_2_3 (v102 m c) := by
  have h := line.unary (fun b => m (c, b)) 112 (x := main_v102) (y := main_v109) rfl (by decide +kernel) (by decide +kernel)
  exact h
theorem e_v110 : v110 m c = mulf (v108 m c) (v109 m c) := by
  have h := line.binary (fun b => m (c, b)) 113 (a := main_v108) (b := main_v109) (y := main_v110) rfl (by decide +kernel) (by decide +kernel) (by decide +kernel)
  exact h
theorem e_v111 : v111 m c = subf (v107 m c) (v110 m c) := by
  have h := line.binary (fun b => m (c, b)) 114 (a := main_v107) (b := main_v110) (y := main_v111) rfl (by decide +kernel) (by decide +kernel) (by decide +kernel)
  exact h
theorem e_v112 : v112 m c = broadcastInDim S56x16x16x64 ![0, 1, 2, 3] bcast_S56x16x1x64_S56x16x16x64_0_1_2_3 (v103 m c) := by
  have h := line.unary (fun b => m (c, b)) 115 (x := main_v103) (y := main_v112) rfl (by decide +kernel) (by decide +kernel)
  exact h
theorem e_v113 : v113 m c = broadcastInDim S56x16x16x64 ![0, 1, 2, 3] bcast_S56x1x16x64_S56x16x16x64_0_1_2_3 (v102 m c) := by
  have h := line.unary (fun b => m (c, b)) 116 (x := main_v102) (y := main_v113) rfl (by decide +kernel) (by decide +kernel)
  exact h
theorem e_v114 : v114 m c = mulf (v112 m c) (v113 m c) := by
  have h := line.binary (fun b => m (c, b)) 117 (a := main_v112) (b := main_v113) (y := main_v114) rfl (by decide +kernel) (by decide +kernel) (by decide +kernel)
  exact h
theorem e_v115 : v115 m c = broadcastInDim S56x16x16x64 ![0, 1, 2, 3] bcast_S56x16x1x64_S56x16x16x64_0_1_2_3 (v104 m c) := by
  have h := line.unary (fun b => m (c, b)) 118 (x := main_v104) (y := main_v115) rfl (by decide +kernel) (by decide +kernel)
  exact h
theorem e_v116 : v116 m c = broadcastInDim S56x16x16x64 ![0, 1, 2, 3] bcast_S56x1x16x64_S56x16x16x64_0_1_2_3 (v100 m c) := by
  have h := line.unary (fun b => m (c, b)) 119 (x := main_v100) (y := main_v116) rfl (by decide +kernel) (by decide +kernel)
  exact h
theorem e_v117 : v117 m c = mulf (v115 m c) (v116 m c) := by
  have h := line.binary (fun b => m (c, b)) 120 (a := main_v115) (b := main_v116) (y := main_v117) rfl (by decide +kernel) (by decide +kernel) (by decide +kernel)
  exact h
theorem e_v118 : v118 m c = addf (v114 m c) (v117 m c) := by
  have h := line.binary (fun b => m (c, b)) 121 (a := main_v114) (b := main_v117) (y := main_v118) rfl (by decide +kernel) (by decide +kernel) (by decide +kernel)
  exact h
theorem e_v119 : v119 m c = shapeCast S56x256x64 (v111 m c) shapeCasts_S56x16x16x64_S56x256x64 := by
  have h := line.reshape (fun b => m (c, b)) 122 (x := main_v111) (y := main_v119) rfl (by decide +kernel) (by decide +kernel)
  exact h
theorem e_v120 : v120 m c = shapeCast S56x256x64 (v118 m c) shapeCasts_S56x16x16x64_S56x256x64 := by
  have h := line.reshape (fun b => m (c, b)) 123 (x := main_v118) (y := main_v120) rfl (by decide +kernel) (by decide +kernel)
  exact h
theorem e_v121 : v121 m c = concatenate S56x256x256 2 [⟨S56x256x64, (v119 m c)⟩, ⟨S56x256x64, (v120 m c)⟩, ⟨S56x256x64, (v120 m c)⟩, ⟨S56x256x64, (v119 m c)⟩] concatenates_S56x256x64_S56x256x64_S56x256x64_S56x256x64_S56x256x256_d2 := by
  have h := line.nary (fun b => m (c, b)) 124 (xs := ![main_v119, main_v120, main_v120, main_v119]) (y := main_v121) rfl (by decide +kernel) (by decide +kernel)
  exact h
theorem e_v122 : v122 m c = transpose S56x64x16 [0, 2, 1] (arg6 m c) transposes_S56x16x64_S56x64x16_0_2_1 := by
  have h := line.unary (fun b => m (c, b)) 125 (x := main_arg6) (y := main_v122) rfl (by decide +kernel) (by decide +kernel)
  exact h
theorem e_v123 : v123 m c = broadcastInDim S56x64x1x16 ![0, 1, 3] bcast_S56x64x16_S56x64x1x16_0_1_3 (v122 m c) := by
  have h := line.unary (fun b => m (c, b)) 126 (x := main_v122) (y := main_v123) rfl (by decide +kernel) (by decide +kernel)
  exact h
theorem e_v124 : v124 m c = transpose S56x64x16 [0, 2, 1] (arg7 m c) transposes_S56x16x64_S56x64x16_0_2_1 := by
  have h := line.unary (fun b => m (c, b)) 127 (x := main_arg7) (y := main_v124) rfl (by decide +kernel) (by decide +kernel)
  exact h
theorem e_v125 : v125 m c = broadcastInDim S56x64x1x16 ![0, 1, 3] bcast_S56x64x16_S56x64x1x16_0_1_3 (v124 m c) := by
  have h := line.unary (fun b => m (c, b)) 128 (x := main_v124) (y := main_v125) rfl (by decide +kernel) (by decide +kernel)
  exact h
theorem e_v126 : v126 m c = extractStridedSlice S56x16x64 ![0, 1, 0] (v24 m c) slices_S56x33x64_S56x16x64_0_1_0 := by
  have h := line.unary (fun b => m (c, b)) 129 (x := main_v24) (y := main_v126) rfl (by decide +kernel) (by decide +kernel)
  exact h
theorem e_v127 : v127 m c = transpose S56x64x16 [0, 2, 1] (v126 m c) transposes_S56x16x64_S56x64x16_0_2_1 := by
  have h := line.unary (fun b => m (c, b)) 130 (x := main_v126) (y := main_v127) rfl (by decide +kernel) (by decide +kernel)
  exact h
theorem e_v128 : v128 m c = broadcastInDim S56x64x16x1 ![0, 1, 2] bcast_S56x64x16_S56x64x16x1_0_1_2 (v127 m c) := by
  have h := line.unary (fun b => m (c, b)) 131 (x := main_v127) (y := main_v128) rfl (by decide +kernel) (by decide +kernel)
  exact h
theorem e_v129 : v129 m c = extractStridedSlice S56x16x64 ![0, 1, 0] (v26 m c) slices_S56x33x64_S56x16x64_0_1_0 := by
  have h := line.unary (fun b => m (c, b)) 132 (x := main_v26) (y := main_v129) rfl (by decide +kernel) (by decide +kernel)
  exact h
theorem e_v130 : v130 m c = transpose S56x64x16 [0, 2, 1] (v129 m c) transposes_S56x16x64_S56x64x16_0_2_1 := by
  have h := line.unary (fun b => m (c, b)) 133 (x := main_v129) (y := main_v130) rfl (by decide +kernel) (by decide +kernel)
  exact h
theorem e_v131 : v131 m c = broadcastInDim S56x64x16x1 ![0, 1, 2] bcast_S56x64x16_S56x64x16x1_0_1_2 (v130 m c) := by
  have h := line.unary (fun b => m (c, b)) 134 (x := main_v130) (y := main_v131) rfl (by decide +kernel) (by decide +kernel)
  exact h
theorem e_v132 : v132 m c = broadcastInDim S56x64x16x16 ![0, 1, 2, 3] bcast_S56x64x1x16_S56x64x16x16_0_1_2_3 (v123 m c) := by
  have h := line.unary (fun b => m (c, b)) 135 (x := main_v123) (y := main_v132) rfl (by decide +kernel) (by decide +kernel)
  exact h
theorem e_v133 : v133 m c = broadcastInDim S56x64x16x16 ![0, 1, 2, 3] bcast_S56x64x16x1_S56x64x16x16_0_1_2_3 (v128 m c) := by
  have h := line.unary (fun b => m (c, b)) 136 (x := main_v128) (y := main_v133) rfl (by decide +kernel) (by decide +kernel)
  exact h
theorem e_v134 : v134 m c = mulf (v132 m c) (v133 m c) := by
  have h := line.binary (fun b => m (c, b)) 137 (a := main_v132) (b := main_v133) (y := main_v134) rfl (by decide +kernel) (by decide +kernel) (by decide +kernel)
  exact h
theorem e_v135 : v135 m c = broadcastInDim S56x64x16x16 ![0, 1, 2, 3] bcast_S56x64x1x16_S56x64x16x16_0_1_2_3 (v125 m c) := by
  have h := line.unary (fun b => m (c, b)) 138 (x := main_v125) (y := main_v135) rfl (by decide +kernel) (by decide +kernel)
  exact h
theorem e_v136 : v136 m c = broadcastInDim S56x64x16x16 ![0, 1, 2, 3] bcast_S56x64x16x1_S56x64x16x16_0_1_2_3 (v131 m c) := by
  have h := line.unary (fun b => m (c, b)) 139 (x := main_v131) (y := main_v136) rfl (by decide +kernel) (by decide +kernel)
  exact h
theorem e_v137 : v137 m c = mulf (v135 m c) (v136 m c) := by
  have h := line.binary (fun b => m (c, b)) 140 (a := main_v135) (b := main_v136) (y := main_v137) rfl (by decide +kernel) (by decide +kernel) (by decide +kernel)
  exact h
theorem e_v138 : v138 m c = subf (v134 m c) (v137 m c) := by
  have h := line.binary (fun b => m (c, b)) 141 (a := main_v134) (b := main_v137) (y := main_v138) rfl (by decide +kernel) (by decide +kernel) (by decide +kernel)
  exact h
theorem e_v139 : v139 m c = broadcastInDim S56x64x16x16 ![0, 1, 2, 3] bcast_S56x64x1x16_S56x64x16x16_0_1_2_3 (v123 m c) := by
  have h := line.unary (fun b => m (c, b)) 142 (x := main_v123) (y := main_v139) rfl (by decide +kernel) (by decide +kernel)
  exact h
theorem e_v140 : v140 m c = broadcastInDim S56x64x16x16 ![0, 1, 2, 3] bcast_S56x64x16x1_S56x64x16x16_0_1_2_3 (v131 m c) := by
  have h := line.unary (fun b => m (c, b)) 143 (x := main_v131) (y := main_v140) rfl (by decide +kernel) (by decide +kernel)
  exact h
theorem e_v141 : v141 m c = mulf (v139 m c) (v140 m c) := by
  have h := line.binary (fun b => m (c, b)) 144 (a := main_v139) (b := main_v140) (y := main_v141) rfl (by decide +kernel) (by decide +kernel) (by decide +kernel)
  exact h
theorem e_v142 : v142 m c = broadcastInDim S56x64x16x16 ![0, 1, 2, 3] bcast_S56x64x1x16_S56x64x16x16_0_1_2_3 (v125 m c) := by
  have h := line.unary (fun b => m (c, b)) 145 (x := main_v125) (y := main_v142) rfl (by decide +kernel) (by decide +kernel)
  exact h
theorem e_v143 : v143 m c = broadcastInDim S56x64x16x16 ![0, 1, 2, 3] bcast_S56x64x16x1_S56x64x16x16_0_1_2_3 (v128 m c) := by
  have h := line.unary (fun b => m (c, b)) 146 (x := main_v128) (y := main_v143) rfl (by decide +kernel) (by decide +kernel)
  exact h
theorem e_v144 : v144 m c = mulf (v142 m c) (v143 m c) := by
  have h := line.binary (fun b => m (c, b)) 147 (a := main_v142) (b := main_v143) (y := main_v144) rfl (by decide +kernel) (by decide +kernel) (by decide +kernel)
  exact h
theorem e_v145 : v145 m c = addf (v141 m c) (v144 m c) := by
  have h := line.binary (fun b => m (c, b)) 148 (a := main_v141) (b := main_v144) (y := main_v145) rfl (by decide +kernel) (by decide +kernel) (by decide +kernel)
  exact h
theorem e_v146 : v146 m c = shapeCast S56x64x256 (v138 m c) shapeCasts_S56x64x16x16_S56x64x256 := by
  have h := line.reshape (fun b => m (c, b)) 149 (x := main_v138) (y := main_v146) rfl (by decide +kernel) (by decide +kernel)
  exact h
theorem e_v147 : v147 m c = shapeCast S56x64x256 (v145 m c) shapeCasts_S56x64x16x16_S56x64x256 := by
  have h := line.reshape (fun b => m (c, b)) 150 (x := main_v145) (y := main_v147) rfl (by decide +kernel) (by decide +kernel)
  exact h
theorem e_v148 : v148 m c = Host.negf (v147 m c) := by
  have h := line.unary (fun b => m (c, b)) 151 (x := main_v147) (y := main_v148) rfl (by decide +kernel) (by decide +kernel)
  exact h
theorem e_v149 : v149 m c = concatenate S56x128x256 1 [⟨S56x64x256, (v146 m c)⟩, ⟨S56x64x256, (v148 m c)⟩] concatenates_S56x64x256_S56x64x256_S56x128x256_d1 := by
  have h := line.binary (fun b => m (c, b)) 152 (a := main_v146) (b := main_v148) (y := main_v149) rfl (by decide +kernel) (by decide +kernel) (by decide +kernel)
  exact h
theorem e_v150 : v150 m c = extractStridedSlice S56x1x64 ![0, 16, 0] (v24 m c) slices_S56x33x64_S56x1x64_0_16_0 := by
  have h := line.unary (fun b => m (c, b)) 153 (x := main_v24) (y := main_v150) rfl (by decide +kernel) (by decide +kernel)
  exact h
theorem e_v151 : v151 m c = shapeCast S56x64 (v150 m c) shapeCasts_S56x1x64_S56x64 := by
  have h := line.reshape (fun b => m (c, b)) 154 (x := main_v150) (y := main_v151) rfl (by decide +kernel) (by decide +kernel)
  exact h
theorem e_v152 : v152 m c = extractStridedSlice S56x1x64 ![0, 16, 0] (v26 m c) slices_S56x33x64_S56x1x64_0_16_0 := by
  have h := line.unary (fun b => m (c, b)) 155 (x := main_v26) (y := main_v152) rfl (by decide +kernel) (by decide +kernel)
  exact h
theorem e_v153 : v153 m c = shapeCast S56x64 (v152 m c) shapeCasts_S56x1x64_S56x64 := by
  have h := line.reshape (fun b => m (c, b)) 156 (x := main_v152) (y := main_v153) rfl (by decide +kernel) (by decide +kernel)
  exact h
theorem e_v154 : v154 m c = concatenate S56x128 1 [⟨S56x64, (v151 m c)⟩, ⟨S56x64, (v151 m c)⟩] concatenates_S56x64_S56x64_S56x128_d1 := by
  have h := line.binary (fun b => m (c, b)) 157 (a := main_v151) (b := main_v151) (y := main_v154) rfl (by decide +kernel) (by decide +kernel) (by decide +kernel)
  exact h
theorem e_v155 : v155 m c = Host.negf (v153 m c) := by
  have h := line.unary (fun b => m (c, b)) 158 (x := main_v153) (y := main_v155) rfl (by decide +kernel) (by decide +kernel)
  exact h
theorem e_v156 : v156 m c = concatenate S56x128 1 [⟨S56x64, (v155 m c)⟩, ⟨S56x64, (v153 m c)⟩] concatenates_S56x64_S56x64_S56x128_d1 := by
  have h := line.binary (fun b => m (c, b)) 159 (a := main_v155) (b := main_v153) (y := main_v156) rfl (by decide +kernel) (by decide +kernel) (by decide +kernel)
  exact h
theorem e_v157 : v157 m c = Host.negf (v153 m c) := by
  have h := line.unary (fun b => m (c, b)) 160 (x := main_v153) (y := main_v157) rfl (by decide +kernel) (by decide +kernel)
  exact h
theorem e_v158 : v158 m c = concatenate S56x128 1 [⟨S56x64, (v153 m c)⟩, ⟨S56x64, (v157 m c)⟩] concatenates_S56x64_S56x64_S56x128_d1 := by
  have h := line.binary (fun b => m (c, b)) 161 (a := main_v153) (b := main_v157) (y := main_v158) rfl (by decide +kernel) (by decide +kernel) (by decide +kernel)
  exact h
theorem e_v159 : v159 m c = extractStridedSlice S56x1x64 ![0, 32, 0] (v24 m c) slices_S56x33x64_S56x1x64_0_32_0 := by
  have h := line.unary (fun b => m (c, b)) 162 (x := main_v24) (y := main_v159) rfl (by decide +kernel) (by decide +kernel)
  exact h
theorem e_v160 : v160 m c = shapeCast S56x64 (v159 m c) shapeCasts_S56x1x64_S56x64 := by
  have h := line.reshape (fun b => m (c, b)) 163 (x := main_v159) (y := main_v160) rfl (by decide +kernel) (by decide +kernel)
  exact h
theorem e_v161 : v161 m c = extractStridedSlice S56x1x64 ![0, 32, 0] (v26 m c) slices_S56x33x64_S56x1x64_0_32_0 := by
  have h := line.unary (fun b => m (c, b)) 164 (x := main_v26) (y := main_v161) rfl (by decide +kernel) (by decide +kernel)
  exact h
theorem e_v162 : v162 m c = shapeCast S56x64 (v161 m c) shapeCasts_S56x1x64_S56x64 := by
  have h := line.reshape (fun b => m (c, b)) 165 (x := main_v161) (y := main_v162) rfl (by decide +kernel) (by decide +kernel)
  exact h
theorem e_v163 : v163 m c = concatenate S56x128 1 [⟨S56x64, (v160 m c)⟩, ⟨S56x64, (v160 m c)⟩] concatenates_S56x64_S56x64_S56x128_d1 := by
  have h := line.binary (fun b => m (c, b)) 166 (a := main_v160) (b := main_v160) (y := main_v163) rfl (by decide +kernel) (by decide +kernel) (by decide +kernel)
  exact h
theorem e_v164 : v164 m c = Host.negf (v162 m c) := by
  have h := line.unary (fun b => m (c, b)) 167 (x := main_v162) (y := main_v164) rfl (by decide +kernel) (by decide +kernel)
  exact h
theorem e_v165 : v165 m c = concatenate S56x128 1 [⟨S56x64, (v164 m c)⟩, ⟨S56x64, (v162 m c)⟩] concatenates_S56x64_S56x64_S56x128_d1 := by
  have h := line.binary (fun b => m (c, b)) 168 (a := main_v164) (b := main_v162) (y := main_v165) rfl (by decide +kernel) (by decide +kernel) (by decide +kernel)
  exact h
theorem e_v166 : v166 m c = Host.negf (v162 m c) := by
  have h := line.unary (fun b => m (c, b)) 169 (x := main_v162) (y := main_v166) rfl (by decide +kernel) (by decide +kernel)
  exact h
theorem e_v167 : v167 m c = concatenate S56x128 1 [⟨S56x64, (v162 m c)⟩, ⟨S56x64, (v166 m c)⟩] concatenates_S56x64_S56x64_S56x128_d1 := by
  have h := line.binary (fun b => m (c, b)) 170 (a := main_v162) (b := main_v166) (y := main_v167) rfl (by decide +kernel) (by decide +kernel) (by decide +kernel)
  exact h
theorem e_cst_1 : cst_1 m c = constant S_ .f32 0x00000000#32 := by
  have h := line.nullary (fun b => m (c, b)) 171 (y := main_cst_1) rfl (by decide +kernel)
  exact h
theorem e_v168 : v168 m c = broadcastInDim S56x128 ![] bcast_S_S56x128 (cst_1 m c) := by
  have h := line.unary (fun b => m (c, b)) 172 (x := main_cst_1) (y := main_v168) rfl (by decide +kernel) (by decide +kernel)
  exact h
theorem e_v169 : v169 m c = broadcastInDim S56x1x128 ![0, 2] bcast_S56x128_S56x1x128_0_2 (v154 m c) := by
  have h := line.unary (fun b => m (c, b)) 173 (x := main_v154) (y := main_v169) rfl (by decide +kernel) (by decide +kernel)
  exact h
theorem e_v170 : v170 m c = broadcastInDim S56x1x128 ![0, 2] bcast_S56x128_S56x1x128_0_2 (v156 m c) := by
  have h := line.unary (fun b => m (c, b)) 174 (x := main_v156) (y := main_v170) rfl (by decide +kernel) (by decide +kernel)
  exact h
theorem e_v171 : v171 m c = broadcastInDim S56x1x128 ![0, 2] bcast_S56x128_S56x1x128_0_2 (v158 m c) := by
  have h := line.unary (fun b => m (c, b)) 175 (x := main_v158) (y := main_v171) rfl (by decide +kernel) (by decide +kernel)
  exact h
theorem e_v172 : v172 m c = broadcastInDim S56x1x128 ![0, 2] bcast_S56x128_S56x1x128_0_2 (v163 m c) := by
  have h := line.unary (fun b => m (c, b)) 176 (x := main_v163) (y := main_v172) rfl (by decide +kernel) (by decide +kernel)
  exact h
theorem e_v173 : v173 m c = broadcastInDim S56x1x128 ![0, 2] bcast_S56x128_S56x1x128_0_2 (v165 m c) := by
  have h := line.unary (fun b => m (c, b)) 177 (x := main_v165) (y := main_v173) rfl (by decide +kernel) (by decide +kernel)
  exact h
theorem e_v174 : v174 m c = broadcastInDim S56x1x128 ![0, 2] bcast_S56x128_S56x1x128_0_2 (v167 m c) := by
  have h := line.unary (fun b => m (c, b)) 178 (x := main_v167) (y := main_v174) rfl (by decide +kernel) (by decide +kernel)
  exact h
theorem e_v175 : v175 m c = broadcastInDim S56x1x128 ![0, 2] bcast_S56x128_S56x1x128_0_2 (v168 m c) := by
  have h := line.unary (fun b => m (c, b)) 179 (x := main_v168) (y := main_v175) rfl (by decide +kernel) (by decide +kernel)
  exact h
theorem e_v176 : v176 m c = broadcastInDim S56x1x128 ![0, 2] bcast_S56x128_S56x1x128_0_2 (v168 m c) := by
  have h := line.unary (fun b => m (c, b)) 180 (x := main_v168) (y := main_v176) rfl (by decide +kernel) (by decide +kernel)
  exact h
theorem e_v177 : v177 m c = concatenate S56x8x128 1 [⟨S56x1x128, (v169 m c)⟩, ⟨S56x1x128, (v170 m c)⟩, ⟨S56x1x128, (v171 m c)⟩, ⟨S56x1x128, (v172 m c)⟩, ⟨S56x1x128, (v173 m c)⟩, ⟨S56x1x128, (v174 m c)⟩, ⟨S56x1x128, (v175 m c)⟩, ⟨S56x1x128, (v176 m c)⟩] concatenates_S56x1x128_S56x1x128_S56x1x128_S56x1x128_S56x1x128_S56x1x128_S56x1x128_S56x1x128_S56x8x128_d1 := by
  have h := line.nary (fun b => m (c, b)) 181 (xs := ![main_v169, main_v170, main_v171, main_v172, main_v173, main_v174, main_v175, main_v176]) (y := main_v177) rfl (by decide +kernel) (by decide +kernel)
  exact h
theorem e_v178 : v178 m c = truncf .bf16 (v121 m c) bitsLt_bf16_f32 := by
  have h := line.unary (fun b => m (c, b)) 182 (x := main_v121) (y := main_v178) rfl (by decide +kernel) (by decide +kernel)
  exact h
theorem e_v179 : v179 m c = truncf .bf16 (v149 m c) bitsLt_bf16_f32 := by
  have h := line.unary (fun b => m (c, b)) 183 (x := main_v149) (y := main_v179) rfl (by decide +kernel) (by decide +kernel)
  exact h

end Cert.KernelIdeal.Host
end
-- ==== Proof.HostReal.lean ====
module

public import proofs.«01_k».proof.Proof.HostEqs
public import proofs.«01_k».proof.Proof.Tables
public import Idealize.ShloMosaic.Lib.Routing.OpsPair

/-!
# The kernel's tables, read at an index

The host operations' buffers at an index, as the real numbers of `Cert.Ssm.Params`.
-/

@[expose] public section
set_option maxRecDepth 65536
noncomputable section
namespace Cert.KernelIdeal.Host
open Cert.KernelIdeal.Gen Cert.Ssm
open Idealize.ShloMosaic Idealize.ShloMosaic.TcCoe

variable (m : (ℓ : Loc nD τ sig) → Buf (Elt Ideal) ℓ) (c : Dev nD) (p : Params)

/-- The arguments hold the real numbers `p`, and no decay rate is zero. -/
structure Reads : Prop where
  h0 : ∀ b t g q, arg0 m c (ix4 b t g q) = ((p.u b t g q : ℝ) : EReal)
  h1 : ∀ g n, arg1 m c (ix2 g n) = ((p.ar g n : ℝ) : EReal)
  h2 : ∀ g n, arg2 m c (ix2 g n) = ((p.ai g n : ℝ) : EReal)
  h3 : ∀ g, arg3 m c (ix1 g) = ((p.ld g : ℝ) : EReal)
  h4 : ∀ g n x, arg4 m c (ix3 g n x) = ((p.br g n x : ℝ) : EReal)
  h5 : ∀ g n x, arg5 m c (ix3 g n x) = ((p.bi g n x : ℝ) : EReal)
  h6 : ∀ g q n, arg6 m c (ix3 g q n) = ((p.cr g q n : ℝ) : EReal)
  h7 : ∀ g q n, arg7 m c (ix3 g q n) = ((p.ci g q n : ℝ) : EReal)
  h8 : ∀ g q, arg8 m c (ix2 g q) = ((p.ds g q : ℝ) : EReal)
  hd : ∀ g n, p.den g n ≠ 0

theorem div_real (x y : ℝ) (hy : y ≠ 0) : Ideal.div (x : EReal) (y : EReal) = ((x / y : ℝ) : EReal) := by
  rw [Ideal.div_coe hy, ← EReal.coe_mul, mul_one_div]

theorem coe_sum {ι : Type} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

theorem fold_none {α β : Type} (l : List β) (Q : β → Prop) [DecidablePred Q] (f : α → β → α) (a : α) (hn : ∀ n ∈ l, ¬ Q n) :
    l.foldl (fun a n => if Q n then f a n else a) a = a := by
  induction l generalizing a with
  | nil => rfl
  | cons b l ih =>
    rw [List.foldl_cons, if_neg (hn b List.mem_cons_self)]
    exact ih a fun n hl => hn n (List.mem_cons_of_mem _ hl)

theorem fold_once {α β : Type} (l : List β) (hl : l.Nodup) (Q : β → Prop) [DecidablePred Q] (f : α → β → α) (a : α) (k : β) (hk : k ∈ l) (hq : ∀ n, Q n ↔ n = k) :
    l.foldl (fun a n => if Q n then f a n else a) a = f a k := by
  induction l generalizing a with
  | nil => cases hk
  | cons b l ih =>
    rw [List.nodup_cons] at hl
    by_cases e : b = k
    · subst e
      rw [List.foldl_cons, if_pos ((hq b).2 rfl)]
      refine fold_none l Q f _ fun n hn q => hl.1 ?_
      rw [← (hq n).1 q]
      exact hn
    · rw [List.foldl_cons, if_neg fun q => e ((hq b).1 q)]
      exact ih hl.2 a ((List.mem_cons.1 hk).resolve_left fun q => e q.symm)

/-- The update of the scatter into lag zero that lands at an entry. -/
theorem lands (idx : IVec S1 32) (hidx : (idx (ix1 0)).toInt = 0) (g : Fin 56) (q x : Fin 16) (g' : Fin 56) (s q' x' : Fin 16) :
    scatter_S56x16x16x16_S1_S56x16x16_012_1_1_0.resultIdx? (ix3 g q x) idx = some (ix4 g' s q' x') ↔ g = g' ∧ s = 0 ∧ q = q' ∧ x = x' := by
  rw [Routing.resultIdx?_eq_some]
  have w0 : scatter_S56x16x16x16_S1_S56x16x16_012_1_1_0.window (ix3 g q x) 0 = g.val := rfl
  have w1 : scatter_S56x16x16x16_S1_S56x16x16_012_1_1_0.window (ix3 g q x) 1 = 0 := rfl
  have w2 : scatter_S56x16x16x16_S1_S56x16x16_012_1_1_0.window (ix3 g q x) 2 = q.val := rfl
  have w3 : scatter_S56x16x16x16_S1_S56x16x16_012_1_1_0.window (ix3 g q x) 3 = x.val := rfl
  have s0 : scatter_S56x16x16x16_S1_S56x16x16_012_1_1_0.start (ix3 g q x) idx 0 = 0 := rfl
  have s2 : scatter_S56x16x16x16_S1_S56x16x16_012_1_1_0.start (ix3 g q x) idx 2 = 0 := rfl
  have s3 : scatter_S56x16x16x16_S1_S56x16x16_012_1_1_0.start (ix3 g q x) idx 3 = 0 := rfl
  have s1 : scatter_S56x16x16x16_S1_S56x16x16_012_1_1_0.start (ix3 g q x) idx 1 = 0 := by
    rw [← hidx]
    unfold ScatterDims.start
    rw [dif_pos (by decide)]
    congr 2
    funext b
    match b with
    | ⟨0, _⟩ => exact Subsingleton.elim (α := Fin 1) _ _
  constructor
  · intro e
    have e0 := e 0; have e1 := e 1; have e2 := e 2; have e3 := e 3
    rw [w0, s0] at e0; rw [w1, s1] at e1; rw [w2, s2] at e2; rw [w3, s3] at e3
    have f0 : (g.val : Int) = (g'.val : Int) := by simpa using e0
    have f1 : (0 : Int) = (s.val : Int) := by simpa using e1
    have f2 : (q.val : Int) = (q'.val : Int) := by simpa using e2
    have f3 : (x.val : Int) = (x'.val : Int) := by simpa using e3
    refine ⟨Fin.ext (by omega), Fin.ext (by omega), Fin.ext (by omega), Fin.ext (by omega)⟩
  · rintro ⟨rfl, rfl, rfl, rfl⟩ a
    match a with
    | ⟨0, _⟩ => rw [show (⟨0, _⟩ : Fin S56x16x16x16.rank) = 0 from rfl, w0, s0]; simp
    | ⟨1, _⟩ => rw [show (⟨1, _⟩ : Fin S56x16x16x16.rank) = 1 from rfl, w1, s1]; simp
    | ⟨2, _⟩ => rw [show (⟨2, _⟩ : Fin S56x16x16x16.rank) = 2 from rfl, w2, s2]; simp
    | ⟨3, _⟩ => rw [show (⟨3, _⟩ : Fin S56x16x16x16.rank) = 3 from rfl, w3, s3]; simp

/-- The scatter into lag zero at an entry: the update is added at lag zero. -/
theorem scatter_at (f : EReal → EReal → EReal) (z : S56x16x16x16.Idx → EReal) (idx : IVec S1 32) (hidx : (idx (ix1 0)).toInt = 0) (up : S56x16x16.Idx → EReal)
    (g : Fin 56) (s q x : Fin 16) :
    Host.scatter scatter_S56x16x16x16_S1_S56x16x16_012_1_1_0 f z idx up (ix4 g s q x) = if s = 0 then f (z (ix4 g s q x)) (up (ix3 g q x)) else z (ix4 g s q x) := by
  rw [Routing.scatter_at]
  have hl : ∀ n, scatter_S56x16x16x16_S1_S56x16x16_012_1_1_0.resultIdx? (S56x16x16.rowMajor.symm n) idx = some (ix4 g s q x)
      ↔ S56x16x16.rowMajor.symm n = ix3 g q x ∧ s = 0 := fun n => by
    generalize S56x16x16.rowMajor.symm n = j
    obtain ⟨a, b, d, rfl⟩ : ∃ (a : Fin 56) (b d : Fin 16), j = ix3 a b d := ⟨j 0, j 1, j 2, eq_ix3 j⟩
    rw [lands idx hidx]
    constructor
    · rintro ⟨rfl, hs, rfl, rfl⟩; exact ⟨rfl, hs⟩
    · rintro ⟨e, hs⟩
      exact ⟨congrFun e 0, hs, congrFun e 1, congrFun e 2⟩
  by_cases hs : s = 0
  · rw [if_pos hs]
    refine (fold_once _ (List.nodup_finRange _) _ _ _ (S56x16x16.rowMajor (ix3 g q x)) (List.mem_finRange _) fun n => ?_).trans ?_
    · rw [hl]
      constructor
      · rintro ⟨e, _⟩; rw [← e, Equiv.apply_symm_apply]
      · rintro rfl; exact ⟨Equiv.symm_apply_apply _ _, hs⟩
    · rw [Equiv.symm_apply_apply]
  · rw [if_neg hs]
    exact fold_none _ _ _ _ fun n _ e => hs ((hl n).1 e).2

variable {m c p} (h : Reads m c p)
include h

theorem v6_at (s : Fin 33) : v6 m c (ix1 s) = (((s.val : ℝ) : ℝ) : EReal) := by
  rw [e_v6]; pointwise
  show (((BitVec.ofNat 32 s.val).toInt : ℝ) : EReal) = _
  rw [StableHlo.Predicate.toInt_ofNat_small _ (by omega)]
  simp

theorem v14_at (g : Fin 56) (s : Fin 33) (n : Fin 64) : v14 m c (ix3 g s n) = ((p.ar g n * Real.exp (p.ld g) * (s.val : ℝ) : ℝ) : EReal) := by
  rw [e_v14, e_v12, e_v13, e_v11, e_v10, e_v9, e_v8, e_v7, e_v5, e_v4]
  pointwise [v6_at h, h.h1, h.h3]
  simp [Ideal.exp_coe, EReal.coe_mul]

theorem v22_at (g : Fin 56) (s : Fin 33) (n : Fin 64) : v22 m c (ix3 g s n) = ((p.ai g n * Real.exp (p.ld g) * (s.val : ℝ) : ℝ) : EReal) := by
  rw [e_v22, e_v20, e_v21, e_v19, e_v18, e_v17, e_v16, e_v7, e_v5, e_v4]
  pointwise [v6_at h, h.h2, h.h3]
  simp [Ideal.exp_coe, EReal.coe_mul]

theorem v24_at (g : Fin 56) (s : Fin 33) (n : Fin 64) : v24 m c (ix3 g s n) = ((p.pr g (s.val : ℝ) n : ℝ) : EReal) := by
  rw [e_v24, e_v15, e_v23]
  pointwise [v14_at h, v22_at h]
  rw [Ideal.exp_coe, Ideal.cos_coe, ← EReal.coe_mul]
  rfl

theorem v26_at (g : Fin 56) (s : Fin 33) (n : Fin 64) : v26 m c (ix3 g s n) = ((p.pi g (s.val : ℝ) n : ℝ) : EReal) := by
  rw [e_v26, e_v15, e_v25]
  pointwise [v14_at h, v22_at h]
  rw [Ideal.exp_coe, Ideal.sin_coe, ← EReal.coe_mul]
  rfl

theorem v33_at (g : Fin 56) (n : Fin 64) : v33 m c (ix2 g n) = ((p.den g n : ℝ) : EReal) := by
  rw [e_v33, e_v31, e_v32]
  pointwise [h.h1, h.h2]
  simp [EReal.coe_mul, Params.den]

theorem v36_at (g : Fin 56) (n : Fin 64) : v36 m c (ix2 g n) = ((p.ar g n / p.den g n : ℝ) : EReal) := by
  rw [e_v36]
  pointwise [v33_at h, h.h1]
  exact div_real _ _ (h.hd g n)

theorem v38_at (g : Fin 56) (n : Fin 64) : v38 m c (ix2 g n) = ((-p.ai g n / p.den g n : ℝ) : EReal) := by
  rw [e_v38, e_v37]
  pointwise [v33_at h, h.h2]
  rw [← EReal.coe_neg]
  exact div_real _ _ (h.hd g n)

theorem v28_at (g : Fin 56) (n : Fin 64) : v28 m c (ix2 g n) = ((p.pr g 1 n : ℝ) : EReal) := by
  rw [e_v28, e_v27]
  pointwise [v24_at h]
  simp

theorem v30_at (g : Fin 56) (n : Fin 64) : v30 m c (ix2 g n) = ((p.pi g 1 n : ℝ) : EReal) := by
  rw [e_v30, e_v29]
  pointwise [v26_at h]
  simp

theorem v41_at (g : Fin 56) (n : Fin 64) : v41 m c (ix2 g n) = ((p.fr g n : ℝ) : EReal) := by
  rw [e_v41, e_v39, e_v40, e_v35, e_v34, e_cst]
  pointwise [v28_at h, v30_at h, v36_at h, v38_at h]
  simp [EReal.coe_mul, EReal.coe_sub, Params.fr]

theorem v44_at (g : Fin 56) (n : Fin 64) : v44 m c (ix2 g n) = ((p.fi g n : ℝ) : EReal) := by
  rw [e_v44, e_v42, e_v43, e_v35, e_v34, e_cst]
  pointwise [v28_at h, v30_at h, v36_at h, v38_at h]
  simp [EReal.coe_mul, EReal.coe_sub, Params.fi]

theorem v51_at (g : Fin 56) (n : Fin 64) (x : Fin 16) : v51 m c (ix3 g n x) = ((p.bbr g n x : ℝ) : EReal) := by
  rw [e_v51, e_v48, e_v50, e_v47, e_v49, e_v45, e_v46]
  pointwise [v41_at h, v44_at h, h.h4, h.h5]
  simp [EReal.coe_mul, EReal.coe_sub, Params.bbr]

theorem v56_at (g : Fin 56) (n : Fin 64) (x : Fin 16) : v56 m c (ix3 g n x) = ((p.bbi g n x : ℝ) : EReal) := by
  rw [e_v56, e_v53, e_v55, e_v52, e_v54, e_v45, e_v46]
  pointwise [v41_at h, v44_at h, h.h4, h.h5]
  simp [EReal.coe_mul, EReal.coe_sub, Params.bbi]

theorem v69_at (g : Fin 56) (s q : Fin 16) (n : Fin 64) : v69 m c (ix4 g s q n) = ((p.car g (s.val : ℝ) q n : ℝ) : EReal) := by
  rw [e_v69, e_v65, e_v68, e_v63, e_v64, e_v66, e_v67, e_v57, e_v58, e_v60, e_v62, e_v59, e_v61]
  pointwise [v24_at h, v26_at h, h.h6, h.h7]
  simp [EReal.coe_mul, EReal.coe_sub, Params.car]

theorem v76_at (g : Fin 56) (s q : Fin 16) (n : Fin 64) : v76 m c (ix4 g s q n) = ((p.cai g (s.val : ℝ) q n : ℝ) : EReal) := by
  rw [e_v76, e_v72, e_v75, e_v70, e_v71, e_v73, e_v74, e_v57, e_v58, e_v60, e_v62, e_v59, e_v61]
  pointwise [v24_at h, v26_at h, h.h6, h.h7]
  simp [EReal.coe_mul, EReal.coe_sub, Params.cai]

theorem v79_at (g : Fin 56) (s q x : Fin 16) : v79 m c (ix4 g s q x)
    = ((∑ n, p.car g (s.val : ℝ) q n * p.bbr g n x - ∑ n, p.cai g (s.val : ℝ) q n * p.bbi g n x : ℝ) : EReal) := by
  rw [e_v79, e_v77, e_v78]
  pointwise [v69_at h, v76_at h, v51_at h, v56_at h]
  simp only [← EReal.coe_mul, coe_sum, ← EReal.coe_sub]

theorem v90_at (g : Fin 56) (q x : Fin 16) : v90 m c (ix3 g q x) = ((p.ds g q * (if q = x then 1 else 0) : ℝ) : EReal) := by
  rw [e_v90, e_v88, e_v89, e_v87, e_v86, e_v85, e_v84, e_v83, e_v82, e_v81, e_v80, e_cstI]
  pointwise [h.h8]
  have e : ∀ q x : Fin 16, IntOp.cmpi .eq (IntOp.addi (BitVec.ofNat 32 q.val) 0#32) (BitVec.ofNat 32 x.val) = if q = x then 1#1 else 0#1 := by decide
  rw [e, EReal.coe_mul]
  congr 1
  split
  · show (((1#1 : BitVec 1).toNat : ℝ) : EReal) = _
    simp
  · show (((0#1 : BitVec 1).toNat : ℝ) : EReal) = _
    simp

theorem v92_at (g : Fin 56) (s q x : Fin 16) : v92 m c (ix4 g s q x) = ((p.kern g s q x : ℝ) : EReal) := by
  rw [e_v92, scatter_at _ _ _ (by rw [e_v91, e_c_0]; pointwise; decide), v79_at h, v90_at h]
  unfold Params.kern
  split
  · rw [EReal.coe_add]; rfl
  · rw [add_zero]

theorem v94_at (g : Fin 56) (x : Fin 16) (j : Fin 256) : v94 m c (ix3 g x j) = ((p.M g x j : ℝ) : EReal) := by
  rw [e_v94, e_v93]
  pointwise [v92_at h]
  rfl

theorem v111_at (g : Fin 56) (s x : Fin 16) (n : Fin 64) : v111 m c (ix4 g s x n) = ((p.wr g s x n : ℝ) : EReal) := by
  rw [e_v111, e_v107, e_v110, e_v105, e_v106, e_v108, e_v109, e_v103, e_v104, e_v96, e_v98, e_v100, e_v102, e_v95, e_v97, e_v99, e_v101]
  pointwise [v24_at h, v26_at h, v51_at h, v56_at h]
  simp only [← EReal.coe_mul, ← EReal.coe_sub]
  show ((p.pr g ((s.rev : Fin 16).val : ℝ) n * p.bbr g n x - p.pi g ((s.rev : Fin 16).val : ℝ) n * p.bbi g n x : ℝ) : EReal) = _
  have e : ((s.rev : Fin 16).val : ℝ) = ((15 - s.val : ℕ) : ℝ) := by rw [Fin.val_rev]; congr 1; omega
  rw [e]
  rfl

theorem v118_at (g : Fin 56) (s x : Fin 16) (n : Fin 64) : v118 m c (ix4 g s x n) = ((p.wi g s x n : ℝ) : EReal) := by
  rw [e_v118, e_v114, e_v117, e_v112, e_v113, e_v115, e_v116, e_v103, e_v104, e_v96, e_v98, e_v100, e_v102, e_v95, e_v97, e_v99, e_v101]
  pointwise [v24_at h, v26_at h, v51_at h, v56_at h]
  simp only [← EReal.coe_mul, ← EReal.coe_add]
  show ((p.pr g ((s.rev : Fin 16).val : ℝ) n * p.bbi g n x + p.pi g ((s.rev : Fin 16).val : ℝ) n * p.bbr g n x : ℝ) : EReal) = _
  have e : ((s.rev : Fin 16).val : ℝ) = ((15 - s.val : ℕ) : ℝ) := by rw [Fin.val_rev]; congr 1; omega
  rw [e]
  rfl

theorem v119_at (g : Fin 56) (j : Fin 256) (n : Fin 64) : v119 m c (ix3 g j n) = ((p.wr g ⟨j.val / 16, by omega⟩ ⟨j.val % 16, by omega⟩ n : ℝ) : EReal) := by
  rw [e_v119]
  pointwise [v111_at h]

theorem v120_at (g : Fin 56) (j : Fin 256) (n : Fin 64) : v120 m c (ix3 g j n) = ((p.wi g ⟨j.val / 16, by omega⟩ ⟨j.val % 16, by omega⟩ n : ℝ) : EReal) := by
  rw [e_v120]
  pointwise [v118_at h]

theorem v178_at (g : Fin 56) (j l : Fin 256) : v178 m c (ix3 g j l) = ((p.W g j l : ℝ) : EReal) := by
  rw [e_v178, e_v121]
  pointwise [v119_at h, v120_at h]
  have hl := l.isLt
  unfold Params.W
  by_cases h1 : l.val < 64
  · simp only [dif_pos h1, if_pos h1]
    exact congrArg (fun n => ((p.wr g _ _ n : ℝ) : EReal)) (Fin.ext (by show l.val = l.val % 64; omega))
  by_cases h2 : l.val - 64 < 64
  · simp only [dif_neg h1, if_neg h1, dif_pos h2, if_pos (show l.val < 192 by omega)]
    exact congrArg (fun n => ((p.wi g _ _ n : ℝ) : EReal)) (Fin.ext (by show l.val - 64 = l.val % 64; omega))
  by_cases h3 : l.val - 64 - 64 < 64
  · simp only [dif_neg h1, if_neg h1, dif_neg h2, dif_pos h3, if_pos (show l.val < 192 by omega)]
    exact congrArg (fun n => ((p.wi g _ _ n : ℝ) : EReal)) (Fin.ext (by show l.val - 64 - 64 = l.val % 64; omega))
  simp only [dif_neg h1, if_neg h1, dif_neg h2, dif_neg h3, if_neg (show ¬ l.val < 192 by omega)]
  exact congrArg (fun n => ((p.wr g _ _ n : ℝ) : EReal)) (Fin.ext (by show l.val - 64 - 64 - 64 = l.val % 64; omega))

theorem v138_at (g : Fin 56) (n : Fin 64) (s q : Fin 16) : v138 m c (ix4 g n s q) = ((p.car g ((s.val + 1 : ℕ) : ℝ) q n : ℝ) : EReal) := by
  rw [e_v138, e_v134, e_v137, e_v132, e_v133, e_v135, e_v136, e_v123, e_v125, e_v128, e_v131, e_v122, e_v124, e_v127, e_v130, e_v126, e_v129]
  pointwise [v24_at h, v26_at h, h.h6, h.h7]
  simp only [← EReal.coe_mul, ← EReal.coe_sub]
  rw [Nat.add_comm 1 s.val]
  rfl

theorem v145_at (g : Fin 56) (n : Fin 64) (s q : Fin 16) : v145 m c (ix4 g n s q) = ((p.cai g ((s.val + 1 : ℕ) : ℝ) q n : ℝ) : EReal) := by
  rw [e_v145, e_v141, e_v144, e_v139, e_v140, e_v142, e_v143, e_v123, e_v125, e_v128, e_v131, e_v122, e_v124, e_v127, e_v130, e_v126, e_v129]
  pointwise [v24_at h, v26_at h, h.h6, h.h7]
  simp only [← EReal.coe_mul, ← EReal.coe_add]
  rw [Nat.add_comm 1 s.val]
  rfl

theorem v179_at (g : Fin 56) (l : Fin 128) (j : Fin 256) : v179 m c (ix3 g l j) = ((p.V g l j : ℝ) : EReal) := by
  rw [e_v179, e_v149, e_v148, e_v146, e_v147]
  pointwise [v138_at h, v145_at h]
  have hl := l.isLt
  unfold Params.V
  by_cases h1 : l.val < 64
  · simp only [dif_pos h1, if_pos h1]
    exact congrArg (fun n => ((p.car g _ _ n : ℝ) : EReal)) (Fin.ext (by show l.val = l.val % 64; omega))
  simp only [dif_neg h1, if_neg h1, EReal.coe_neg]
  exact congrArg (fun n => -((p.cai g _ _ n : ℝ) : EReal)) (Fin.ext (by show l.val - 64 = l.val % 64; omega))

theorem v177_at (g : Fin 56) (k : Fin 8) (l : Fin 128) : v177 m c (ix3 g k l) = ((p.P g k l : ℝ) : EReal) := by
  rw [e_v177, e_v169, e_v170, e_v171, e_v172, e_v173, e_v174, e_v175, e_v176, e_v168, e_v154, e_v156, e_v158, e_v163, e_v165, e_v167, e_v155, e_v157, e_v164, e_v166,
    e_v151, e_v153, e_v160, e_v162, e_v150, e_v152, e_v159, e_v161, e_cst_1]
  pointwise [v24_at h, v26_at h]
  have hl := l.isLt
  have a1 : ∀ h1 : l.val < 64, (⟨l.val, h1⟩ : Fin 64) = ⟨l.val % 64, by omega⟩ := fun h1 => Fin.ext (Nat.mod_eq_of_lt h1).symm
  have a2 : ∀ (h1 : ¬ l.val < 64) (h2 : l.val - 64 < 64), (⟨l.val - 64, h2⟩ : Fin 64) = ⟨l.val % 64, by omega⟩ := fun h1 h2 => Fin.ext (by show l.val - 64 = l.val % 64; omega)
  unfold Params.P
  by_cases h1 : l.val < 64
  · simp only [dif_pos h1, if_pos h1, a1 h1]
    fin_cases k <;> simp
  · simp only [dif_neg h1, if_neg h1, a2 h1]
    fin_cases k <;> simp

theorem v3_at (g : Fin 56) (r : Fin 1024) (j : Fin 256) : v3 m c (ix3 g r j) = ((p.U g r j : ℝ) : EReal) := by
  rw [e_v3, e_v2, e_v1, e_v0]
  pointwise [h.h0]
  rfl

end Cert.KernelIdeal.Host
end
-- ==== Proof.KernelArr.lean ====
module

public import proofs.«01_k».proof.Proof.SsmFrame
public import proofs.«01_k».proof.Proof.SsmValue
public import proofs.«01_k».proof.Proof.HostReal
public import Idealize.ShloMosaic.Lib.Pipeline.ValueKit

/-!
# The kernel's result array

Every entry of the array the kernel leaves, over the real numbers the arguments hold.
-/

@[expose] public section
set_option maxRecDepth 65536
noncomputable section
namespace Cert.KernelIdeal.Ssm
open Cert.KernelIdeal.Gen Cert.Ssm Cert.KernelIdeal.Host
open Idealize.ShloMosaic Idealize.ShloMosaic.TcCoe Idealize.ShloMosaic.Pipeline

variable {m : (ℓ : Loc nD τ sig) → Buf (Elt Ideal) ℓ} {c : Dev nD} {p : Params}

theorem trips (t : Fin cfg0.N) : t.val < 14 := t.isLt

/-- Group `g` of point `t`. -/
abbrev grp (t : Fin cfg0.N) (g : Fin 4) : Fin 56 := ⟨4 * t.val + g.val, by have := trips t; omega⟩

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)

theorem iblk0_at (t : Fin cfg0.N) (g : Fin 4) (r : Fin 1024) (x : Fin 256) : iblk m c 0 t (ix3 g r x) = v3 m c (ix3 (grp t g) r x) := by
  blk_simp [iblk]
  refine congrArg (V m c main_v3) ?_
  blk_ext [idx0]
theorem iblk1_at (t : Fin cfg0.N) (g : Fin 4) (r : Fin 16) (x : Fin 256) : iblk m c 1 t (ix3 g r x) = v94 m c (ix3 (grp t g) r x) := by
  blk_simp [iblk]
  refine congrArg (V m c main_v94) ?_
  blk_ext [idx1]
theorem iblk2_at (t : Fin cfg0.N) (g : Fin 4) (r x : Fin 256) : iblk m c 2 t (ix3 g r x) = v178 m c (ix3 (grp t g) r x) := by
  blk_simp [iblk]
  refine congrArg (V m c main_v178) ?_
  blk_ext [idx2]
theorem iblk3_at (t : Fin cfg0.N) (g : Fin 4) (r : Fin 128) (x : Fin 256) : iblk m c 3 t (ix3 g r x) = v179 m c (ix3 (grp t g) r x) := by
  blk_simp [iblk]
  refine congrArg (V m c main_v179) ?_
  blk_ext [idx3]
theorem iblk4_at (t : Fin cfg0.N) (g : Fin 4) (r : Fin 8) (x : Fin 128) : iblk m c 4 t (ix3 g r x) = v177 m c (ix3 (grp t g) r x) := by
  blk_simp [iblk]
  refine congrArg (V m c main_v177) ?_
  blk_ext [idx4]

/-- The kernel's result array at an entry, as a real number. -/
def outR (p : Params) (g : Fin 56) (r : Fin 1024) (j : Fin 256) : ℝ := resultOf (p.U g) (p.M g) (p.W g) (p.V g) (p.P g) r j

theorem arr_eq (h : Reads m c p) :
    (dats m 0 c).arrAt 5 cfg0.N = fun i : S56x1024x256.Idx => ((outR p (i 0) (i 1) (i 2) : ℝ) : EReal) := by
  refine (dats m 0 c).arrAt_eq_of_covers 5 _ (by decide +kernel) fun t hf y => ?_
  blk_simp
  rw [after_5]
  unfold block
  obtain ⟨g, r, j, rfl⟩ : ∃ (g : Fin 4) (r : Fin 1024) (j : Fin 256), y = ix3 g r j := ⟨y 0, y 1, y 2, eq_ix3 y⟩
  rw [result_at (U := fun g r x => p.U (grp t g) r x) (M := fun g r x => p.M (grp t g) r x) (W := fun g r x => p.W (grp t g) r x)
    (V := fun g r x => p.V (grp t g) r x) (P := fun g r x => p.P (grp t g) r x) _ _ _ _ _
    (fun g r x => (iblk0_at t g r x).trans (v3_at h _ _ _)) (fun g r x => (iblk1_at t g r x).trans (v94_at h _ _ _))
    (fun g r x => (iblk2_at t g r x).trans (v178_at h _ _ _)) (fun g r x => (iblk3_at t g r x).trans (v179_at h _ _ _))
    (fun g r x => (iblk4_at t g r x).trans (v177_at h _ _ _))]
  have e0 : ((win0_5.blk t).view.emb (ix3 g r j)) = (ix3 (grp t g) r j : S56x1024x256.Idx) := by
    blk_ext [idx5]
  rw [e0]
  rfl

end Cert.KernelIdeal.Ssm
end
-- ==== Proof.RefEqs.lean ====
module

public import proofs.«01_k».proof.Proof.Gen.ReferenceIdeal.Run
public import proofs.«01_k».proof.Proof.HostRead
public import Idealize.ShloMosaic.Lib.Pointwise

/-!
# The host operations' buffers

What each buffer holds after the host operations, as its operation's value of the buffers it reads.
-/

@[expose] public section
set_option maxRecDepth 65536
set_option maxHeartbeats 4000000
noncomputable section
namespace Cert.ReferenceIdeal.Host
open Cert.ReferenceIdeal.Gen Cert.HostRead
open Idealize.ShloMosaic Idealize.ShloMosaic.TcCoe

variable (m : (ℓ : Loc nD τ sig) → Buf (Elt Ideal) ℓ) (c : Dev nD)

/-- What a buffer holds when the loop is entered. -/
noncomputable def V (b : Ref sig .tc) := StableHlo.after (hostOps0 : List (HloOp τ sig (Elt Ideal))) (fun b => m (c, b)) (Proc.devRef .tc b)

/-- The references the line writes, in order. -/
noncomputable def written : List (Ref sig .tc) := [main_v0, main_v1, main_v2, main_v3, main_v4, main_v5, main_v6, main_v7, main_v8, main_v9, main_v10, main_v11, main_v12, main_v13, main_v14, main_v15, main_cst, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_cst_0, main_v42, main_v43, main_v44, main_cst_1, main_v45, main_cst_2, main_v46, main_c, main_v47_0, main_v47_1, main_v47_2, main_v47_3, main_v47_4, main_v47_5, main_v47_6, main_v47_7, main_v47_8]

theorem line : Line (hostOps0 : List (HloOp τ sig (Elt Ideal))) written := ⟨rfl⟩

noncomputable def arg0 : FVec Ideal S4x4096x56x16 .f32 := V m c main_arg0
noncomputable def arg1 : FVec Ideal S56x64 .f32 := V m c main_arg1
noncomputable def arg2 : FVec Ideal S56x64 .f32 := V m c main_arg2
noncomputable def arg3 : FVec Ideal S56 .f32 := V m c main_arg3
noncomputable def arg4 : FVec Ideal S56x64x16 .f32 := V m c main_arg4
noncomputable def arg5 : FVec Ideal S56x64x16 .f32 := V m c main_arg5
noncomputable def v0 : FVec Ideal S56 .f32 := V m c main_v0
noncomputable def v1 : FVec Ideal S56x1 .f32 := V m c main_v1
noncomputable def v2 : FVec Ideal S56x64 .f32 := V m c main_v2
noncomputable def v3 : FVec Ideal S56x64 .f32 := V m c main_v3
noncomputable def v4 : FVec Ideal S56x64 .f32 := V m c main_v4
noncomputable def v5 : FVec Ideal S56x64 .f32 := V m c main_v5
noncomputable def v6 : FVec Ideal S56x64 .f32 := V m c main_v6
noncomputable def v7 : FVec Ideal S56x64 .f32 := V m c main_v7
noncomputable def v8 : FVec Ideal S56x64 .f32 := V m c main_v8
noncomputable def v9 : FVec Ideal S56x64 .f32 := V m c main_v9
noncomputable def v10 : FVec Ideal S56x64 .f32 := V m c main_v10
noncomputable def v11 : FVec Ideal S56x64 .f32 := V m c main_v11
noncomputable def v12 : FVec Ideal S56x64 .f32 := V m c main_v12
noncomputable def v13 : FVec Ideal S56x64 .f32 := V m c main_v13
noncomputable def v14 : FVec Ideal S56x64 .f32 := V m c main_v14
noncomputable def v15 : FVec Ideal S56x64 .f32 := V m c main_v15
noncomputable def cst : FVec Ideal S_ .f32 := V m c main_cst
noncomputable def v16 : FVec Ideal S56x64 .f32 := V m c main_v16
noncomputable def v17 : FVec Ideal S56x64 .f32 := V m c main_v17
noncomputable def v18 : FVec Ideal S56x64 .f32 := V m c main_v18
noncomputable def v19 : FVec Ideal S56x64 .f32 := V m c main_v19
noncomputable def v20 : FVec Ideal S56x64 .f32 := V m c main_v20
noncomputable def v21 : FVec Ideal S56x64 .f32 := V m c main_v21
noncomputable def v22 : FVec Ideal S56x64x1 .f32 := V m c main_v22
noncomputable def v23 : FVec Ideal S56x64 .f32 := V m c main_v23
noncomputable def v24 : FVec Ideal S56x64 .f32 := V m c main_v24
noncomputable def v25 : FVec Ideal S56x64 .f32 := V m c main_v25
noncomputable def v26 : FVec Ideal S56x64 .f32 := V m c main_v26
noncomputable def v27 : FVec Ideal S56x64x1 .f32 := V m c main_v27
noncomputable def v28 : FVec Ideal S56x64x16 .f32 := V m c main_v28
noncomputable def v29 : FVec Ideal S56x64x16 .f32 := V m c main_v29
noncomputable def v30 : FVec Ideal S56x64x16 .f32 := V m c main_v30
noncomputable def v31 : FVec Ideal S56x64x16 .f32 := V m c main_v31
noncomputable def v32 : FVec Ideal S56x64x16 .f32 := V m c main_v32
noncomputable def v33 : FVec Ideal S56x64x16 .f32 := V m c main_v33
noncomputable def v34 : FVec Ideal S56x64x16 .f32 := V m c main_v34
noncomputable def v35 : FVec Ideal S56x64x16 .f32 := V m c main_v35
noncomputable def v36 : FVec Ideal S56x64x16 .f32 := V m c main_v36
noncomputable def v37 : FVec Ideal S56x64x16 .f32 := V m c main_v37
noncomputable def v38 : FVec Ideal S56x64x4x4096 .f32 := V m c main_v38
noncomputable def v39 : FVec Ideal S4x4096x56x64 .f32 := V m c main_v39
noncomputable def v40 : FVec Ideal S56x64x4x4096 .f32 := V m c main_v40
noncomputable def v41 : FVec Ideal S4x4096x56x64 .f32 := V m c main_v41
noncomputable def cst_0 : FVec Ideal S_ .f32 := V m c main_cst_0
noncomputable def v42 : FVec Ideal S4x56x64 .f32 := V m c main_v42
noncomputable def v43 : FVec Ideal S4096x4x56x64 .f32 := V m c main_v43
noncomputable def v44 : FVec Ideal S4096x4x56x64 .f32 := V m c main_v44
noncomputable def cst_1 : FVec Ideal S_ .f32 := V m c main_cst_1
noncomputable def v45 : FVec Ideal S4096x4x56x64 .f32 := V m c main_v45
noncomputable def cst_2 : FVec Ideal S_ .f32 := V m c main_cst_2
noncomputable def v46 : FVec Ideal S4096x4x56x64 .f32 := V m c main_v46
noncomputable def cstI : IVec S_ 32 := V m c main_c
noncomputable def v47_0 : FVec Ideal S4096x4x56x64 .f32 := V m c main_v47_0
noncomputable def v47_1 : FVec Ideal S4096x4x56x64 .f32 := V m c main_v47_1
noncomputable def v47_2 : FVec Ideal S56x64 .f32 := V m c main_v47_2
noncomputable def v47_3 : FVec Ideal S56x64 .f32 := V m c main_v47_3
noncomputable def v47_4 : IVec S_ 32 := V m c main_v47_4
noncomputable def v47_5 : FVec Ideal S4x56x64 .f32 := V m c main_v47_5
noncomputable def v47_6 : FVec Ideal S4x56x64 .f32 := V m c main_v47_6
noncomputable def v47_7 : FVec Ideal S4096x4x56x64 .f32 := V m c main_v47_7
noncomputable def v47_8 : FVec Ideal S4096x4x56x64 .f32 := V m c main_v47_8

theorem e_v0 : v0 m c = Host.exp (arg3 m c) := by
  have h := line.unary (fun b => m (c, b)) 0 (x := main_arg3) (y := main_v0) rfl (by decide +kernel) (by decide +kernel)
  exact h
theorem e_v1 : v1 m c = broadcastInDim S56x1 ![0] bcast_S56_S56x1_0 (v0 m c) := by
  have h := line.unary (fun b => m (c, b)) 1 (x := main_v0) (y := main_v1) rfl (by decide +kernel) (by decide +kernel)
  exact h
theorem e_v2 : v2 m c = broadcastInDim S56x64 ![0, 1] bcast_S56x1_S56x64_0_1 (v1 m c) := by
  have h := line.unary (fun b => m (c, b)) 2 (x := main_v1) (y := main_v2) rfl (by decide +kernel) (by decide +kernel)
  exact h
theorem e_v3 : v3 m c = mulf (arg1 m c) (v2 m c) := by
  have h := line.binary (fun b => m (c, b)) 3 (a := main_arg1) (b := main_v2) (y := main_v3) rfl (by decide +kernel) (by decide +kernel) (by decide +kernel)
  exact h
theorem e_v4 : v4 m c = Host.exp (v3 m c) := by
  have h := line.unary (fun b => m (c, b)) 4 (x := main_v3) (y := main_v4) rfl (by decide +kernel) (by decide +kernel)
  exact h
theorem e_v5 : v5 m c = broadcastInDim S56x64 ![0, 1] bcast_S56x1_S56x64_0_1 (v1 m c) := by
  have h := line.unary (fun b => m (c, b)) 5 (x := main_v1) (y := main_v5) rfl (by decide +kernel) (by decide +kernel)
  exact h
theorem e_v6 : v6 m c = mulf (arg2 m c) (v5 m c) := by
  have h := line.binary (fun b => m (c, b)) 6 (a := main_arg2) (b := main_v5) (y := main_v6) rfl (by decide +kernel) (by decide +kernel) (by decide +kernel)
  exact h
theorem e_v7 : v7 m c = Host.cos (v6 m c) := by
  have h := line.unary (fun b => m (c, b)) 7 (x := main_v6) (y := main_v7) rfl (by decide +kernel) (by decide +kernel)
  exact h
theorem e_v8 : v8 m c = mulf (v4 m c) (v7 m c) := by
  have h := line.binary (fun b => m (c, b)) 8 (a := main_v4) (b := main_v7) (y := main_v8) rfl (by decide +kernel) (by decide +kernel) (by decide +kernel)
  exact h
theorem e_v9 : v9 m c = broadcastInDim S56x64 ![0, 1] bcast_S56x1_S56x64_0_1 (v1 m c) := by
  have h := line.unary (fun b => m (c, b)) 9 (x := main_v1) (y := main_v9) rfl (by decide +kernel) (by decide +kernel)
  exact h
theorem e_v10 : v10 m c = mulf (arg2 m c) (v9 m c) := by
  have h := line.binary (fun b => m (c, b)) 10 (a := main_arg2) (b := main_v9) (y := main_v10) rfl (by decide +kernel) (by decide +kernel) (by decide +kernel)
  exact h
theorem e_v11 : v11 m c = Host.sin (v10 m c) := by
  have h := line.unary (fun b => m (c, b)) 11 (x := main_v10) (y := main_v11) rfl (by decide +kernel) (by decide +kernel)
  exact h
theorem e_v12 : v12 m c = mulf (v4 m c) (v11 m c) := by
  have h := line.binary (fun b => m (c, b)) 12 (a := main_v4) (b := main_v11) (y := main_v12) rfl (by decide +kernel) (by decide +kernel) (by decide +kernel)
  exact h
theorem e_v13 : v13 m c = mulf (arg1 m c) (arg1 m c) := by
  have h := line.binary (fun b => m (c, b)) 13 (a := main_arg1) (b := main_arg1) (y := main_v13) rfl (by decide +kernel) (by decide +kernel) (by decide +kernel)
  exact h
theorem e_v14 : v14 m c = mulf (arg2 m c) (arg2 m c) := by
  have h := line.binary (fun b => m (c, b)) 14 (a := main_arg2) (b := main_arg2) (y := main_v14) rfl (by decide +kernel) (by decide +kernel) (by decide +kernel)
  exact h
theorem e_v15 : v15 m c = addf (v13 m c) (v14 m c) := by
  have h := line.binary (fun b => m (c, b)) 15 (a := main_v13) (b := main_v14) (y := main_v15) rfl (by decide +kernel) (by decide +kernel) (by decide +kernel)
  exact h
theorem e_cst : cst m c = constant S_ .f32 0x3F800000#32 := by
  have h := line.nullary (fun b => m (c, b)) 16 (y := main_cst) rfl (by decide +kernel)
  exact h
theorem e_v16 : v16 m c = broadcastInDim S56x64 ![] bcast_S_S56x64 (cst m c) := by
  have h := line.unary (fun b => m (c, b)) 17 (x := main_cst) (y := main_v16) rfl (by decide +kernel) (by decide +kernel)
  exact h
theorem e_v17 : v17 m c = subf (v8 m c) (v16 m c) := by
  have h := line.binary (fun b => m (c, b)) 18 (a := main_v8) (b := main_v16) (y := main_v17) rfl (by decide +kernel) (by decide +kernel) (by decide +kernel)
  exact h
theorem e_v18 : v18 m c = mulf (v17 m c) (arg1 m c) := by
  have h := line.binary (fun b => m (c, b)) 19 (a := main_v17) (b := main_arg1) (y := main_v18) rfl (by decide +kernel) (by decide +kernel) (by decide +kernel)
  exact h
theorem e_v19 : v19 m c = mulf (v12 m c) (arg2 m c) := by
  have h := line.binary (fun b => m (c, b)) 20 (a := main_v12) (b := main_arg2) (y := main_v19) rfl (by decide +kernel) (by decide +kernel) (by decide +kernel)
  exact h
theorem e_v20 : v20 m c = addf (v18 m c) (v19 m c) := by
  have h := line.binary (fun b => m (c, b)) 21 (a := main_v18) (b := main_v19) (y := main_v20) rfl (by decide +kernel) (by decide +kernel) (by decide +kernel)
  exact h
theorem e_v21 : v21 m c = Host.divf (v20 m c) (v15 m c) := by
  have h := line.binary (fun b => m (c, b)) 22 (a := main_v20) (b := main_v15) (y := main_v21) rfl (by decide +kernel) (by decide +kernel) (by decide +kernel)
  exact h
theorem e_v22 : v22 m c = broadcastInDim S56x64x1 ![0, 1] bcast_S56x64_S56x64x1_0_1 (v21 m c) := by
  have h := line.unary (fun b => m (c, b)) 23 (x := main_v21) (y := main_v22) rfl (by decide +kernel) (by decide +kernel)
  exact h
theorem e_v23 : v23 m c = mulf (v12 m c) (arg1 m c) := by
  have h := line.binary (fun b => m (c, b)) 24 (a := main_v12) (b := main_arg1) (y := main_v23) rfl (by decide +kernel) (by decide +kernel) (by decide +kernel)
  exact h
theorem e_v24 : v24 m c = mulf (v17 m c) (arg2 m c) := by
  have h := line.binary (fun b => m (c, b)) 25 (a := main_v17) (b := main_arg2) (y := main_v24) rfl (by decide +kernel) (by decide +kernel) (by decide +kernel)
  exact h
theorem e_v25 : v25 m c = subf (v23 m c) (v24 m c) := by
  have h := line.binary (fun b => m (c, b)) 26 (a := main_v23) (b := main_v24) (y := main_v25) rfl (by decide +kernel) (by decide +kernel) (by decide +kernel)
  exact h
theorem e_v26 : v26 m c = Host.divf (v25 m c) (v15 m c) := by
  have h := line.binary (fun b => m (c, b)) 27 (a := main_v25) (b := main_v15) (y := main_v26) rfl (by decide +kernel) (by decide +kernel) (by decide +kernel)
  exact h
theorem e_v27 : v27 m c = broadcastInDim S56x64x1 ![0, 1] bcast_S56x64_S56x64x1_0_1 (v26 m c) := by
  have h := line.unary (fun b => m (c, b)) 28 (x := main_v26) (y := main_v27) rfl (by decide +kernel) (by decide +kernel)
  exact h
theorem e_v28 : v28 m c = broadcastInDim S56x64x16 ![0, 1, 2] bcast_S56x64x1_S56x64x16_0_1_2 (v22 m c) := by
  have h := line.unary (fun b => m (c, b)) 29 (x := main_v22) (y := main_v28) rfl (by decide +kernel) (by decide +kernel)
  exact h
theorem e_v29 : v29 m c = mulf (v28 m c) (arg4 m c) := by
  have h := line.binary (fun b => m (c, b)) 30 (a := main_v28) (b := main_arg4) (y := main_v29) rfl (by decide +kernel) (by decide +kernel) (by decide +kernel)
  exact h
theorem e_v30 : v30 m c = broadcastInDim S56x64x16 ![0, 1, 2] bcast_S56x64x1_S56x64x16_0_1_2 (v27 m c) := by
  have h := line.unary (fun b => m (c, b)) 31 (x := main_v27) (y := main_v30) rfl (by decide +kernel) (by decide +kernel)
  exact h
theorem e_v31 : v31 m c = mulf (v30 m c) (arg5 m c) := by
  have h := line.binary (fun b => m (c, b)) 32 (a := main_v30) (b := main_arg5) (y := main_v31) rfl (by decide +kernel) (by decide +kernel) (by decide +kernel)
  exact h
theorem e_v32 : v32 m c = subf (v29 m c) (v31 m c) := by
  have h := line.binary (fun b => m (c, b)) 33 (a := main_v29) (b := main_v31) (y := main_v32) rfl (by decide +kernel) (by decide +kernel) (by decide +kernel)
  exact h
theorem e_v33 : v33 m c = broadcastInDim S56x64x16 ![0, 1, 2] bcast_S56x64x1_S56x64x16_0_1_2 (v22 m c) := by
  have h := line.unary (fun b => m (c, b)) 34 (x := main_v22) (y := main_v33) rfl (by decide +kernel) (by decide +kernel)
  exact h
theorem e_v34 : v34 m c = mulf (v33 m c) (arg5 m c) := by
  have h := line.binary (fun b => m (c, b)) 35 (a := main_v33) (b := main_arg5) (y := main_v34) rfl (by decide +kernel) (by decide +kernel) (by decide +kernel)
  exact h
theorem e_v35 : v35 m c = broadcastInDim S56x64x16 ![0, 1, 2] bcast_S56x64x1_S56x64x16_0_1_2 (v27 m c) := by
  have h := line.unary (fun b => m (c, b)) 36 (x := main_v27) (y := main_v35) rfl (by decide +kernel) (by decide +kernel)
  exact h
theorem e_v36 : v36 m c = mulf (v35 m c) (arg4 m c) := by
  have h := line.binary (fun b => m (c, b)) 37 (a := main_v35) (b := main_arg4) (y := main_v36) rfl (by decide +kernel) (by decide +kernel) (by decide +kernel)
  exact h
theorem e_v37 : v37 m c = addf (v34 m c) (v36 m c) := by
  have h := line.binary (fun b => m (c, b)) 38 (a := main_v34) (b := main_v36) (y := main_v37) rfl (by decide +kernel) (by decide +kernel) (by decide +kernel)
  exact h
theorem e_v38 : v38 m c = Host.dotGeneral dot_S56x64x16_S4x4096x56x16_S56x64x4x4096_2_3_1_01_0_2 none (v32 m c) (arg0 m c) := by
  have h := line.binary (fun b => m (c, b)) 39 (a := main_v32) (b := main_arg0) (y := main_v38) rfl (by decide +kernel) (by decide +kernel) (by decide +kernel)
  exact h
theorem e_v39 : v39 m c = transpose S4x4096x56x64 [2, 3, 0, 1] (v38 m c) transposes_S56x64x4x4096_S4x4096x56x64_2_3_0_1 := by
  have h := line.unary (fun b => m (c, b)) 40 (x := main_v38) (y := main_v39) rfl (by decide +kernel) (by decide +kernel)
  exact h
theorem e_v40 : v40 m c = Host.dotGeneral dot_S56x64x16_S4x4096x56x16_S56x64x4x4096_2_3_1_01_0_2 none (v37 m c) (arg0 m c) := by
  have h := line.binary (fun b => m (c, b)) 41 (a := main_v37) (b := main_arg0) (y := main_v40) rfl (by decide +kernel) (by decide +kernel) (by decide +kernel)
  exact h
theorem e_v41 : v41 m c = transpose S4x4096x56x64 [2, 3, 0, 1] (v40 m c) transposes_S56x64x4x4096_S4x4096x56x64_2_3_0_1 := by
  have h := line.unary (fun b => m (c, b)) 42 (x := main_v40) (y := main_v41) rfl (by decide +kernel) (by decide +kernel)
  exact h
theorem e_cst_0 : cst_0 m c = constant S_ .f32 0x00000000#32 := by
  have h := line.nullary (fun b => m (c, b)) 43 (y := main_cst_0) rfl (by decide +kernel)
  exact h
theorem e_v42 : v42 m c = broadcastInDim S4x56x64 ![] bcast_S_S4x56x64 (cst_0 m c) := by
  have h := line.unary (fun b => m (c, b)) 44 (x := main_cst_0) (y := main_v42) rfl (by decide +kernel) (by decide +kernel)
  exact h
theorem e_v43 : v43 m c = transpose S4096x4x56x64 [1, 0, 2, 3] (v39 m c) transposes_S4x4096x56x64_S4096x4x56x64_1_0_2_3 := by
  have h := line.unary (fun b => m (c, b)) 45 (x := main_v39) (y := main_v43) rfl (by decide +kernel) (by decide +kernel)
  exact h
theorem e_v44 : v44 m c = transpose S4096x4x56x64 [1, 0, 2, 3] (v41 m c) transposes_S4x4096x56x64_S4096x4x56x64_1_0_2_3 := by
  have h := line.unary (fun b => m (c, b)) 46 (x := main_v41) (y := main_v44) rfl (by decide +kernel) (by decide +kernel)
  exact h
theorem e_cst_1 : cst_1 m c = constant S_ .f32 0x00000000#32 := by
  have h := line.nullary (fun b => m (c, b)) 47 (y := main_cst_1) rfl (by decide +kernel)
  exact h
theorem e_v45 : v45 m c = broadcastInDim S4096x4x56x64 ![] bcast_S_S4096x4x56x64 (cst_1 m c) := by
  have h := line.unary (fun b => m (c, b)) 48 (x := main_cst_1) (y := main_v45) rfl (by decide +kernel) (by decide +kernel)
  exact h
theorem e_cst_2 : cst_2 m c = constant S_ .f32 0x00000000#32 := by
  have h := line.nullary (fun b => m (c, b)) 49 (y := main_cst_2) rfl (by decide +kernel)
  exact h
theorem e_v46 : v46 m c = broadcastInDim S4096x4x56x64 ![] bcast_S_S4096x4x56x64 (cst_2 m c) := by
  have h := line.unary (fun b => m (c, b)) 50 (x := main_cst_2) (y := main_v46) rfl (by decide +kernel) (by decide +kernel)
  exact h
theorem e_cstI : cstI m c = constantI S_ 32 0#32 := by
  have h := line.nullary (fun b => m (c, b)) 51 (y := main_c) rfl (by decide +kernel)
  exact h
theorem e_v47_0 : v47_0 m c = (v43 m c) := by
  have h := line.unary (fun b => m (c, b)) 52 (x := main_v43) (y := main_v47_0) rfl (by decide +kernel) (by decide +kernel)
  exact h
theorem e_v47_1 : v47_1 m c = (v44 m c) := by
  have h := line.unary (fun b => m (c, b)) 53 (x := main_v44) (y := main_v47_1) rfl (by decide +kernel) (by decide +kernel)
  exact h
theorem e_v47_2 : v47_2 m c = (v8 m c) := by
  have h := line.unary (fun b => m (c, b)) 54 (x := main_v8) (y := main_v47_2) rfl (by decide +kernel) (by decide +kernel)
  exact h
theorem e_v47_3 : v47_3 m c = (v12 m c) := by
  have h := line.unary (fun b => m (c, b)) 55 (x := main_v12) (y := main_v47_3) rfl (by decide +kernel) (by decide +kernel)
  exact h
theorem e_v47_4 : v47_4 m c = (cstI m c) := by
  have h := line.unary (fun b => m (c, b)) 56 (x := main_c) (y := main_v47_4) rfl (by decide +kernel) (by decide +kernel)
  exact h
theorem e_v47_5 : v47_5 m c = (v42 m c) := by
  have h := line.unary (fun b => m (c, b)) 57 (x := main_v42) (y := main_v47_5) rfl (by decide +kernel) (by decide +kernel)
  exact h
theorem e_v47_6 : v47_6 m c = (v42 m c) := by
  have h := line.unary (fun b => m (c, b)) 58 (x := main_v42) (y := main_v47_6) rfl (by decide +kernel) (by decide +kernel)
  exact h
theorem e_v47_7 : v47_7 m c = (v45 m c) := by
  have h := line.unary (fun b => m (c, b)) 59 (x := main_v45) (y := main_v47_7) rfl (by decide +kernel) (by decide +kernel)
  exact h
theorem e_v47_8 : v47_8 m c = (v46 m c) := by
  have h := line.unary (fun b => m (c, b)) 60 (x := main_v46) (y := main_v47_8) rfl (by decide +kernel) (by decide +kernel)
  exact h

end Cert.ReferenceIdeal.Host
end
-- ==== Proof.RefReal.lean ====
module

public import proofs.«01_k».proof.Proof.RefEqs
public import proofs.«01_k».proof.Proof.Tables
public import Idealize.ShloMosaic.Lib.WordArith

/-!
# The reference's result, read at an index

The host operations before the loop, the loop's trips and the operations after it, at an index, as the real numbers of `Cert.Ssm.Params`.
-/

@[expose] public section
set_option maxRecDepth 65536
noncomputable section
namespace Cert.ReferenceIdeal.Host
open Cert.ReferenceIdeal Cert.ReferenceIdeal.Gen Cert.ReferenceIdeal.Value Cert.Ssm
open Idealize.ShloMosaic Idealize.ShloMosaic.TcCoe Idealize.ShloMosaic.StableHlo

variable (m : (ℓ : Loc nD τ sig) → Buf (Elt Ideal) ℓ) (c : Dev nD) (p : Params)

/-- The arguments hold the real numbers `p`, and no decay rate is zero. -/
structure Reads : Prop where
  h0 : ∀ b t g q, arg0 m c (ix4 b t g q) = ((p.u b t g q : ℝ) : EReal)
  h1 : ∀ g n, arg1 m c (ix2 g n) = ((p.ar g n : ℝ) : EReal)
  h2 : ∀ g n, arg2 m c (ix2 g n) = ((p.ai g n : ℝ) : EReal)
  h3 : ∀ g, arg3 m c (ix1 g) = ((p.ld g : ℝ) : EReal)
  h4 : ∀ g n x, arg4 m c (ix3 g n x) = ((p.br g n x : ℝ) : EReal)
  h5 : ∀ g n x, arg5 m c (ix3 g n x) = ((p.bi g n x : ℝ) : EReal)
  h6 : ∀ g q n, (m ((c.tc : Thread nD τ).loc main_arg6) : S56x16x64.Idx → EReal) (ix3 g q n) = ((p.cr g q n : ℝ) : EReal)
  h7 : ∀ g q n, (m ((c.tc : Thread nD τ).loc main_arg7) : S56x16x64.Idx → EReal) (ix3 g q n) = ((p.ci g q n : ℝ) : EReal)
  h8 : ∀ g q, (m ((c.tc : Thread nD τ).loc main_arg8) : S56x16.Idx → EReal) (ix2 g q) = ((p.ds g q : ℝ) : EReal)
  hd : ∀ g n, p.den g n ≠ 0

theorem div_real (x y : ℝ) (hy : y ≠ 0) : Ideal.div (x : EReal) (y : EReal) = ((x / y : ℝ) : EReal) := by
  rw [Ideal.div_coe hy, ← EReal.coe_mul, mul_one_div]

theorem coe_sum {ι : Type} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- The offsets a trip slices at. -/
theorem offs (k : ℕ) (hk : k < 4096) (w : S_.Idx → BitVec 32) (hw : w = fun _ => BitVec.ofNat 32 k) :
    (fun a : Fin 4 => (((![w, constantI S_ 32 0#32, constantI S_ 32 0#32, constantI S_ 32 0#32] : Fin 4 → (⟨S_, .i32⟩ : BufTy).Contents (Elt Ideal))) a (Shape.Idx.first h_S_)).toInt)
      = ![(k : Int), 0, 0, 0] := by
  rw [hw]
  funext a
  match a with
  | 0 => exact WordArith.toInt_ofNat_small _ (by omega)
  | 1 => rfl
  | 2 => rfl
  | 3 => rfl

/-- The row the trip reads. -/
theorem slice_read {α : Type} (A : S4096x4x56x64.Idx → α) (k : ℕ) (hk : k < 4096) (b : Fin 4) (g : Fin 56) (n : Fin 64) :
    shapeCast S4x56x64 (Host.dynamicSlice S1x4x56x64 A ![(k : Int), 0, 0, 0] sliceFits_S4096x4x56x64_S1x4x56x64) shapeCasts_S1x4x56x64_S4x56x64 (ix3 b g n)
      = A (ix4 ⟨k, hk⟩ b g n) := by
  pointwise
  congr 1
  funext a
  match a with
  | 0 => exact Fin.ext (by
      show (min (max (k : Int) 0) ((4096 - 1 : ℕ) : Int)).toNat + 0 = k
      omega)
  | 1 => exact Fin.ext (by
      show (min (max (0 : Int) 0) ((4 - 4 : ℕ) : Int)).toNat + b.val = b.val
      omega)
  | 2 => exact Fin.ext (by
      show (min (max (0 : Int) 0) ((56 - 56 : ℕ) : Int)).toNat + g.val = g.val
      omega)
  | 3 => exact Fin.ext (by
      show (min (max (0 : Int) 0) ((64 - 64 : ℕ) : Int)).toNat + n.val = n.val
      omega)

/-- The buffer of states after the trip has written its row. -/
theorem update_read {α : Type} (A : S4096x4x56x64.Idx → α) (B : S4x56x64.Idx → α) (k : ℕ) (hk : k < 4096) (t : Fin 4096) (b : Fin 4) (g : Fin 56) (n : Fin 64) :
    Host.dynamicUpdateSlice A (broadcastInDim S1x4x56x64 ![1, 2, 3] bcast_S4x56x64_S1x4x56x64_1_2_3 B) ![(k : Int), 0, 0, 0] updateFits_S4096x4x56x64_S1x4x56x64 (ix4 t b g n)
      = if t.val = k then B (ix3 b g n) else A (ix4 t b g n) := by
  rw [Host.dynamicUpdateSlice_apply]
  have e0 : Host.clampedStart S4096x4x56x64 S1x4x56x64 rfl ![(k : Int), 0, 0, 0] 0 = k := by
    show (min (max (k : Int) 0) ((4096 - 1 : ℕ) : Int)).toNat = k
    omega
  by_cases hc : t.val = k
  · rw [if_pos hc, dif_pos]
    · pointwise
      congr 1
    · intro a
      match a with
      | 0 => exact ⟨le_of_eq (e0.trans hc.symm), by rw [e0]; show t.val < k + 1; omega⟩
      | 1 => exact ⟨Nat.zero_le _, by show b.val < 0 + 4; omega⟩
      | 2 => exact ⟨Nat.zero_le _, by show g.val < 0 + 56; omega⟩
      | 3 => exact ⟨Nat.zero_le _, by show n.val < 0 + 64; omega⟩
  · rw [if_neg hc, dif_neg]
    intro hh
    have h0 := hh 0
    rw [e0] at h0
    have h1 : k ≤ t.val := h0.1
    have h2 : t.val < k + 1 := h0.2
    omega

/-- The new real part, of the two factors, the two old parts and the row read. -/
theorem re_read (A B : S56x64.Idx → EReal) (X Z : S4x56x64.Idx → EReal) (D : S4096x4x56x64.Idx → EReal) (w : S_.Idx → BitVec 32)
    (k : ℕ) (hk : k < 4096) (hw : w = fun _ => BitVec.ofNat 32 k) (b : Fin 4) (g : Fin 56) (n : Fin 64) :
    (addf (F := Ideal) (φ := .f32) (subf (F := Ideal) (φ := .f32) (mulf (F := Ideal) (φ := .f32) (broadcastInDim S4x56x64 ![0, 1, 2] bcast_S1x56x64_S4x56x64_0_1_2 (broadcastInDim S1x56x64 ![1, 2] bcast_S56x64_S1x56x64_1_2 A)) X) (mulf (F := Ideal) (φ := .f32) (broadcastInDim S4x56x64 ![0, 1, 2] bcast_S1x56x64_S4x56x64_0_1_2 (broadcastInDim S1x56x64 ![1, 2] bcast_S56x64_S1x56x64_1_2 B)) Z)) (shapeCast S4x56x64 (Host.dynamicSlice S1x4x56x64 D (fun k => (((![w, constantI S_ 32 0#32, constantI S_ 32 0#32, constantI S_ 32 0#32] : Fin 4 → (⟨S_, .i32⟩ : BufTy).Contents (Elt Ideal))) k (Shape.Idx.first h_S_)).toInt) sliceFits_S4096x4x56x64_S1x4x56x64) shapeCasts_S1x4x56x64_S4x56x64)) (ix3 b g n)
      = A (ix2 g n) * X (ix3 b g n) - B (ix2 g n) * Z (ix3 b g n) + D (ix4 ⟨k, hk⟩ b g n) := by
  rw [offs k hk w hw]
  pointwise [slice_read _ k hk]

/-- The new imaginary part, likewise. -/
theorem im_read (A B : S56x64.Idx → EReal) (X Z : S4x56x64.Idx → EReal) (D : S4096x4x56x64.Idx → EReal) (w : S_.Idx → BitVec 32)
    (k : ℕ) (hk : k < 4096) (hw : w = fun _ => BitVec.ofNat 32 k) (b : Fin 4) (g : Fin 56) (n : Fin 64) :
    (addf (F := Ideal) (φ := .f32) (addf (F := Ideal) (φ := .f32) (mulf (F := Ideal) (φ := .f32) (broadcastInDim S4x56x64 ![0, 1, 2] bcast_S1x56x64_S4x56x64_0_1_2 (broadcastInDim S1x56x64 ![1, 2] bcast_S56x64_S1x56x64_1_2 A)) X) (mulf (F := Ideal) (φ := .f32) (broadcastInDim S4x56x64 ![0, 1, 2] bcast_S1x56x64_S4x56x64_0_1_2 (broadcastInDim S1x56x64 ![1, 2] bcast_S56x64_S1x56x64_1_2 B)) Z)) (shapeCast S4x56x64 (Host.dynamicSlice S1x4x56x64 D (fun k => (((![w, constantI S_ 32 0#32, constantI S_ 32 0#32, constantI S_ 32 0#32] : Fin 4 → (⟨S_, .i32⟩ : BufTy).Contents (Elt Ideal))) k (Shape.Idx.first h_S_)).toInt) sliceFits_S4096x4x56x64_S1x4x56x64) shapeCasts_S1x4x56x64_S4x56x64)) (ix3 b g n)
      = A (ix2 g n) * X (ix3 b g n) + B (ix2 g n) * Z (ix3 b g n) + D (ix4 ⟨k, hk⟩ b g n) := by
  rw [offs k hk w hw]
  pointwise [slice_read _ k hk]

/-- The buffer of states after the trip, its offsets as the program spells them. -/
theorem row_read (A : S4096x4x56x64.Idx → EReal) (B : S4x56x64.Idx → EReal) (w : S_.Idx → BitVec 32)
    (k : ℕ) (hk : k < 4096) (hw : w = fun _ => BitVec.ofNat 32 k) (t : Fin 4096) (b : Fin 4) (g : Fin 56) (n : Fin 64) :
    Host.dynamicUpdateSlice A (broadcastInDim S1x4x56x64 ![1, 2, 3] bcast_S4x56x64_S1x4x56x64_1_2_3 B) (fun k => (((![w, constantI S_ 32 0#32, constantI S_ 32 0#32, constantI S_ 32 0#32] : Fin 4 → (⟨S_, .i32⟩ : BufTy).Contents (Elt Ideal))) k (Shape.Idx.first h_S_)).toInt) updateFits_S4096x4x56x64_S1x4x56x64 (ix4 t b g n)
      = if t.val = k then B (ix3 b g n) else A (ix4 t b g n) := by
  rw [offs k hk w hw]
  exact update_read A B k hk t b g n

theorem arg_eq0 : arg0 m c = m ((c.tc : Thread nD τ).loc main_arg0) := keep_main_arg0_hostOps0 fun b => m (c, b)
theorem arg_eq1 : arg1 m c = m ((c.tc : Thread nD τ).loc main_arg1) := keep_main_arg1_hostOps0 fun b => m (c, b)
theorem arg_eq2 : arg2 m c = m ((c.tc : Thread nD τ).loc main_arg2) := keep_main_arg2_hostOps0 fun b => m (c, b)
theorem arg_eq3 : arg3 m c = m ((c.tc : Thread nD τ).loc main_arg3) := keep_main_arg3_hostOps0 fun b => m (c, b)
theorem arg_eq4 : arg4 m c = m ((c.tc : Thread nD τ).loc main_arg4) := keep_main_arg4_hostOps0 fun b => m (c, b)
theorem arg_eq5 : arg5 m c = m ((c.tc : Thread nD τ).loc main_arg5) := keep_main_arg5_hostOps0 fun b => m (c, b)

variable {m c p} (h : Reads m c p)
include h

theorem v4_at (g : Fin 56) (n : Fin 64) : v4 m c (ix2 g n) = ((Real.exp (p.ar g n * Real.exp (p.ld g)) : ℝ) : EReal) := by
  rw [e_v4, e_v3, e_v2, e_v1, e_v0]
  pointwise [h.h1, h.h3]
  rw [Ideal.exp_coe, ← EReal.coe_mul, Ideal.exp_coe]

theorem v8_at (g : Fin 56) (n : Fin 64) : v8 m c (ix2 g n) = ((p.pr g 1 n : ℝ) : EReal) := by
  rw [e_v8, e_v7, e_v6, e_v5, e_v1, e_v0]
  pointwise [v4_at h, h.h2, h.h3]
  rw [Ideal.exp_coe, ← EReal.coe_mul, Ideal.cos_coe, ← EReal.coe_mul, Params.pr, mul_one, mul_one]

theorem v12_at (g : Fin 56) (n : Fin 64) : v12 m c (ix2 g n) = ((p.pi g 1 n : ℝ) : EReal) := by
  rw [e_v12, e_v11, e_v10, e_v9, e_v1, e_v0]
  pointwise [v4_at h, h.h2, h.h3]
  rw [Ideal.exp_coe, ← EReal.coe_mul, Ideal.sin_coe, ← EReal.coe_mul, Params.pi, mul_one, mul_one]

theorem v15_at (g : Fin 56) (n : Fin 64) : v15 m c (ix2 g n) = ((p.den g n : ℝ) : EReal) := by
  rw [e_v15, e_v13, e_v14]
  pointwise [h.h1, h.h2]
  rw [← EReal.coe_mul, ← EReal.coe_mul, ← EReal.coe_add, Params.den]

theorem v17_at (g : Fin 56) (n : Fin 64) : v17 m c (ix2 g n) = ((p.pr g 1 n - 1 : ℝ) : EReal) := by
  rw [e_v17, e_v16, e_cst]
  pointwise [v8_at h]
  rw [EReal.coe_sub, EReal.coe_one]

theorem v21_at (g : Fin 56) (n : Fin 64) : v21 m c (ix2 g n) = ((p.fr g n : ℝ) : EReal) := by
  rw [e_v21, e_v20, e_v18, e_v19]
  pointwise [v17_at h, v12_at h, v15_at h, h.h1, h.h2]
  rw [← EReal.coe_mul, ← EReal.coe_mul, ← EReal.coe_add]
  refine (div_real _ _ (h.hd g n)).trans ?_
  congr 1
  unfold Params.fr
  ring

theorem v26_at (g : Fin 56) (n : Fin 64) : v26 m c (ix2 g n) = ((p.fi g n : ℝ) : EReal) := by
  rw [e_v26, e_v25, e_v23, e_v24]
  pointwise [v17_at h, v12_at h, v15_at h, h.h1, h.h2]
  rw [← EReal.coe_mul, ← EReal.coe_mul, ← EReal.coe_sub]
  refine (div_real _ _ (h.hd g n)).trans ?_
  congr 1
  unfold Params.fi
  ring

theorem v32_at (g : Fin 56) (n : Fin 64) (x : Fin 16) : v32 m c (ix3 g n x) = ((p.bbr g n x : ℝ) : EReal) := by
  rw [e_v32, e_v29, e_v31, e_v28, e_v30, e_v22, e_v27]
  pointwise [v21_at h, v26_at h, h.h4, h.h5]
  rw [← EReal.coe_mul, ← EReal.coe_mul, ← EReal.coe_sub, Params.bbr]

theorem v37_at (g : Fin 56) (n : Fin 64) (x : Fin 16) : v37 m c (ix3 g n x) = ((p.bbi g n x : ℝ) : EReal) := by
  rw [e_v37, e_v34, e_v36, e_v33, e_v35, e_v22, e_v27]
  pointwise [v21_at h, v26_at h, h.h4, h.h5]
  rw [← EReal.coe_mul, ← EReal.coe_mul, ← EReal.coe_add, Params.bbi]

theorem v47_0_at (t : Fin 4096) (b : Fin 4) (g : Fin 56) (n : Fin 64) : v47_0 m c (ix4 t b g n) = ((p.bur b t g n : ℝ) : EReal) := by
  rw [e_v47_0, e_v43, e_v39, e_v38]
  pointwise [v32_at h, h.h0]
  simp only [← EReal.coe_mul, coe_sum]
  rfl

theorem v47_1_at (t : Fin 4096) (b : Fin 4) (g : Fin 56) (n : Fin 64) : v47_1 m c (ix4 t b g n) = ((p.bui b t g n : ℝ) : EReal) := by
  rw [e_v47_1, e_v44, e_v41, e_v40]
  pointwise [v37_at h, h.h0]
  simp only [← EReal.coe_mul, coe_sum]
  rfl

/-- The buffers before trip `k`. -/
abbrev at_ (m : (ℓ : Loc nD τ sig) → Buf (Elt Ideal) ℓ) (c : Dev nD) (k : ℕ) : Valuation τ sig (Elt Ideal) := STEP^[k] (entryContents preI m c)

omit h in
theorem entry (b : Ref sig .tc) : entryContents preI m c (Proc.devRef .tc b) = V m c b := by
  simp only [entryContents, afterL_cons, afterL_nil]
  rfl

omit h in
theorem at_succ (k : ℕ) : at_ m c (k + 1) = STEP (at_ m c k) := Function.iterate_succ_apply' _ _ _

omit h in
theorem at_0 : ∀ k, at_ m c k (Proc.devRef .tc main_v47_0) = V m c main_v47_0
  | 0 => entry _
  | k + 1 => by rw [at_succ, STEP_main_v47_0, at_0 k]
omit h in
theorem at_1 : ∀ k, at_ m c k (Proc.devRef .tc main_v47_1) = V m c main_v47_1
  | 0 => entry _
  | k + 1 => by rw [at_succ, STEP_main_v47_1, at_1 k]
omit h in
theorem at_2 : ∀ k, at_ m c k (Proc.devRef .tc main_v47_2) = V m c main_v47_2
  | 0 => entry _
  | k + 1 => by rw [at_succ, STEP_main_v47_2, at_2 k]
omit h in
theorem at_3 : ∀ k, at_ m c k (Proc.devRef .tc main_v47_3) = V m c main_v47_3
  | 0 => entry _
  | k + 1 => by rw [at_succ, STEP_main_v47_3, at_3 k]

omit h in
theorem at_4 : ∀ k, at_ m c k (Proc.devRef .tc main_v47_4) = fun _ => BitVec.ofNat 32 k
  | 0 => ctr_entry m c
  | k + 1 => by
    rw [at_succ, STEP_main_v47_4]
    unfold step_main_v47_4
    rw [at_4 k]
    funext i
    show BitVec.ofNat 32 k + 1#32 = BitVec.ofNat 32 (k + 1)
    rw [BitVec.ofNat_add]

/-- A state's two parts, and the rows of states written, before trip `k`. -/
structure StateAt (m : (ℓ : Loc nD τ sig) → Buf (Elt Ideal) ℓ) (c : Dev nD) (p : Params) (k : ℕ) : Prop where
  re : ∀ b g n, (at_ m c k (Proc.devRef .tc main_v47_5) : S4x56x64.Idx → EReal) (ix3 b g n) = (((p.st b g n k).1 : ℝ) : EReal)
  im : ∀ b g n, (at_ m c k (Proc.devRef .tc main_v47_6) : S4x56x64.Idx → EReal) (ix3 b g n) = (((p.st b g n k).2 : ℝ) : EReal)
  rows : ∀ (t : Fin 4096) b g n, t.val < k → (at_ m c k (Proc.devRef .tc main_v47_7) : S4096x4x56x64.Idx → EReal) (ix4 t b g n) = (((p.st b g n (t.val + 1)).1 : ℝ) : EReal)
  rowsI : ∀ (t : Fin 4096) b g n, t.val < k → (at_ m c k (Proc.devRef .tc main_v47_8) : S4096x4x56x64.Idx → EReal) (ix4 t b g n) = (((p.st b g n (t.val + 1)).2 : ℝ) : EReal)

theorem next_re (k : ℕ) (hk : k < 4096) (s : StateAt m c p k) (b : Fin 4) (g : Fin 56) (n : Fin 64) :
    (res_main_while0b_v72 (at_ m c k) : S4x56x64.Idx → EReal) (ix3 b g n) = (((p.st b g n (k + 1)).1 : ℝ) : EReal) := by
  unfold res_main_while0b_v72
  refine (re_read _ _ _ _ _ _ k hk (at_4 k) b g n).trans ?_
  rw [s.re, s.im, at_0, at_2, at_3]
  have h2 := (congrFun (e_v47_2 m c) _).trans (v8_at h g n)
  have h3 := (congrFun (e_v47_3 m c) _).trans (v12_at h g n)
  have h0 := v47_0_at h ⟨k, hk⟩ b g n
  refine (congr (congrArg _ (congr (congrArg _ (congrArg (· * _) h2)) (congrArg (· * _) h3))) h0).trans ?_
  simp only [← EReal.coe_mul, ← EReal.coe_sub, ← EReal.coe_add, Params.st, Nat.mod_eq_of_lt hk]

theorem next_im (k : ℕ) (hk : k < 4096) (s : StateAt m c p k) (b : Fin 4) (g : Fin 56) (n : Fin 64) :
    (res_main_while0b_v80 (at_ m c k) : S4x56x64.Idx → EReal) (ix3 b g n) = (((p.st b g n (k + 1)).2 : ℝ) : EReal) := by
  unfold res_main_while0b_v80
  refine (im_read _ _ _ _ _ _ k hk (at_4 k) b g n).trans ?_
  rw [s.re, s.im, at_1, at_2, at_3]
  have h2 := (congrFun (e_v47_2 m c) _).trans (v8_at h g n)
  have h3 := (congrFun (e_v47_3 m c) _).trans (v12_at h g n)
  have h0 := v47_1_at h ⟨k, hk⟩ b g n
  refine (congr (congrArg _ (congr (congrArg _ (congrArg (· * _) h2)) (congrArg (· * _) h3))) h0).trans ?_
  simp only [← EReal.coe_mul, ← EReal.coe_add, Params.st, Nat.mod_eq_of_lt hk]

theorem stateAt : ∀ k, k ≤ 4096 → StateAt m c p k
  | 0, _ => by
    refine ⟨fun b g n => ?_, fun b g n => ?_, fun t b g n ht => absurd ht (Nat.not_lt_zero _), fun t b g n ht => absurd ht (Nat.not_lt_zero _)⟩
    · have e : at_ m c 0 (Proc.devRef .tc main_v47_5) = v47_5 m c := entry _
      rw [e, e_v47_5, e_v42, e_cst_0]
      pointwise
      rfl
    · have e : at_ m c 0 (Proc.devRef .tc main_v47_6) = v47_6 m c := entry _
      rw [e, e_v47_6, e_v42, e_cst_0]
      pointwise
      rfl
  | k + 1, hk => by
    have s := stateAt k (by omega)
    refine ⟨fun b g n => ?_, fun b g n => ?_, fun t b g n ht => ?_, fun t b g n ht => ?_⟩
    · rw [at_succ, STEP_main_v47_5]
      exact next_re h k (by omega) s b g n
    · rw [at_succ, STEP_main_v47_6]
      exact next_im h k (by omega) s b g n
    · rw [at_succ, STEP_main_v47_7]
      refine (row_read _ _ _ k (by omega) (at_4 k) t b g n).trans ?_
      by_cases e : t.val = k
      · rw [if_pos e, e]
        exact next_re h k (by omega) s b g n
      · rw [if_neg e]
        exact s.rows t b g n (by omega)
    · rw [at_succ, STEP_main_v47_8]
      refine (row_read _ _ _ k (by omega) (at_4 k) t b g n).trans ?_
      by_cases e : t.val = k
      · rw [if_pos e, e]
        exact next_im h k (by omega) s b g n
      · rw [if_neg e]
        exact s.rowsI t b g n (by omega)

omit h in
/-- The loop's result, after the operations that follow it, at an index. -/
theorem out_read (A6 A7 : S56x16x64.Idx → EReal) (A8 : S56x16.Idx → EReal) (A0 : S4x4096x56x16.Idx → EReal) (X Z : S4096x4x56x64.Idx → EReal)
    (g : Fin 56) (r : Fin 1024) (j : Fin 256) :
    (truncf (F := Ideal) .bf16 (shapeCast S56x1024x256 (transpose S56x1024x16x16 [2, 0, 1, 3] (shapeCast S1024x16x56x16 (addf (F := Ideal) (φ := .f32) (subf (F := Ideal) (φ := .f32) (transpose S4x4096x56x16 [2, 3, 0, 1] (Host.dotGeneral (F := Ideal) (φ₁ := .f32) (φ₂ := .f32) dot_S56x16x64_S4x4096x56x64_S56x16x4x4096_2_3_1_01_0_2 none A6 (transpose S4x4096x56x64 [1, 0, 2, 3] X transposes_S4096x4x56x64_S4x4096x56x64_1_0_2_3)) transposes_S56x16x4x4096_S4x4096x56x16_2_3_0_1) (transpose S4x4096x56x16 [2, 3, 0, 1] (Host.dotGeneral (F := Ideal) (φ₁ := .f32) (φ₂ := .f32) dot_S56x16x64_S4x4096x56x64_S56x16x4x4096_2_3_1_01_0_2 none A7 (transpose S4x4096x56x64 [1, 0, 2, 3] Z transposes_S4096x4x56x64_S4x4096x56x64_1_0_2_3)) transposes_S56x16x4x4096_S4x4096x56x16_2_3_0_1)) (mulf (F := Ideal) (φ := .f32) (broadcastInDim S4x4096x56x16 ![0, 1, 2, 3] bcast_S1x1x56x16_S4x4096x56x16_0_1_2_3 (broadcastInDim S1x1x56x16 ![2, 3] bcast_S56x16_S1x1x56x16_2_3 A8)) A0)) shapeCasts_S4x4096x56x16_S1024x16x56x16) transposes_S1024x16x56x16_S56x1024x16x16_2_0_1_3) shapeCasts_S56x1024x16x16_S56x1024x256) bitsLt_bf16_f32 : S56x1024x256.Idx → EReal) (ix3 g r j)
      = ∑ n : Fin 64, A6 (ix3 g ⟨j.val % 16, by omega⟩ n) * X (ix4 ⟨r.val % 256 * 16 + j.val / 16, by omega⟩ ⟨r.val / 256, by omega⟩ g n)
        - ∑ n : Fin 64, A7 (ix3 g ⟨j.val % 16, by omega⟩ n) * Z (ix4 ⟨r.val % 256 * 16 + j.val / 16, by omega⟩ ⟨r.val / 256, by omega⟩ g n)
        + A8 (ix2 g ⟨j.val % 16, by omega⟩) * A0 (ix4 ⟨r.val / 256, by omega⟩ ⟨r.val % 256 * 16 + j.val / 16, by omega⟩ g ⟨j.val % 16, by omega⟩) := by
  pointwise

omit h in
theorem at_arg6 (k : ℕ) : at_ m c k (Proc.devRef .tc main_arg6) = m ((c.tc : Thread nD τ).loc main_arg6) :=
  iter_main_arg6 m c k
omit h in
theorem at_arg7 (k : ℕ) : at_ m c k (Proc.devRef .tc main_arg7) = m ((c.tc : Thread nD τ).loc main_arg7) :=
  iter_main_arg7 m c k
omit h in
theorem at_arg8 (k : ℕ) : at_ m c k (Proc.devRef .tc main_arg8) = m ((c.tc : Thread nD τ).loc main_arg8) :=
  iter_main_arg8 m c k
omit h in
theorem at_arg0 (k : ℕ) : at_ m c k (Proc.devRef .tc main_arg0) = arg0 m c :=
  (iter_main_arg0 m c k).trans (arg_eq0 m c).symm

/-- The reference's result at group `g`, row `r`, column `j`. -/
theorem result_at (g : Fin 56) (r : Fin 1024) (j : Fin 256) :
    (out_main_v62 (STEP^[4096] (entryContents preI m c)) : S56x1024x256.Idx → EReal) (ix3 g r j)
      = ((p.y ⟨r.val / 256, by omega⟩ ⟨r.val % 256 * 16 + j.val / 16, by omega⟩ g ⟨j.val % 16, by omega⟩ : ℝ) : EReal) := by
  have s := stateAt h 4096 le_rfl
  unfold out_main_v62
  refine (out_read _ _ _ _ _ _ g r j).trans ?_
  have e6 : (STEP^[4096] (entryContents preI m c)) (Proc.devRef .tc main_arg6) = _ := at_arg6 4096
  have e7 : (STEP^[4096] (entryContents preI m c)) (Proc.devRef .tc main_arg7) = _ := at_arg7 4096
  have e8 : (STEP^[4096] (entryContents preI m c)) (Proc.devRef .tc main_arg8) = _ := at_arg8 4096
  have e0 : (STEP^[4096] (entryContents preI m c)) (Proc.devRef .tc main_arg0) = _ := at_arg0 4096
  rw [e6, e7, e8, e0, h.h8, h.h0]
  have sr : ∀ (t : Fin 4096) b g n, ((STEP^[4096] (entryContents preI m c)) (Proc.devRef .tc main_v47_7) : S4096x4x56x64.Idx → EReal) (ix4 t b g n) = _ := fun t b g n => s.rows t b g n t.isLt
  have si : ∀ (t : Fin 4096) b g n, ((STEP^[4096] (entryContents preI m c)) (Proc.devRef .tc main_v47_8) : S4096x4x56x64.Idx → EReal) (ix4 t b g n) = _ := fun t b g n => s.rowsI t b g n t.isLt
  simp only [h.h6, h.h7, sr, si]
  simp only [← EReal.coe_mul, coe_sum, ← EReal.coe_add, ← EReal.coe_sub, Params.y]

end Cert.ReferenceIdeal.Host
end
-- ==== Proof.SsmResult.lean ====
module

public import proofs.«01_k».proof.Proof.SsmDomain
public import proofs.«01_k».proof.Proof.SsmMath
public import proofs.«01_k».proof.Proof.KernelArr
public import proofs.«01_k».proof.Proof.RefReal

/-!
# Both programs' results, from the precondition

The real numbers the arguments hold, and each program's result array as one function of them.
-/

@[expose] public section
set_option maxRecDepth 65536
noncomputable section
namespace Cert.Ssm
open Idealize.ShloMosaic Idealize.ShloMosaic.TcCoe

/-- The real numbers held by nine arrays. -/
def ofArrays (a0 : Cert.Pre_ssm_domain.S4x4096x56x16.Idx → EReal) (a1 a2 : Cert.Pre_ssm_domain.S56x64.Idx → EReal) (a3 : Cert.Pre_ssm_domain.S56.Idx → EReal)
    (a4 a5 : Cert.Pre_ssm_domain.S56x64x16.Idx → EReal) (a6 a7 : Cert.Pre_ssm_domain.S56x16x64.Idx → EReal) (a8 : Cert.Pre_ssm_domain.S56x16.Idx → EReal) : Params where
  u b t g q := (a0 (ix4 b t g q)).toReal
  ar g n := (a1 (ix2 g n)).toReal
  ai g n := (a2 (ix2 g n)).toReal
  ld g := (a3 (ix1 g)).toReal
  br g n x := (a4 (ix3 g n x)).toReal
  bi g n x := (a5 (ix3 g n x)).toReal
  cr g q n := (a6 (ix3 g q n)).toReal
  ci g q n := (a7 (ix3 g q n)).toReal
  ds g q := (a8 (ix2 g q)).toReal

theorem real_eq {a : EReal} (h : ∃ r : ℝ, a = (r : EReal)) : a = ((a.toReal : ℝ) : EReal) := by
  obtain ⟨r, rfl⟩ := h
  rfl

/-- A rate whose squares sum to more than zero is not zero. -/
theorem den_ne {a b : EReal} (ha : ∃ r : ℝ, a = (r : EReal)) (hb : ∃ r : ℝ, b = (r : EReal)) (h : 0 < a * a + b * b) :
    a.toReal * a.toReal + b.toReal * b.toReal ≠ 0 := by
  obtain ⟨r, rfl⟩ := ha
  obtain ⟨s, rfl⟩ := hb
  have h' : ((0 : ℝ) : EReal) < ((r * r + s * s : ℝ) : EReal) := by
    rw [EReal.coe_add, EReal.coe_mul, EReal.coe_mul]
    exact h
  exact (EReal.coe_lt_coe_iff.1 h').ne'

/-- The result array of the scan over the real numbers `p`. -/
def resultArr (p : Params) : Cert.KernelIdeal.S56x1024x256.Idx → EReal := fun i => ((Cert.KernelIdeal.Ssm.outR p (i 0) (i 1) (i 2) : ℝ) : EReal)

section Kernel
open Cert.KernelIdeal Cert.KernelIdeal.Gen

variable [Cert.Pre_ssm_domain.Facts] (m : (ℓ : Loc nD τ sig) → Buf (Elt Ideal) ℓ) (c : Dev nD)

/-- The real numbers the kernel's arguments hold on device `c`. -/
def paramsK : Params :=
  ofArrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

theorem reads_kernel
    (h : Cert.Pre_ssm_domain.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) = fun _ => 1#1) :
    Cert.KernelIdeal.Host.Reads m c (paramsK m c) := by
  obtain ⟨d0, d1, d2, d3, d4, d5, d6, d7, d8, hp⟩ := domain _ _ _ _ _ _ _ _ _ h
  exact {
    h0 := fun b t g q => (congrFun (V_main_arg0 (F := Ideal) (m := m) (c := c)) _).trans (real_eq (d0 _))
    h1 := fun g n => (congrFun (V_main_arg1 (F := Ideal) (m := m) (c := c)) _).trans (real_eq (d1 _))
    h2 := fun g n => (congrFun (V_main_arg2 (F := Ideal) (m := m) (c := c)) _).trans (real_eq (d2 _))
    h3 := fun g => (congrFun (V_main_arg3 (F := Ideal) (m := m) (c := c)) _).trans (real_eq (d3 _))
    h4 := fun g n x => (congrFun (V_main_arg4 (F := Ideal) (m := m) (c := c)) _).trans (real_eq (d4 _))
    h5 := fun g n x => (congrFun (V_main_arg5 (F := Ideal) (m := m) (c := c)) _).trans (real_eq (d5 _))
    h6 := fun g q n => (congrFun (V_main_arg6 (F := Ideal) (m := m) (c := c)) _).trans (real_eq (d6 _))
    h7 := fun g q n => (congrFun (V_main_arg7 (F := Ideal) (m := m) (c := c)) _).trans (real_eq (d7 _))
    h8 := fun g q => (congrFun (V_main_arg8 (F := Ideal) (m := m) (c := c)) _).trans (real_eq (d8 _))
    hd := fun g n => den_ne (d1 _) (d2 _) (hp _) }

end Kernel

section Reference
open Cert.ReferenceIdeal Cert.ReferenceIdeal.Gen Cert.ReferenceIdeal.Value Cert.ReferenceIdeal.Host Idealize.ShloMosaic.StableHlo

variable (m : (ℓ : Loc Cert.KernelIdeal.nD Cert.KernelIdeal.τ Cert.KernelIdeal.sig) → Buf (Elt Ideal) ℓ)
  (m' : (ℓ : Loc nD τ sig) → Buf (Elt Ideal) ℓ) (c : Dev nD) {p : Params}

/-- Where both programs' arguments agree, the reference reads the same real numbers. -/
theorem reads_reference (h : Cert.KernelIdeal.Host.Reads m c p)
    (e0 : m' ((c.tc : Thread nD τ).loc main_arg0) = m ((c.tc : Thread Cert.KernelIdeal.nD Cert.KernelIdeal.τ).loc Cert.KernelIdeal.main_arg0))
    (e1 : m' ((c.tc : Thread nD τ).loc main_arg1) = m ((c.tc : Thread Cert.KernelIdeal.nD Cert.KernelIdeal.τ).loc Cert.KernelIdeal.main_arg1))
    (e2 : m' ((c.tc : Thread nD τ).loc main_arg2) = m ((c.tc : Thread Cert.KernelIdeal.nD Cert.KernelIdeal.τ).loc Cert.KernelIdeal.main_arg2))
    (e3 : m' ((c.tc : Thread nD τ).loc main_arg3) = m ((c.tc : Thread Cert.KernelIdeal.nD Cert.KernelIdeal.τ).loc Cert.KernelIdeal.main_arg3))
    (e4 : m' ((c.tc : Thread nD τ).loc main_arg4) = m ((c.tc : Thread Cert.KernelIdeal.nD Cert.KernelIdeal.τ).loc Cert.KernelIdeal.main_arg4))
    (e5 : m' ((c.tc : Thread nD τ).loc main_arg5) = m ((c.tc : Thread Cert.KernelIdeal.nD Cert.KernelIdeal.τ).loc Cert.KernelIdeal.main_arg5))
    (e6 : m' ((c.tc : Thread nD τ).loc main_arg6) = m ((c.tc : Thread Cert.KernelIdeal.nD Cert.KernelIdeal.τ).loc Cert.KernelIdeal.main_arg6))
    (e7 : m' ((c.tc : Thread nD τ).loc main_arg7) = m ((c.tc : Thread Cert.KernelIdeal.nD Cert.KernelIdeal.τ).loc Cert.KernelIdeal.main_arg7))
    (e8 : m' ((c.tc : Thread nD τ).loc main_arg8) = m ((c.tc : Thread Cert.KernelIdeal.nD Cert.KernelIdeal.τ).loc Cert.KernelIdeal.main_arg8)) :
    Reads m' c p where
  h0 b t g q := (congrFun (((arg_eq0 m' c).trans e0).trans (Cert.KernelIdeal.Gen.V_main_arg0 (F := Ideal) (m := m) (c := c)).symm) _).trans (h.h0 b t g q)
  h1 g n := (congrFun (((arg_eq1 m' c).trans e1).trans (Cert.KernelIdeal.Gen.V_main_arg1 (F := Ideal) (m := m) (c := c)).symm) _).trans (h.h1 g n)
  h2 g n := (congrFun (((arg_eq2 m' c).trans e2).trans (Cert.KernelIdeal.Gen.V_main_arg2 (F := Ideal) (m := m) (c := c)).symm) _).trans (h.h2 g n)
  h3 g := (congrFun (((arg_eq3 m' c).trans e3).trans (Cert.KernelIdeal.Gen.V_main_arg3 (F := Ideal) (m := m) (c := c)).symm) _).trans (h.h3 g)
  h4 g n x := (congrFun (((arg_eq4 m' c).trans e4).trans (Cert.KernelIdeal.Gen.V_main_arg4 (F := Ideal) (m := m) (c := c)).symm) _).trans (h.h4 g n x)
  h5 g n x := (congrFun (((arg_eq5 m' c).trans e5).trans (Cert.KernelIdeal.Gen.V_main_arg5 (F := Ideal) (m := m) (c := c)).symm) _).trans (h.h5 g n x)
  h6 g q n := (congrFun (e6.trans (Cert.KernelIdeal.Gen.V_main_arg6 (F := Ideal) (m := m) (c := c)).symm) _).trans (h.h6 g q n)
  h7 g q n := (congrFun (e7.trans (Cert.KernelIdeal.Gen.V_main_arg7 (F := Ideal) (m := m) (c := c)).symm) _).trans (h.h7 g q n)
  h8 g q := (congrFun (e8.trans (Cert.KernelIdeal.Gen.V_main_arg8 (F := Ideal) (m := m) (c := c)).symm) _).trans (h.h8 g q)
  hd := h.hd

/-- The reference's result array is the scan's. -/
theorem reference_arr (h : Reads m' c p) :
    (out_main_v62 (STEP^[4096] (entryContents preI m' c)) : S56x1024x256.Idx → EReal) = resultArr p := by
  funext i
  have e : i = ix3 (i 0) (i 1) (i 2) := eq_ix3 i
  exact (congrArg _ e).trans ((result_at h (i 0) (i 1) (i 2)).trans (congrArg _ (result_eq p (i 0) (i 1) (i 2)).symm))

end Reference

end Cert.Ssm
end
-- ==== Proof.MlpBody.lean ====
module

public import proofs.«01_k».proof.Proof.Gen.Kernel2Ideal.Value
public import proofs.«01_k».proof.Defs
public import Idealize.ShloMosaic.Lib.Pipeline.ValueKit
public import Idealize.ShloMosaic.Lib.Pipeline.ReadBack
public import Idealize.ShloMosaic.Lib.Pointwise

/-!
# What a grid point of the feed-forward kernel leaves

Each kind of point, at the ideal instance: the first point of a row block fills the scratch with the normalised rows and
the block with the first partial product, the middle points add a partial product, the last one adds its own and finishes.
-/

@[expose] public section
set_option maxRecDepth 65536
noncomputable section
namespace Cert.Kernel2Ideal.Mlp
open Cert.Kernel2Ideal Cert.Kernel2Ideal.Gen
open Idealize.ShloMosaic Idealize.ShloMosaic.TcCoe Idealize.ShloMosaic.Tactic

/-- The reciprocal root of a row's mean square, with the small constant added. -/
def inv (f : Fin 2048 → EReal) : EReal :=
  Ideal.rsqrt (Ideal.div (∑ k, f k * f k) (Ideal.ofBits .f32 1157627904#32) + Ideal.ofBits .f32 897988541#32)

/-- The normalised, scaled and shifted rows of a block. -/
def hid (x0 : Vec Ideal S512x2048 .f32) (x1 : Vec Ideal S1x6x2048 .f32) (x2 : Vec Ideal S1x2048 .f32) : Vec Ideal S512x2048 .bf16 := fun i =>
  ((x0 (ix2 (i 0) (i 1)) * inv (fun k => x0 (ix2 (i 0) k)) * (x2 (ix2 0 (i 1)) * (1 + x1 (ix3 0 4 (i 1)))) + x1 (ix3 0 3 (i 1)) : EReal))

/-- The partial product over one block of hidden features. -/
def part (h : Vec Ideal S512x2048 .bf16) (w v : Vec Ideal S2048x2048 .bf16) (r : Fin 512) (j : Fin 2048) : EReal :=
  ∑ k : Fin 2048, max (∑ d : Fin 2048, h (ix2 r d) * w (ix2 d k)) 0 * max (∑ d : Fin 2048, h (ix2 r d) * w (ix2 d k)) 0 * v (ix2 k j)

/-- The finished block: the rows plus the gated, normalised product. -/
def done (x0 : Vec Ideal S512x2048 .f32) (x1 : Vec Ideal S1x6x2048 .f32) (x3 : Vec Ideal S1x2048 .f32) (a : Vec Ideal S512x2048 .f32) : Vec Ideal S512x2048 .f32 := fun i =>
  ((x0 (ix2 (i 0) (i 1)) + x1 (ix3 0 5 (i 1)) * x3 (ix2 0 (i 1)) * (a (ix2 (i 0) (i 1)) * inv (fun k => a (ix2 (i 0) k))) : EReal))

theorem pay2_at (h : Vec Ideal S512x2048 .bf16) (w v : Vec Ideal S2048x2048 .bf16) (r : Fin 512) (j : Fin 2048) :
    k0_pay2 h w v (ix2 r j) = part h w v r j := by
  unfold part
  pointwise [k0_pay2]

theorem pay3_at (o : Vec Ideal S512x2048 .f32) (h : Vec Ideal S512x2048 .bf16) (w v : Vec Ideal S2048x2048 .bf16) (r : Fin 512) (j : Fin 2048) :
    k0_pay3 o h w v (ix2 r j) = o (ix2 r j) + part h w v r j := by
  unfold part
  pointwise [k0_pay3]

theorem pay15_at (o : Vec Ideal S512x2048 .f32) (h : Vec Ideal S512x2048 .bf16) (w v : Vec Ideal S2048x2048 .bf16) (r : Fin 512) (j : Fin 2048) :
    k0_pay15 o h w v (ix2 r j) = o (ix2 r j) + part h w v r j := by
  unfold part
  pointwise [k0_pay15]

/-- One chunk of normalised rows. -/
def chunkH (g : Vec Ideal S1x2048 .f32) (a b : Vec Ideal S1x1x2048 .f32) (x : Vec Ideal S128x2048 .f32) (r : Fin 128) (j : Fin 2048) : EReal :=
  x (ix2 r j) * inv (fun k => x (ix2 r k)) * (g (ix2 0 j) * (1 + a (ix3 0 0 j))) + b (ix3 0 0 j)

theorem chunk0 (g : Vec Ideal S1x2048 .f32) (a b : Vec Ideal S1x1x2048 .f32) (x : Vec Ideal S128x2048 .f32) (r : Fin 128) (j : Fin 2048) :
    k0_pay7 g a b x (ix2 r j) = chunkH g a b x r j := by
  unfold chunkH inv
  pointwise [k0_pay7, k0_pay5, k0_pay6]
theorem chunk1 (g : Vec Ideal S1x2048 .f32) (a b : Vec Ideal S1x1x2048 .f32) (x : Vec Ideal S128x2048 .f32) (r : Fin 128) (j : Fin 2048) :
    k0_pay10 (k0_pay5 g a) (k0_pay6 b) (k0_pay8 x) (k0_pay9 x) (ix2 r j) = chunkH g a b x r j := by
  unfold chunkH inv
  pointwise [k0_pay10, k0_pay5, k0_pay6, k0_pay8, k0_pay9]
theorem chunk2 (g : Vec Ideal S1x2048 .f32) (a b : Vec Ideal S1x1x2048 .f32) (x : Vec Ideal S128x2048 .f32) (r : Fin 128) (j : Fin 2048) :
    k0_pay11 (k0_pay5 g a) (k0_pay6 b) x (ix2 r j) = chunkH g a b x r j := by
  unfold chunkH inv
  pointwise [k0_pay11, k0_pay5, k0_pay6]
theorem chunk3 (g : Vec Ideal S1x2048 .f32) (a b : Vec Ideal S1x1x2048 .f32) (x : Vec Ideal S128x2048 .f32) (r : Fin 128) (j : Fin 2048) :
    k0_pay1 (k0_pay6 b) (k0_pay12 x) (k0_pay13 (k0_pay5 g a)) (ix2 r j) = chunkH g a b x r j := by
  unfold chunkH inv
  pointwise [k0_pay1, k0_pay12, k0_pay13, k0_pay5, k0_pay6]

/-- One chunk of finished rows, over the chunk's rows of the product. -/
def chunkO (a : Vec Ideal S1x1x2048 .f32) (g : Vec Ideal S1x2048 .f32) (x : Vec Ideal S128x2048 .f32) (f : Fin 128 → Fin 2048 → EReal) (r : Fin 128) (j : Fin 2048) : EReal :=
  x (ix2 r j) + a (ix3 0 0 j) * g (ix2 0 j) * (f r j * inv (f r))

theorem fin0 (a : Vec Ideal S1x1x2048 .f32) (g : Vec Ideal S1x2048 .f32) (o : Vec Ideal S512x2048 .f32) (h : Vec Ideal S512x2048 .bf16) (w v : Vec Ideal S2048x2048 .bf16)
    (x : Vec Ideal S128x2048 .f32) (r : Fin 128) (j : Fin 2048) :
    k0_pay16 a g o h w v x (ix2 r j) = chunkO a g x (fun r j => k0_pay15 o h w v (ix2 ⟨r.val, by omega⟩ j)) r j := by
  unfold chunkO inv
  pointwise [k0_pay16, k0_pay14]
theorem fin1 (a : Vec Ideal S1x1x2048 .f32) (g : Vec Ideal S1x2048 .f32) (y : FVec Ideal S512x2048 .f32) (x : Vec Ideal S128x2048 .f32) (r : Fin 128) (j : Fin 2048) :
    k0_pay17 (k0_pay14 a g) y x (ix2 r j) = chunkO a g x (fun r j => y (ix2 ⟨128 + r.val, by omega⟩ j)) r j := by
  unfold chunkO inv
  pointwise [k0_pay17, k0_pay14]
theorem fin2 (a : Vec Ideal S1x1x2048 .f32) (g : Vec Ideal S1x2048 .f32) (y : FVec Ideal S512x2048 .f32) (x : Vec Ideal S128x2048 .f32) (r : Fin 128) (j : Fin 2048) :
    k0_pay18 (k0_pay14 a g) y x (ix2 r j) = chunkO a g x (fun r j => y (ix2 ⟨256 + r.val, by omega⟩ j)) r j := by
  unfold chunkO inv
  pointwise [k0_pay18, k0_pay14]
theorem fin3 (a : Vec Ideal S1x1x2048 .f32) (g : Vec Ideal S1x2048 .f32) (y : FVec Ideal S512x2048 .f32) (x : Vec Ideal S128x2048 .f32) (r : Fin 128) (j : Fin 2048) :
    k0_pay4 (k0_pay14 a g) (k0_pay19 x) (k0_pay20 y) (k0_pay21 y) (FloatOps.ofBits FTy.f32 1157627904#32) (ix2 r j)
      = chunkO a g x (fun r j => y (ix2 ⟨384 + r.val, by omega⟩ j)) r j := by
  unfold chunkO inv
  pointwise [k0_pay4, k0_pay14, k0_pay19, k0_pay20, k0_pay21]

section
variable (x0 : Vec Ideal S512x2048 .f32) (x1 : Vec Ideal S1x6x2048 .f32) (x2 x3 : Vec Ideal S1x2048 .f32)

theorem ldRow (k : Nat) (hk : k < 6) (inb) (j : Fin 2048) :
    View.ld x1 (Rect.unit (s := S1x6x2048) ![0, k, 0] ![1, 1, 2048] inb) (ix3 0 0 j) = x1 (ix3 0 ⟨k, hk⟩ j) := by
  refine congrArg x1 (funext fun a => ?_)
  fin_cases a <;> apply Fin.ext <;> simp [Rect.unit, LoadRect.idx]

theorem ldBlock (o : Nat) (inb) (r : Fin 128) (j : Fin 2048) (ho : o + r.val < 512) :
    View.ld x0 (Rect.unit (s := S512x2048) ![o, 0] ![128, 2048] inb) (ix2 r j) = x0 (ix2 ⟨o + r.val, ho⟩ j) := by
  refine congrArg x0 (funext fun a => ?_)
  fin_cases a <;> apply Fin.ext <;> simp [Rect.unit, LoadRect.idx]

theorem hid_of (o : Nat) (inb inb3 inb4) (ho : o + 128 ≤ 512) (y : S512x2048.Idx) (r : Fin 128) (j : Fin 2048) (h0 : (y 0).val = o + r.val) (h1 : (y 1).val = j.val) :
    chunkH x2 (View.ld x1 (Rect.unit (s := S1x6x2048) ![0, 4, 0] ![1, 1, 2048] inb4)) (View.ld x1 (Rect.unit (s := S1x6x2048) ![0, 3, 0] ![1, 1, 2048] inb3))
      (View.ld x0 (Rect.unit (s := S512x2048) ![o, 0] ![128, 2048] inb)) r j = hid x0 x1 x2 y := by
  have hx : r.val < 128 := r.isLt
  have e0 : y 0 = (⟨o + r.val, by omega⟩ : Fin 512) := Fin.ext h0
  have e1 : y 1 = j := Fin.ext h1
  unfold chunkH hid
  rw [e0, e1]
  have hb := fun j => ldBlock x0 o inb r j (by omega)
  have h3 := ldRow x1 3 (by omega) inb3
  have h4 := ldRow x1 4 (by omega) inb4
  rw [hb, h3, h4]
  simp only [hb]
  rfl

theorem done_of (o : Nat) (inb inb5) (ho : o + 128 ≤ 512) (a : Vec Ideal S512x2048 .f32) (f : Fin 128 → Fin 2048 → EReal) (y : S512x2048.Idx) (r : Fin 128) (j : Fin 2048)
    (hf : ∀ (r : Fin 128) (j : Fin 2048) (hr : o + r.val < 512), f r j = a (ix2 ⟨o + r.val, hr⟩ j))
    (h0 : (y 0).val = o + r.val) (h1 : (y 1).val = j.val) :
    chunkO (View.ld x1 (Rect.unit (s := S1x6x2048) ![0, 5, 0] ![1, 1, 2048] inb5)) x3
      (View.ld x0 (Rect.unit (s := S512x2048) ![o, 0] ![128, 2048] inb)) f r j = done x0 x1 x3 a y := by
  have hx : r.val < 128 := r.isLt
  have e0 : y 0 = (⟨o + r.val, by omega⟩ : Fin 512) := Fin.ext h0
  have e1 : y 1 = j := Fin.ext h1
  unfold chunkO done
  rw [e0, e1]
  have hb := fun j => ldBlock x0 o inb r j (by omega)
  have h5 := ldRow x1 5 (by omega) inb5
  have hf' : f r = fun j => a (ix2 ⟨o + r.val, by omega⟩ j) := funext fun j => hf _ j (by omega)
  rw [hb, h5, hf']
  rfl

/-- The four stores of normalised rows fill the scratch with `hid`. -/
theorem canonH : View.canon (Val := Elt Ideal) ([⟨Rect.unit ![384, 0] ![128, 2048] inb_S512x2048_S128x2048_384_0,
        k0_pay1 (k0_pay6 (View.ld x1 (Rect.unit ![0, 3, 0] ![1, 1, 2048] inb_S1x6x2048_S1x1x2048_0_3_0)))
          (k0_pay12 (View.ld x0 (Rect.unit ![384, 0] ![128, 2048] inb_S512x2048_S128x2048_384_0)))
          (k0_pay13 (k0_pay5 x2 (View.ld x1 (Rect.unit ![0, 4, 0] ![1, 1, 2048] inb_S1x6x2048_S1x1x2048_0_4_0))))⟩,
      ⟨Rect.unit ![256, 0] ![128, 2048] inb_S512x2048_S128x2048_256_0,
        k0_pay11 (k0_pay5 x2 (View.ld x1 (Rect.unit ![0, 4, 0] ![1, 1, 2048] inb_S1x6x2048_S1x1x2048_0_4_0)))
          (k0_pay6 (View.ld x1 (Rect.unit ![0, 3, 0] ![1, 1, 2048] inb_S1x6x2048_S1x1x2048_0_3_0)))
          (View.ld x0 (Rect.unit ![256, 0] ![128, 2048] inb_S512x2048_S128x2048_256_0))⟩,
      ⟨Rect.unit ![128, 0] ![128, 2048] inb_S512x2048_S128x2048_128_0,
        k0_pay10 (k0_pay5 x2 (View.ld x1 (Rect.unit ![0, 4, 0] ![1, 1, 2048] inb_S1x6x2048_S1x1x2048_0_4_0)))
          (k0_pay6 (View.ld x1 (Rect.unit ![0, 3, 0] ![1, 1, 2048] inb_S1x6x2048_S1x1x2048_0_3_0)))
          (k0_pay8 (View.ld x0 (Rect.unit ![128, 0] ![128, 2048] inb_S512x2048_S128x2048_128_0)))
          (k0_pay9 (View.ld x0 (Rect.unit ![128, 0] ![128, 2048] inb_S512x2048_S128x2048_128_0)))⟩,
      ⟨Rect.unit ![0, 0] ![128, 2048] inb_S512x2048_S128x2048_0_0,
        k0_pay7 x2 (View.ld x1 (Rect.unit ![0, 4, 0] ![1, 1, 2048] inb_S1x6x2048_S1x1x2048_0_4_0))
          (View.ld x1 (Rect.unit ![0, 3, 0] ![1, 1, 2048] inb_S1x6x2048_S1x1x2048_0_3_0))
          (View.ld x0 (Rect.unit ![0, 0] ![128, 2048] inb_S512x2048_S128x2048_0_0))⟩] : List (View.Piece (Elt Ideal) S512x2048 .bf16)) = hid x0 x1 x2 := by
  funext y
  canon_tiles x h
  · obtain ⟨r, j, rfl⟩ : ∃ (r : Fin 128) (j : Fin 2048), x = ix2 r j := ⟨x 0, x 1, eq_ix2 x⟩
    refine (chunk3 _ _ _ _ _ _).trans ?_
    exact hid_of x0 x1 x2 384 _ _ _ (by omega) y r j h0 h1
  · obtain ⟨r, j, rfl⟩ : ∃ (r : Fin 128) (j : Fin 2048), x = ix2 r j := ⟨x 0, x 1, eq_ix2 x⟩
    refine (chunk2 _ _ _ _ _ _).trans ?_
    exact hid_of x0 x1 x2 256 _ _ _ (by omega) y r j h0 h1
  · obtain ⟨r, j, rfl⟩ : ∃ (r : Fin 128) (j : Fin 2048), x = ix2 r j := ⟨x 0, x 1, eq_ix2 x⟩
    refine (chunk1 _ _ _ _ _ _).trans ?_
    exact hid_of x0 x1 x2 128 _ _ _ (by omega) y r j h0 h1
  · obtain ⟨r, j, rfl⟩ : ∃ (r : Fin 128) (j : Fin 2048), x = ix2 r j := ⟨x 0, x 1, eq_ix2 x⟩
    refine (chunk0 _ _ _ _ _ _).trans ?_
    exact hid_of x0 x1 x2 0 _ _ _ (by omega) y r j (h0.trans (Nat.zero_add _).symm) h1

/-- The sum of the carried product and the last block's part. -/
def total (xo : Vec Ideal S512x2048 .f32) (xs : Vec Ideal S512x2048 .bf16) (w v : Vec Ideal S2048x2048 .bf16) : Vec Ideal S512x2048 .f32 := fun i =>
  ((xo (ix2 (i 0) (i 1)) + part xs w v (i 0) (i 1) : EReal))

end

theorem scratchA (c i a2 h2 a3 h3 a4 h4 a5 h5 a6 h6 a7 h7 a8 h8 a9 h9 hc0 hc1 hc2 x0 x1 x2 x3 x4 x5) :
    sout0_A_0 (F := Ideal) c i a2 h2 a3 h3 a4 h4 a5 h5 a6 h6 a7 h7 a8 h8 a9 h9 hc0 hc1 hc2 x0 x1 x2 x3 x4 x5 = hid x0 x1 x2 := by
  refine Eq.trans ?_ (canonH x0 x1 x2)
  frame_out

theorem outA (c i a2 h2 a3 h3 a4 h4 a5 h5 a6 h6 a7 h7 a8 h8 a9 h9 hc0 hc1 hc2 x0 x1 x2 x3 x4 x5) (r : Fin 512) (j : Fin 2048) :
    out0_A_6 (F := Ideal) c i a2 h2 a3 h3 a4 h4 a5 h5 a6 h6 a7 h7 a8 h8 a9 h9 hc0 hc1 hc2 x0 x1 x2 x3 x4 x5 (ix2 r j) = part (hid x0 x1 x2) x4 x5 r j := by
  rw [← pay2_at, ← canonH x0 x1 x2]
  refine congrFun ?_ (ix2 r j)
  frame_out
  refine congrArg (fun h => k0_pay2 (F := Ideal) h x4 x5) ?_
  rw [View.readCov_eq_canon']
  funext y
  refine congrArg (View.canon _) (funext fun a => ?_)
  fin_cases a <;> apply Fin.ext <;> simp [Rect.unit, LoadRect.idx]

theorem outB (c i a2 h2 a3 h3 a4 h4 a5 h5 a6 h6 a7 h7 a8 h8 a9 h9 hc0 hc1 hc2 x0 x1 x2 x3 x4 x5 xo xs) (r : Fin 512) (j : Fin 2048) :
    out0_B_6 (F := Ideal) c i a2 h2 a3 h3 a4 h4 a5 h5 a6 h6 a7 h7 a8 h8 a9 h9 hc0 hc1 hc2 x0 x1 x2 x3 x4 x5 xo xs (ix2 r j) = xo (ix2 r j) + part xs x4 x5 r j := by
  rw [← pay3_at]
  refine congrFun ?_ (ix2 r j)
  frame_out

theorem outC (c i a2 h2 a3 h3 a4 h4 a5 h5 a6 h6 a7 h7 a8 h8 a9 h9 hc0 hc1 hc2 x0 x1 x2 x3 x4 x5 xo xs) :
    out0_C_6 (F := Ideal) c i a2 h2 a3 h3 a4 h4 a5 h5 a6 h6 a7 h7 a8 h8 a9 h9 hc0 hc1 hc2 x0 x1 x2 x3 x4 x5 xo xs = done x0 x1 x3 (total xo xs x4 x5) := by
  frame_out
  funext y
  canon_tiles x h
  · obtain ⟨r, j, rfl⟩ : ∃ (r : Fin 128) (j : Fin 2048), x = ix2 r j := ⟨x 0, x 1, eq_ix2 x⟩
    refine (fin3 _ _ _ _ _ _).trans ?_
    exact done_of x0 x1 x3 384 _ _ (by omega) _ _ y r j (fun r j hr => pay15_at _ _ _ _ _ _) h0 h1
  · obtain ⟨r, j, rfl⟩ : ∃ (r : Fin 128) (j : Fin 2048), x = ix2 r j := ⟨x 0, x 1, eq_ix2 x⟩
    refine (fin2 _ _ _ _ _ _).trans ?_
    exact done_of x0 x1 x3 256 _ _ (by omega) _ _ y r j (fun r j hr => pay15_at _ _ _ _ _ _) h0 h1
  · obtain ⟨r, j, rfl⟩ : ∃ (r : Fin 128) (j : Fin 2048), x = ix2 r j := ⟨x 0, x 1, eq_ix2 x⟩
    refine (fin1 _ _ _ _ _ _).trans ?_
    exact done_of x0 x1 x3 128 _ _ (by omega) _ _ y r j (fun r j hr => pay15_at _ _ _ _ _ _) h0 h1
  · obtain ⟨r, j, rfl⟩ : ∃ (r : Fin 128) (j : Fin 2048), x = ix2 r j := ⟨x 0, x 1, eq_ix2 x⟩
    refine (fin0 _ _ _ _ _ _ _ _ _).trans ?_
    refine done_of x0 x1 x3 0 _ _ (by omega) _ _ y r j (fun r j hr => ?_) (h0.trans (Nat.zero_add _).symm) h1
    have e : (⟨0 + r.val, hr⟩ : Fin 512) = ⟨r.val, by omega⟩ := Fin.ext (Nat.zero_add _)
    rw [e]
    exact pay15_at _ _ _ _ _ _

end Cert.Kernel2Ideal.Mlp
-- ==== Proof.MlpMath.lean ====
module

public import Idealize.ShloMosaic.Lib.Pipeline.ValueKit
public import proofs.«01_k».proof.Defs

/-!
# The layer's last block over rows

One row of the kernel's and of the reference's last block, as functions of plain rows and matrices, and their equality: the
factors of a product regrouped, and a sum over all hidden features cut into four blocks.
-/

@[expose] public section
noncomputable section
namespace Cert.Mlp
open Idealize.ShloMosaic

/-- The reciprocal root of a row's mean square, with the small constant added. -/
def inv (f : Fin 2048 → EReal) : EReal :=
  Ideal.rsqrt (Ideal.div (∑ k, f k * f k) (Ideal.ofBits .f32 1157627904#32) + Ideal.ofBits .f32 897988541#32)

/-- A hidden feature's contribution to an entry of the product. -/
def term (h : Fin 2048 → EReal) (W1 : Fin 2048 → Fin 8192 → EReal) (W2 : Fin 8192 → Fin 2048 → EReal) (j : Fin 2048) (k : Fin 8192) : EReal :=
  max (∑ d, h d * W1 d k) 0 * max (∑ d, h d * W1 d k) 0 * W2 k j

/-- One block of 2048 hidden features. -/
def blk (f : Fin 8192 → EReal) (s : Fin 4) : EReal := ∑ k : Fin 2048, f ⟨s.val * 2048 + k.val, by omega⟩

theorem blocks (f : Fin 8192 → EReal) : blk f 0 + blk f 1 + blk f 2 + blk f 3 = ∑ k, f k := by
  have h : ∑ s : Fin 4, ∑ k : Fin 2048, f ⟨s.val * 2048 + k.val, by omega⟩ = ∑ k, f k :=
    Fin.sum_mul_add_congr (fun s k hl => rfl)
  rw [← h, Fin.sum_univ_four]
  rfl

def hidK (x g sc sh : Fin 2048 → EReal) (d : Fin 2048) : EReal := x d * inv x * (g d * (1 + sc d)) + sh d
def hidR (x g sc sh : Fin 2048 → EReal) (d : Fin 2048) : EReal := x d * inv x * g d * (1 + sc d) + sh d

theorem hid_eq (x g sc sh : Fin 2048 → EReal) : hidK x g sc sh = hidR x g sc sh := by
  funext d
  unfold hidK hidR
  rw [← mul_assoc]

def outK (x gate g y : Fin 2048 → EReal) (j : Fin 2048) : EReal := x j + gate j * g j * (y j * inv y)
def outR (x gate g y : Fin 2048 → EReal) (j : Fin 2048) : EReal := x j + gate j * (y j * inv y * g j)

theorem out_eq (x gate g y : Fin 2048 → EReal) : outK x gate g y = outR x gate g y := by
  funext j
  unfold outK outR
  rw [mul_assoc, mul_comm (g j)]

/-- The kernel's row: the product in four blocks. -/
def rowK (x g2 g3 sc sh gate : Fin 2048 → EReal) (W1 : Fin 2048 → Fin 8192 → EReal) (W2 : Fin 8192 → Fin 2048 → EReal) : Fin 2048 → EReal :=
  outK x gate g3 fun j => blk (term (hidK x g2 sc sh) W1 W2 j) 0 + blk (term (hidK x g2 sc sh) W1 W2 j) 1
    + blk (term (hidK x g2 sc sh) W1 W2 j) 2 + blk (term (hidK x g2 sc sh) W1 W2 j) 3

/-- The reference's row. -/
def rowR (x g2 g3 sc sh gate : Fin 2048 → EReal) (W1 : Fin 2048 → Fin 8192 → EReal) (W2 : Fin 8192 → Fin 2048 → EReal) : Fin 2048 → EReal :=
  outR x gate g3 fun j => ∑ k, term (hidR x g2 sc sh) W1 W2 j k

theorem row_eq (x g2 g3 sc sh gate : Fin 2048 → EReal) (W1 : Fin 2048 → Fin 8192 → EReal) (W2 : Fin 8192 → Fin 2048 → EReal) :
    rowK x g2 g3 sc sh gate W1 W2 = rowR x g2 g3 sc sh gate W1 W2 := by
  unfold rowK rowR
  rw [out_eq]
  simp only [blocks, hid_eq]

end Cert.Mlp
end
-- ==== Proof.MlpArr.lean ====
module

public import proofs.«01_k».proof.Proof.MlpBody
public import proofs.«01_k».proof.Proof.MlpMath
public import proofs.«01_k».proof.Proof.HostRead

/-!
# The array the kernel's last block leaves

Every entry of the result, over the arguments: the blocks read at each point, the four points of a block of rows unrolled.
-/

@[expose] public section
set_option maxRecDepth 65536
noncomputable section
namespace Cert.Kernel2Ideal.Mlp
open Cert.Kernel2Ideal Cert.Kernel2Ideal.Gen Cert.HostRead
open Idealize.ShloMosaic Idealize.ShloMosaic.TcCoe Idealize.ShloMosaic.Pipeline

variable (m : (ℓ : Loc nD τ sig) → Buf (Elt Ideal) ℓ) (c : Dev nD)

abbrev arg0 : FVec Ideal S4x4096x2048 .f32 := m ((c : Thread nD τ).loc main_arg0)
abbrev arg1 : FVec Ideal S4x12288 .f32 := m ((c : Thread nD τ).loc main_arg1)
abbrev arg2 : FVec Ideal S2048 .f32 := m ((c : Thread nD τ).loc main_arg2)
abbrev arg3 : FVec Ideal S2048 .f32 := m ((c : Thread nD τ).loc main_arg3)
abbrev arg4 : FVec Ideal S2048x8192 .f32 := m ((c : Thread nD τ).loc main_arg4)
abbrev arg5 : FVec Ideal S8192x2048 .f32 := m ((c : Thread nD τ).loc main_arg5)

/-- The references the host operations write, in order. -/
def written : List (Ref sig .tc) := [main_v0, main_v1, main_v2, main_v3, main_v4, main_v5]

theorem line : Line (hostOps0 : List (HloOp τ sig (Elt Ideal))) written := ⟨rfl⟩

theorem v0_at (R : Fin 16384) (j : Fin 2048) : (V m c main_v0 : FVec Ideal S16384x2048 .f32) (ix2 R j) = arg0 m c (ix3 ⟨R.val / 4096, by omega⟩ ⟨R.val % 4096, by omega⟩ j) := by
  have h := line.reshape (fun b => m (c, b)) 0 (x := main_arg0) (y := main_v0) rfl (by decide +kernel) (by decide +kernel)
  refine (congrFun h _).trans ?_
  rw [show StableHlo.after hostOps0 (fun b => m (c, b)) (Proc.devRef .tc main_arg0) = arg0 m c from V_main_arg0 m c]
  pointwise

theorem v1_at (b : Fin 4) (k : Fin 6) (j : Fin 2048) : (V m c main_v1 : FVec Ideal S4x6x2048 .f32) (ix3 b k j) = arg1 m c (ix2 b ⟨k.val * 2048 + j.val, by omega⟩) := by
  have h := line.reshape (fun b => m (c, b)) 1 (x := main_arg1) (y := main_v1) rfl (by decide +kernel) (by decide +kernel)
  refine (congrFun h _).trans ?_
  rw [show StableHlo.after hostOps0 (fun b => m (c, b)) (Proc.devRef .tc main_arg1) = arg1 m c from V_main_arg1 m c]
  pointwise

theorem v2_at (j : Fin 2048) : (V m c main_v2 : FVec Ideal S1x2048 .f32) (ix2 0 j) = arg2 m c (ix1 j) := by
  have h := line.reshape (fun b => m (c, b)) 2 (x := main_arg2) (y := main_v2) rfl (by decide +kernel) (by decide +kernel)
  refine (congrFun h _).trans ?_
  rw [show StableHlo.after hostOps0 (fun b => m (c, b)) (Proc.devRef .tc main_arg2) = arg2 m c from V_main_arg2 m c]
  pointwise

theorem v3_at (j : Fin 2048) : (V m c main_v3 : FVec Ideal S1x2048 .f32) (ix2 0 j) = arg3 m c (ix1 j) := by
  have h := line.reshape (fun b => m (c, b)) 3 (x := main_arg3) (y := main_v3) rfl (by decide +kernel) (by decide +kernel)
  refine (congrFun h _).trans ?_
  rw [show StableHlo.after hostOps0 (fun b => m (c, b)) (Proc.devRef .tc main_arg3) = arg3 m c from V_main_arg3 m c]
  pointwise

theorem v4_at (i : S2048x8192.Idx) : (V m c main_v4 : FVec Ideal S2048x8192 .bf16) i = arg4 m c i := by
  have h := line.unary (fun b => m (c, b)) 4 (x := main_arg4) (y := main_v4) rfl (by decide +kernel) (by decide +kernel)
  refine (congrFun h _).trans ?_
  rw [show StableHlo.after hostOps0 (fun b => m (c, b)) (Proc.devRef .tc main_arg4) = arg4 m c from V_main_arg4 m c]
  rfl

theorem v5_at (i : S8192x2048.Idx) : (V m c main_v5 : FVec Ideal S8192x2048 .bf16) i = arg5 m c i := by
  have h := line.unary (fun b => m (c, b)) 5 (x := main_arg5) (y := main_v5) rfl (by decide +kernel) (by decide +kernel)
  refine (congrFun h _).trans ?_
  rw [show StableHlo.after hostOps0 (fun b => m (c, b)) (Proc.devRef .tc main_arg5) = arg5 m c from V_main_arg5 m c]
  rfl

theorem trips (t : Fin cfg0.N) : t.val < 128 := t.isLt

theorem idx0 : ∀ t : Fin cfg0.N, win0_0.index t = ![t.val / 4, 0] := (by decide +kernel : ∀ t : Fin grid0.N, _)
theorem idx1 : ∀ t : Fin cfg0.N, win0_1.index t = ![t.val / 32, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, t.val % 4] := (by decide +kernel : ∀ t : Fin grid0.N, _)
theorem idx5 : ∀ t : Fin cfg0.N, win0_5.index t = ![t.val % 4, 0] := (by decide +kernel : ∀ t : Fin grid0.N, _)
theorem idx6 : ∀ t : Fin cfg0.N, win0_6.index t = ![t.val / 4, 0] := (by decide +kernel : ∀ t : Fin grid0.N, _)

/-- Row `r` of the block of rows at point `t`. -/
abbrev row (t : Fin cfg0.N) (r : Fin 512) : Fin 16384 := ⟨t.val / 4 * 512 + r.val, by have := trips t; omega⟩

theorem iblk0_at (t : Fin cfg0.N) (r : Fin 512) (j : Fin 2048) : iblk m c 0 t (ix2 r j) = (V m c main_v0 : FVec Ideal S16384x2048 .f32) (ix2 (row t r) j) := by
  blk_simp [iblk]
  refine congrArg (V m c main_v0) ?_
  blk_ext [idx0]
theorem iblk1_at (t : Fin cfg0.N) (k : Fin 6) (j : Fin 2048) : iblk m c 1 t (ix3 0 k j) = (V m c main_v1 : FVec Ideal S4x6x2048 .f32) (ix3 ⟨t.val / 32, by have := trips t; omega⟩ k j) := by
  blk_simp [iblk]
  refine congrArg (V m c main_v1) ?_
  blk_ext [idx1]
theorem iblk2_at (t : Fin cfg0.N) (j : Fin 2048) : iblk m c 2 t (ix2 0 j) = (V m c main_v2 : FVec Ideal S1x2048 .f32) (ix2 0 j) := by
  blk_simp [iblk]
  refine congrArg (V m c main_v2) ?_
  blk_ext [idx2]
theorem iblk3_at (t : Fin cfg0.N) (j : Fin 2048) : iblk m c 3 t (ix2 0 j) = (V m c main_v3 : FVec Ideal S1x2048 .f32) (ix2 0 j) := by
  blk_simp [iblk]
  refine congrArg (V m c main_v3) ?_
  blk_ext [idx3]
theorem iblk4_at (t : Fin cfg0.N) (d k : Fin 2048) : iblk m c 4 t (ix2 d k) = (V m c main_v4 : FVec Ideal S2048x8192 .bf16) (ix2 d ⟨t.val % 4 * 2048 + k.val, by omega⟩) := by
  blk_simp [iblk]
  refine congrArg (V m c main_v4) ?_
  blk_ext [idx4]
theorem iblk5_at (t : Fin cfg0.N) (k j : Fin 2048) : iblk m c 5 t (ix2 k j) = (V m c main_v5 : FVec Ideal S8192x2048 .bf16) (ix2 ⟨t.val % 4 * 2048 + k.val, by omega⟩ j) := by
  blk_simp [iblk]
  refine congrArg (V m c main_v5) ?_
  blk_ext [idx5]

/-! ## The four points of a block of rows -/

/-- Point `n + k`. -/
abbrev pt (n k : ℕ) (h : n + 3 < 128) (hk : k ≤ 3) : Fin cfg0.N := ⟨n + k, show n + k < 128 by omega⟩

section
variable (n : ℕ) (h : n + 3 < 128)

/-- The normalised rows kept from a block's first point. -/
abbrev kept : Vec Ideal S512x2048 .bf16 := hid (iblk m c 0 (pt n 0 h (by omega))) (iblk m c 1 (pt n 0 h (by omega))) (iblk m c 2 (pt n 0 h (by omega)))

/-- The part of the product at a block's point `k`. -/
abbrev partAt (k : ℕ) (hk : k ≤ 3) : Fin 512 → Fin 2048 → EReal := part (kept m c n h) (iblk m c 4 (pt n k h hk)) (iblk m c 5 (pt n k h hk))

/-- The product of a block of rows after its four points. -/
def acc (r : Fin 512) (j : Fin 2048) : EReal :=
  partAt m c n h 0 (by omega) r j + partAt m c n h 1 (by omega) r j + partAt m c n h 2 (by omega) r j + partAt m c n h 3 (by omega) r j

variable (hn : n % 4 = 0)
include hn

theorem point0 : (outsAt0 m c (pt n 0 h (by omega)).val (pt n 0 h (by omega)).isLt).2 = kept m c n h
    ∧ ∀ r j, (outsAt0 m c (pt n 0 h (by omega)).val (pt n 0 h (by omega)).isLt).1 (ix2 r j) = partAt m c n h 0 (by omega) r j := by
  rw [outsAt0_A m c (pt n 0 h (by omega)) (by show (n + 0) % 4 = 0; omega) (by show ¬(1 ≤ (n + 0) % 4 ∧ (n + 0) % 4 ≤ 2); omega) (by show ¬(n + 0) % 4 = 3; omega)]
  dsimp only
  refine ⟨?_, fun r j => ?_⟩
  · rw [scratchA]
  · rw [outA]

theorem point1 : (outsAt0 m c (pt n 1 h (by omega)).val (pt n 1 h (by omega)).isLt).2 = kept m c n h
    ∧ ∀ r j, (outsAt0 m c (pt n 1 h (by omega)).val (pt n 1 h (by omega)).isLt).1 (ix2 r j) = partAt m c n h 0 (by omega) r j + partAt m c n h 1 (by omega) r j := by
  obtain ⟨hs, ho⟩ := point0 m c n h hn
  rw [outsAt0_B m c (pt n 1 h (by omega)) (by show ¬(n + 1) % 4 = 0; omega) (by show 1 ≤ (n + 1) % 4 ∧ (n + 1) % 4 ≤ 2; omega) (by show ¬(n + 1) % 4 = 3; omega)]
  dsimp only
  refine ⟨hs, fun r j => ?_⟩
  rw [outB]
  exact congrArg₂ (fun (a : EReal) (b : Vec Ideal S512x2048 .bf16) => a + part b (iblk m c 4 (pt n 1 h (by omega))) (iblk m c 5 (pt n 1 h (by omega))) r j) (ho r j) hs

theorem point2 : (outsAt0 m c (pt n 2 h (by omega)).val (pt n 2 h (by omega)).isLt).2 = kept m c n h
    ∧ ∀ r j, (outsAt0 m c (pt n 2 h (by omega)).val (pt n 2 h (by omega)).isLt).1 (ix2 r j)
      = partAt m c n h 0 (by omega) r j + partAt m c n h 1 (by omega) r j + partAt m c n h 2 (by omega) r j := by
  obtain ⟨hs, ho⟩ := point1 m c n h hn
  rw [outsAt0_B m c (pt n 2 h (by omega)) (by show ¬(n + 2) % 4 = 0; omega) (by show 1 ≤ (n + 2) % 4 ∧ (n + 2) % 4 ≤ 2; omega) (by show ¬(n + 2) % 4 = 3; omega)]
  dsimp only
  refine ⟨hs, fun r j => ?_⟩
  rw [outB]
  exact congrArg₂ (fun (a : EReal) (b : Vec Ideal S512x2048 .bf16) => a + part b (iblk m c 4 (pt n 2 h (by omega))) (iblk m c 5 (pt n 2 h (by omega))) r j) (ho r j) hs

theorem point3 : (outsAt0 m c (pt n 3 h (by omega)).val (pt n 3 h (by omega)).isLt).1
    = done (iblk m c 0 (pt n 3 h (by omega))) (iblk m c 1 (pt n 3 h (by omega))) (iblk m c 3 (pt n 3 h (by omega))) (fun i => acc m c n h (i 0) (i 1)) := by
  obtain ⟨hs, ho⟩ := point2 m c n h hn
  rw [outsAt0_C m c (pt n 3 h (by omega)) (by show ¬(n + 3) % 4 = 0; omega) (by show ¬(1 ≤ (n + 3) % 4 ∧ (n + 3) % 4 ≤ 2); omega) (by show (n + 3) % 4 = 3; omega)]
  dsimp only
  rw [outC]
  refine congrArg (done _ _ _) (funext fun i => ?_)
  exact congrArg₂ (fun (a : EReal) (b : Vec Ideal S512x2048 .bf16) => a + part b (iblk m c 4 (pt n 3 h (by omega))) (iblk m c 5 (pt n 3 h (by omega))) (i 0) (i 1)) (ho (i 0) (i 1)) hs

end

/-! ## Over the arguments -/

def xRow (R : Fin 16384) (k : Fin 2048) : EReal := arg0 m c (ix3 ⟨R.val / 4096, by omega⟩ ⟨R.val % 4096, by omega⟩ k)
def mRow (k : Fin 6) (R : Fin 16384) (j : Fin 2048) : EReal := arg1 m c (ix2 ⟨R.val / 4096, by omega⟩ ⟨k.val * 2048 + j.val, by omega⟩)
def g2 (j : Fin 2048) : EReal := arg2 m c (ix1 j)
def g3 (j : Fin 2048) : EReal := arg3 m c (ix1 j)
def w1 (d : Fin 2048) (k : Fin 8192) : EReal := arg4 m c (ix2 d k)
def w2 (k : Fin 8192) (j : Fin 2048) : EReal := arg5 m c (ix2 k j)

theorem b0 (t : Fin cfg0.N) (r : Fin 512) (j : Fin 2048) : iblk m c 0 t (ix2 r j) = xRow m c (row t r) j := (iblk0_at m c t r j).trans (v0_at m c _ _)
theorem b1 (t : Fin cfg0.N) (r : Fin 512) (k : Fin 6) (j : Fin 2048) : iblk m c 1 t (ix3 0 k j) = mRow m c k (row t r) j := by
  refine (iblk1_at m c t k j).trans ((v1_at m c _ _ _).trans ?_)
  have e : (⟨t.val / 32, by have := trips t; omega⟩ : Fin 4) = ⟨(row t r).val / 4096, by omega⟩ :=
    Fin.ext (show t.val / 32 = (t.val / 4 * 512 + r.val) / 4096 by omega)
  rw [e]
  rfl
theorem b2 (t : Fin cfg0.N) (j : Fin 2048) : iblk m c 2 t (ix2 0 j) = g2 m c j := (iblk2_at m c t j).trans (v2_at m c _)
theorem b3 (t : Fin cfg0.N) (j : Fin 2048) : iblk m c 3 t (ix2 0 j) = g3 m c j := (iblk3_at m c t j).trans (v3_at m c _)
theorem b4 (t : Fin cfg0.N) (d k : Fin 2048) : iblk m c 4 t (ix2 d k) = w1 m c d ⟨t.val % 4 * 2048 + k.val, by omega⟩ := (iblk4_at m c t d k).trans (v4_at m c _)
theorem b5 (t : Fin cfg0.N) (k j : Fin 2048) : iblk m c 5 t (ix2 k j) = w2 m c ⟨t.val % 4 * 2048 + k.val, by omega⟩ j := (iblk5_at m c t k j).trans (v5_at m c _)

theorem inv_eq (f : Fin 2048 → EReal) : inv f = Cert.Mlp.inv f := rfl

theorem hid_row (t : Fin cfg0.N) (r : Fin 512) (d : Fin 2048) :
    hid (iblk m c 0 t) (iblk m c 1 t) (iblk m c 2 t) (ix2 r d) = Cert.Mlp.hidK (xRow m c (row t r)) (g2 m c) (mRow m c 4 (row t r)) (mRow m c 3 (row t r)) d := by
  have e0 := fun k => b0 m c t r k
  have e : (fun k => iblk m c 0 t (ix2 r k)) = xRow m c (row t r) := funext e0
  have e4 := b1 m c t r 4 d
  have e3 := b1 m c t r 3 d
  exact congrArg₂ (fun a b : EReal => a + b) (congrArg₂ (fun a b : EReal => a * b) (congrArg₂ (fun a b : EReal => a * b) (e0 d) (congrArg inv e))
    (congrArg₂ (fun a b : EReal => a * (1 + b)) (b2 m c t d) e4)) e3

/-- The kernel's hidden row. -/
abbrev hRow (R : Fin 16384) : Fin 2048 → EReal := Cert.Mlp.hidK (xRow m c R) (g2 m c) (mRow m c 4 R) (mRow m c 3 R)

theorem part_at (t s : Fin cfg0.N) (f : Fin 4) (hf : s.val % 4 = f.val) (r : Fin 512) (j : Fin 2048) :
    part (hid (iblk m c 0 t) (iblk m c 1 t) (iblk m c 2 t)) (iblk m c 4 s) (iblk m c 5 s) r j
      = Cert.Mlp.blk (Cert.Mlp.term (hRow m c (row t r)) (w1 m c) (w2 m c) j) f := by
  unfold part Cert.Mlp.blk Cert.Mlp.term
  refine Finset.sum_congr rfl fun k _ => ?_
  have e : (⟨s.val % 4 * 2048 + k.val, by omega⟩ : Fin 8192) = ⟨f.val * 2048 + k.val, by omega⟩ := Fin.ext (show s.val % 4 * 2048 + k.val = f.val * 2048 + k.val by omega)
  have e4 := fun d => b4 m c s d k
  have e5 := b5 m c s k j
  rw [e] at e5
  simp only [e] at e4
  have eh := fun d => hid_row m c t r d
  have es : (∑ d : Fin 2048, (hid (iblk m c 0 t) (iblk m c 1 t) (iblk m c 2 t) (ix2 r d) : EReal) * iblk m c 4 s (ix2 d k))
      = ∑ d : Fin 2048, hRow m c (row t r) d * w1 m c d ⟨f.val * 2048 + k.val, by omega⟩ :=
    Finset.sum_congr rfl fun d _ => congrArg₂ (fun a b : EReal => a * b) (eh d) (e4 d)
  exact congrArg₂ (fun a b : EReal => max a 0 * max a 0 * b) es e5

/-- An entry of the finished block, of its four factors. -/
def combine (a b d e : EReal) : EReal := a + b * d * e

theorem combine_congr {a b d e a' b' d' e' : EReal} (ha : a = a') (hb : b = b') (hd : d = d') (he : e = e') : combine a b d e = a' + b' * d' * e' := by
  rw [ha, hb, hd, he, combine]

/-- The kernel's result at a row and a column. -/
def result (R : Fin 16384) : Fin 2048 → EReal :=
  Cert.Mlp.rowK (xRow m c R) (g2 m c) (g3 m c) (mRow m c 4 R) (mRow m c 3 R) (mRow m c 5 R) (w1 m c) (w2 m c)

section
variable (n : ℕ) (h : n + 3 < 128) (hn : n % 4 = 0)
include hn

theorem acc_at (r : Fin 512) : acc m c n h r = fun j =>
    Cert.Mlp.blk (Cert.Mlp.term (hRow m c (row (pt n 3 h (by omega)) r)) (w1 m c) (w2 m c) j) 0 + Cert.Mlp.blk (Cert.Mlp.term (hRow m c (row (pt n 3 h (by omega)) r)) (w1 m c) (w2 m c) j) 1
    + Cert.Mlp.blk (Cert.Mlp.term (hRow m c (row (pt n 3 h (by omega)) r)) (w1 m c) (w2 m c) j) 2 + Cert.Mlp.blk (Cert.Mlp.term (hRow m c (row (pt n 3 h (by omega)) r)) (w1 m c) (w2 m c) j) 3 := by
  funext j
  have er : row (pt n 3 h (by omega)) r = row (pt n 0 h (by omega)) r := Fin.ext (show (n + 3) / 4 * 512 + r.val = (n + 0) / 4 * 512 + r.val by omega)
  rw [er]
  unfold acc
  have p := fun (k : ℕ) (hk : k ≤ 3) (f : Fin 4) (hf : k = f.val) => part_at m c (pt n 0 h (by omega)) (pt n k h hk) f (show (n + k) % 4 = f.val by omega) r j
  exact congrArg₂ (· + ·) (congrArg₂ (· + ·) (congrArg₂ (· + ·) (p 0 (by omega) 0 rfl) (p 1 (by omega) 1 rfl)) (p 2 (by omega) 2 rfl)) (p 3 (by omega) 3 rfl)

theorem block_at (r : Fin 512) (j : Fin 2048) :
    (outsAt0 m c (pt n 3 h (by omega)).val (pt n 3 h (by omega)).isLt).1 (ix2 r j) = result m c (row (pt n 3 h (by omega)) r) j := by
  rw [point3 m c n h hn]
  have ea := acc_at m c n h hn r
  refine (congrArg (fun a : Fin 2048 → EReal => combine (iblk m c 0 (pt n 3 h (by omega)) (ix2 r j)) (iblk m c 1 (pt n 3 h (by omega)) (ix3 0 5 j))
    (iblk m c 3 (pt n 3 h (by omega)) (ix2 0 j)) (a j * inv a)) ea).trans ?_
  have e0 := b0 m c (pt n 3 h (by omega)) r j
  have e1 := b1 m c (pt n 3 h (by omega)) r 5 j
  have e3 := b3 m c (pt n 3 h (by omega)) j
  exact combine_congr e0 e1 e3 rfl

end

theorem arr_eq : (dats m 0 c).arrAt 6 cfg0.N = fun i : S16384x2048.Idx => result m c (i 0) (i 1) := by
  refine (dats m 0 c).arrAt_eq_of_covers 6 _ (by decide +kernel) fun t hf y => ?_
  have h3 : t.val % 4 = 3 := (flush0_6 t).mp hf
  have ht := trips t
  blk_simp
  rw [after0_6]
  obtain ⟨r, j, rfl⟩ : ∃ (r : Fin 512) (j : Fin 2048), y = ix2 r j := ⟨y 0, y 1, eq_ix2 y⟩
  have e0 : ((win0_6.blk t).view.emb (ix2 r j)) = (ix2 (row t r) j : S16384x2048.Idx) := by
    blk_ext [idx6]
  refine Eq.trans ?_ (congrArg (fun i : S16384x2048.Idx => result m c (i 0) (i 1)) e0).symm
  clear e0
  obtain ⟨n, hn, h, e⟩ : ∃ (n : ℕ) (_ : n % 4 = 0) (h : n + 3 < 128), t = pt n 3 h (by omega) :=
    ⟨t.val - 3, by omega, by omega, Fin.ext (show t.val = t.val - 3 + 3 by omega)⟩
  have key : ∀ t' : Fin cfg0.N, t' = pt n 3 h (by omega) → (outsAt0 m c t'.val t'.isLt).1 (ix2 r j) = result m c (row t' r) j := by
    rintro _ rfl
    exact block_at m c n h hn r j
  exact key t e

end Cert.Kernel2Ideal.Mlp
end
-- ==== Proof.MlpRef.lean ====
module

public import proofs.«01_k».proof.Proof.Gen.Reference2Ideal.Run
public import proofs.«01_k».proof.Defs
public import Idealize.ShloMosaic.Lib.Pointwise

/-!
# The reference's block of the layer, at an entry

The reference's result in four stages, each read at an index.
-/

@[expose] public section
set_option maxRecDepth 65536
noncomputable section
namespace Cert.Reference2Ideal.Mlp
open Cert.Reference2Ideal Cert.Reference2Ideal.Gen
open Idealize.ShloMosaic Idealize.ShloMosaic.TcCoe

/-- The normalised rows, scaled and shifted by the conditioning. -/
def rHid (a0 : FVec Ideal S4x4096x2048 .f32) (a1 : FVec Ideal S4x12288 .f32) (a2 : FVec Ideal S2048 .f32) : FVec Ideal S4x4096x2048 .f32 :=
  addf (mulf (mulf (mulf a0 (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf a0 a0) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 a2))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 8192] a1 slices_S4x12288_S4x2048_0_8192))))) (broadcastInDim S4x4096x2048 ![0, 1, 2] bcast_S4x1x2048_S4x4096x2048_0_1_2 (broadcastInDim S4x1x2048 ![0, 2] bcast_S4x2048_S4x1x2048_0_2 (extractStridedSlice S4x2048 ![0, 6144] a1 slices_S4x12288_S4x2048_0_6144)))

/-- The hidden features, before squaring. -/
def rAct (h : FVec Ideal S4x4096x2048 .f32) (w : FVec Ideal S2048x8192 .f32) : FVec Ideal S4x4096x8192 .f32 :=
  maximumf (Host.dotGeneral dot_S4x4096x2048_S2048x8192_S4x4096x8192_2_0_01_1_n_n none h w) (broadcastInDim S4x4096x8192 ![] bcast_S_S4x4096x8192 (constant S_ .f32 0x00000000#32))

/-- The product with the second matrix. -/
def rY (a : FVec Ideal S4x4096x8192 .f32) (w : FVec Ideal S8192x2048 .f32) : FVec Ideal S4x4096x2048 .f32 :=
  Host.dotGeneral dot_S4x4096x8192_S8192x2048_S4x4096x2048_2_0_01_1_n_n none (mulf a a) w

/-- The rows plus the gated, normalised product. -/
def rOut (a0 : FVec Ideal S4x4096x2048 .f32) (a1 : FVec Ideal S4x12288 .f32) (a3 : FVec Ideal S2048 .f32) (y : FVec Ideal S4x4096x2048 .f32) : FVec Ideal S4x4096x2048 .f32 :=
  addf a0 (mulf (broadcastInDim S4x4096x2048 ![0, 1, 2] bcast_S4x1x2048_S4x4096x2048_0_1_2 (broadcastInDim S4x1x2048 ![0, 2] bcast_S4x2048_S4x1x2048_0_2 (extractStridedSlice S4x2048 ![0, 10240] a1 slices_S4x12288_S4x2048_0_10240))) (mulf (mulf y (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf y y) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 a3))))

variable (m : (ℓ : Loc nD τ sig) → Buf (Elt Ideal) ℓ) (c : Dev nD)

abbrev arg0 : FVec Ideal S4x4096x2048 .f32 := m ((c.tc : Thread nD τ).loc main_arg0)
abbrev arg1 : FVec Ideal S4x12288 .f32 := m ((c.tc : Thread nD τ).loc main_arg1)
abbrev arg2 : FVec Ideal S2048 .f32 := m ((c.tc : Thread nD τ).loc main_arg2)
abbrev arg3 : FVec Ideal S2048 .f32 := m ((c.tc : Thread nD τ).loc main_arg3)
abbrev arg4 : FVec Ideal S2048x8192 .f32 := m ((c.tc : Thread nD τ).loc main_arg4)
abbrev arg5 : FVec Ideal S8192x2048 .f32 := m ((c.tc : Thread nD τ).loc main_arg5)

theorem res_eq : Value.res_out0 m c = shapeCast S16384x2048 (rOut (arg0 m c) (arg1 m c) (arg3 m c) (rY (rAct (rHid (arg0 m c) (arg1 m c) (arg2 m c)) (arg4 m c)) (arg5 m c))) (by decide) := rfl

/-- The reciprocal root of a row's mean square, with the small constant added. -/
def inv (f : Fin 2048 → EReal) : EReal :=
  Ideal.rsqrt (Ideal.div (∑ k, f k * f k) (Ideal.ofBits .f32 1157627904#32) + Ideal.ofBits .f32 897988541#32)

theorem rHid_at (a0 : FVec Ideal S4x4096x2048 .f32) (a1 : FVec Ideal S4x12288 .f32) (a2 : FVec Ideal S2048 .f32) (b : Fin 4) (s : Fin 4096) (j : Fin 2048) :
    rHid a0 a1 a2 (ix3 b s j) = a0 (ix3 b s j) * inv (fun k => a0 (ix3 b s k)) * a2 (ix1 j) * (1 + a1 (ix2 b ⟨8192 + j.val, by omega⟩)) + a1 (ix2 b ⟨6144 + j.val, by omega⟩) := by
  unfold inv
  pointwise [rHid]

theorem rAct_at (h : FVec Ideal S4x4096x2048 .f32) (w : FVec Ideal S2048x8192 .f32) (b : Fin 4) (s : Fin 4096) (k : Fin 8192) :
    rAct h w (ix3 b s k) = max (∑ d : Fin 2048, h (ix3 b s d) * w (ix2 d k)) 0 := by
  pointwise [rAct]

theorem rY_at (a : FVec Ideal S4x4096x8192 .f32) (w : FVec Ideal S8192x2048 .f32) (b : Fin 4) (s : Fin 4096) (j : Fin 2048) :
    rY a w (ix3 b s j) = ∑ k : Fin 8192, a (ix3 b s k) * a (ix3 b s k) * w (ix2 k j) := by
  pointwise [rY]

theorem rOut_at (a0 : FVec Ideal S4x4096x2048 .f32) (a1 : FVec Ideal S4x12288 .f32) (a3 : FVec Ideal S2048 .f32) (y : FVec Ideal S4x4096x2048 .f32) (b : Fin 4) (s : Fin 4096) (j : Fin 2048) :
    rOut a0 a1 a3 y (ix3 b s j) = a0 (ix3 b s j) + a1 (ix2 b ⟨10240 + j.val, by omega⟩) * (y (ix3 b s j) * inv (fun k => y (ix3 b s k)) * a3 (ix1 j)) := by
  unfold inv
  pointwise [rOut]

end Cert.Reference2Ideal.Mlp
end
-- ==== Proof.MlpResult.lean ====
module

public import proofs.«01_k».proof.Proof.MlpArr
public import proofs.«01_k».proof.Proof.MlpRef

/-!
# The last block's two results are one array

The reference's array at an entry, as a row of the block over its arguments, and its equality with the kernel's array when the
arguments agree.
-/

@[expose] public section
set_option maxRecDepth 65536
noncomputable section
namespace Cert.Reference2Ideal.Mlp
open Cert.Reference2Ideal Cert.Reference2Ideal.Gen
open Idealize.ShloMosaic Idealize.ShloMosaic.TcCoe

theorem flat_at (y : FVec Ideal S4x4096x2048 .f32) (hs) (R : Fin 16384) (j : Fin 2048) :
    shapeCast S16384x2048 y hs (ix2 R j) = y (ix3 ⟨R.val / 4096, by omega⟩ ⟨R.val % 4096, by omega⟩ j) := by
  pointwise

variable (m : (ℓ : Loc nD τ sig) → Buf (Elt Ideal) ℓ) (c : Dev nD)

def xRow (R : Fin 16384) (k : Fin 2048) : EReal := arg0 m c (ix3 ⟨R.val / 4096, by omega⟩ ⟨R.val % 4096, by omega⟩ k)
def mRow (k : Fin 6) (R : Fin 16384) (j : Fin 2048) : EReal := arg1 m c (ix2 ⟨R.val / 4096, by omega⟩ ⟨k.val * 2048 + j.val, by omega⟩)
def g2 (j : Fin 2048) : EReal := arg2 m c (ix1 j)
def g3 (j : Fin 2048) : EReal := arg3 m c (ix1 j)
def w1 (d : Fin 2048) (k : Fin 8192) : EReal := arg4 m c (ix2 d k)
def w2 (k : Fin 8192) (j : Fin 2048) : EReal := arg5 m c (ix2 k j)

/-- The reference's result at a row and a column. -/
def result (R : Fin 16384) : Fin 2048 → EReal :=
  Cert.Mlp.rowR (xRow m c R) (g2 m c) (g3 m c) (mRow m c 4 R) (mRow m c 3 R) (mRow m c 5 R) (w1 m c) (w2 m c)

/-- The reference's product row. -/
theorem y_row (b : Fin 4) (s : Fin 4096) (R : Fin 16384) (hb : b = ⟨R.val / 4096, by omega⟩) (hs : s = ⟨R.val % 4096, by omega⟩) (j : Fin 2048) :
    rY (rAct (rHid (arg0 m c) (arg1 m c) (arg2 m c)) (arg4 m c)) (arg5 m c) (ix3 b s j)
      = ∑ k, Cert.Mlp.term (Cert.Mlp.hidR (xRow m c R) (g2 m c) (mRow m c 4 R) (mRow m c 3 R)) (w1 m c) (w2 m c) j k := by
  rw [rY_at]
  refine Finset.sum_congr rfl fun k _ => ?_
  rw [rAct_at]
  simp only [rHid_at]
  subst hb hs
  rfl

theorem arr_eq : Value.res_out0 m c = fun i : S16384x2048.Idx => result m c (i 0) (i 1) := by
  rw [res_eq]
  funext i
  obtain ⟨R, j, rfl⟩ : ∃ (R : Fin 16384) (j : Fin 2048), i = ix2 R j := ⟨i 0, i 1, eq_ix2 i⟩
  refine (flat_at _ _ R j).trans ((rOut_at _ _ _ _ _ _ _).trans ?_)
  simp only [fun j => y_row m c _ _ R rfl rfl j]
  rfl

end Cert.Reference2Ideal.Mlp

namespace Cert.Mlp
open Idealize.ShloMosaic Idealize.ShloMosaic.TcCoe

/-- With equal arguments a row of the two results is the same. -/
theorem rows (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (e0 : Cert.Reference2Ideal.Mlp.arg0 m' c = Cert.Kernel2Ideal.Mlp.arg0 m c) (e1 : Cert.Reference2Ideal.Mlp.arg1 m' c = Cert.Kernel2Ideal.Mlp.arg1 m c)
    (e2 : Cert.Reference2Ideal.Mlp.arg2 m' c = Cert.Kernel2Ideal.Mlp.arg2 m c) (e3 : Cert.Reference2Ideal.Mlp.arg3 m' c = Cert.Kernel2Ideal.Mlp.arg3 m c)
    (e4 : Cert.Reference2Ideal.Mlp.arg4 m' c = Cert.Kernel2Ideal.Mlp.arg4 m c) (e5 : Cert.Reference2Ideal.Mlp.arg5 m' c = Cert.Kernel2Ideal.Mlp.arg5 m c)
    (R : Fin 16384) :
    Cert.Reference2Ideal.Mlp.result m' c R = Cert.Kernel2Ideal.Mlp.result m c R := by
  have hx (R) : Cert.Reference2Ideal.Mlp.xRow m' c R = Cert.Kernel2Ideal.Mlp.xRow m c R := funext fun _ => congrFun e0 _
  have hm (k R) : Cert.Reference2Ideal.Mlp.mRow m' c k R = Cert.Kernel2Ideal.Mlp.mRow m c k R := funext fun _ => congrFun e1 _
  have h2 : Cert.Reference2Ideal.Mlp.g2 m' c = Cert.Kernel2Ideal.Mlp.g2 m c := funext fun _ => congrFun e2 _
  have h3 : Cert.Reference2Ideal.Mlp.g3 m' c = Cert.Kernel2Ideal.Mlp.g3 m c := funext fun _ => congrFun e3 _
  have h4 : Cert.Reference2Ideal.Mlp.w1 m' c = Cert.Kernel2Ideal.Mlp.w1 m c := funext fun _ => funext fun _ => congrFun e4 _
  have h5 : Cert.Reference2Ideal.Mlp.w2 m' c = Cert.Kernel2Ideal.Mlp.w2 m c := funext fun _ => funext fun _ => congrFun e5 _
  unfold Cert.Reference2Ideal.Mlp.result Cert.Kernel2Ideal.Mlp.result
  rw [hx, hm, hm, hm, h2, h3, h4, h5, row_eq]

/-- With equal arguments the two arrays are equal. -/
theorem arrays (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (e0 : Cert.Reference2Ideal.Mlp.arg0 m' c = Cert.Kernel2Ideal.Mlp.arg0 m c) (e1 : Cert.Reference2Ideal.Mlp.arg1 m' c = Cert.Kernel2Ideal.Mlp.arg1 m c)
    (e2 : Cert.Reference2Ideal.Mlp.arg2 m' c = Cert.Kernel2Ideal.Mlp.arg2 m c) (e3 : Cert.Reference2Ideal.Mlp.arg3 m' c = Cert.Kernel2Ideal.Mlp.arg3 m c)
    (e4 : Cert.Reference2Ideal.Mlp.arg4 m' c = Cert.Kernel2Ideal.Mlp.arg4 m c) (e5 : Cert.Reference2Ideal.Mlp.arg5 m' c = Cert.Kernel2Ideal.Mlp.arg5 m c) :
    (fun i : Cert.Reference2Ideal.S16384x2048.Idx => Cert.Reference2Ideal.Mlp.result m' c (i 0) (i 1))
      = fun i : Cert.Kernel2Ideal.S16384x2048.Idx => Cert.Kernel2Ideal.Mlp.result m c (i 0) (i 1) :=
  funext fun i => congrFun (rows m m' c e0 e1 e2 e3 e4 e5 (i 0)) (i 1)

end Cert.Mlp
end
-- ==== Proof.AdalnArr.lean ====
module

public import proofs.«01_k».proof.Proof.Gen.Kernel3Ideal.Frame
public import proofs.«01_k».proof.Defs
public import proofs.«01_k».proof.Proof.HostRead
public import Idealize.ShloMosaic.Lib.Pipeline.ValueKit
public import Idealize.ShloMosaic.Lib.Pipeline.ReadBack
public import Idealize.ShloMosaic.Lib.Pointwise
public import Idealize.ShloMosaic.Lib.Routing.OpsSet
public import Idealize.ShloMosaic.Lib.Routing.OpsPair

/-!
# What the conditioning call returns

The padded vector read through the write of four rows into eight, then each block of columns over the
arguments, then the host's slice and reshape of the array after the kernel.
-/

@[expose] public section
set_option maxRecDepth 65536
noncomputable section
namespace Cert.Kernel3Ideal.Adaln
open Cert.Kernel3Ideal Cert.Kernel3Ideal.Gen Cert.HostRead
open Idealize.ShloMosaic Idealize.ShloMosaic.TcCoe Idealize.ShloMosaic.Pipeline Idealize.SL.Sem

/-! ## A grid point -/

/-- One entry of the product with its shift. -/
def entry (x0 : Vec Ideal S8x2048 .bf16) (x1 : Vec Ideal S2048x1024 .f32) (x2 : Vec Ideal S1x1024 .f32) (r : Fin 8) (j : Fin 1024) : EReal :=
  (∑ k : Fin 2048, x0 (ix2 r k) * x1 (ix2 k j)) + x2 (ix2 0 j)

theorem out_at (x0 : Vec Ideal S8x2048 .bf16) (x1 : Vec Ideal S2048x1024 .f32) (x2 : Vec Ideal S1x1024 .f32) (r : Fin 8) (j : Fin 1024) :
    out0_3 x0 x1 x2 (ix2 r j) = entry x0 x1 x2 r j := by
  unfold entry
  frame_out [out0_3]
  pointwise [k0_pay1]

/-! ## Four rows written into eight -/

/-- The write's dimensions. -/
abbrev dims : ScatterDims S8x2048 S1 S4x2048 := scatter_S8x2048_S1_S4x2048_01_n_0_0

theorem lands (idx : IVec S1 32) (h0 : ∀ i, idx i = 0#32) (b : Fin 4) (k : Fin 2048) (i : S8x2048.Idx) :
    dims.resultIdx? (ix2 b k) idx = some i ↔ b.val = (i 0).val ∧ k.val = (i 1).val := by
  rw [Routing.resultIdx?_eq_some]
  have s0 : dims.start (ix2 b k) idx 0 = 0 := by
    unfold ScatterDims.start
    rw [dif_pos (by decide), h0]
    rfl
  have s1 : dims.start (ix2 b k) idx 1 = 0 := by
    unfold ScatterDims.start
    rw [dif_neg (by decide)]
  have w0 : dims.window (ix2 b k) 0 = b.val := rfl
  have w1 : dims.window (ix2 b k) 1 = k.val := rfl
  constructor
  · intro h
    have a := h 0
    have a' := h 1
    rw [s0, w0] at a
    rw [s1, w1] at a'
    omega
  · rintro ⟨a, a'⟩ x
    match x with
    | ⟨0, _⟩ => exact (congrArg₂ (· + ·) s0 (congrArg Nat.cast w0)).trans ((Int.zero_add _).trans (congrArg Nat.cast a))
    | ⟨1, _⟩ => exact (congrArg₂ (· + ·) s1 (congrArg Nat.cast w1)).trans ((Int.zero_add _).trans (congrArg Nat.cast a'))

theorem written_at (x : FVec Ideal S8x2048 .bf16) (idx : IVec S1 32) (h0 : ∀ i, idx i = 0#32) (u : FVec Ideal S4x2048 .bf16) (r : Fin 8) (k : Fin 2048) :
    Host.scatter dims (fun _ b => b) x idx u (ix2 r k) = if h : r.val < 4 then u (ix2 ⟨r.val, h⟩ k) else x (ix2 r k) := by
  split
  · rename_i h
    refine Routing.scatter_set_hit dims x idx u _ _ (fun q hq => ?_) (ix2 ⟨r.val, h⟩ k) ((lands idx h0 _ _ _).2 ⟨rfl, rfl⟩)
    obtain ⟨b, d, rfl⟩ : ∃ (b : Fin 4) (d : Fin 2048), q = ix2 b d := ⟨q 0, q 1, eq_ix2 q⟩
    obtain ⟨e, e'⟩ := (lands idx h0 _ _ _).1 hq
    have eb : b = ⟨r.val, h⟩ := Fin.ext e
    have ed : d = k := Fin.ext e'
    rw [eb, ed]
  · rename_i h
    refine Routing.scatter_set_miss dims x idx u _ fun q hq => h ?_
    obtain ⟨b, d, rfl⟩ : ∃ (b : Fin 4) (d : Fin 2048), q = ix2 b d := ⟨q 0, q 1, eq_ix2 q⟩
    have e : b.val = r.val := ((lands idx h0 _ _ _).1 hq).1
    omega

/-! ## The host operations -/

variable (m : (ℓ : Loc nD τ sig) → Buf (Elt Ideal) ℓ) (c : Dev nD)

abbrev arg0 : FVec Ideal S4x2048 .f32 := m ((c : Thread nD τ).loc main_arg0)
abbrev arg1 : FVec Ideal S2048x12288 .f32 := m ((c : Thread nD τ).loc main_arg1)
abbrev arg2 : FVec Ideal S12288 .f32 := m ((c : Thread nD τ).loc main_arg2)

/-- The references the host operations write, in order. -/
def written : List (Ref sig .tc) :=
  [main_cst, main_v0, main_call0_v0, main_call0_v1, main_call0_cst, main_call0_v2, main_call0_v3, main_call0_cst_0, main_call0_v4, main_call0_v5, main_v1,
    main_v2, main_c, main_v3, main_v4, main_v5]

abbrev hostAll : List (HloOp τ sig (Elt Ideal)) := List.flatten [hostOps0, hostOps0_1, hostOps0_2]

theorem line : Line hostAll written := ⟨rfl⟩

theorem cst_eq : V m c main_cst = constant (F := Ideal) S_ .bf16 0x0000#16 :=
  line.nullary (fun b => m (c, b)) 0 (y := main_cst) rfl (by decide +kernel)
theorem v0_eq : V m c main_v0 = broadcastInDim S8x2048 ![] bcast_S_S8x2048 (V m c main_cst) :=
  line.unary (fun b => m (c, b)) 1 (x := main_cst) (y := main_v0) rfl (by decide +kernel) (by decide +kernel)
theorem n_eq : V m c main_call0_v0 = Host.negf (F := Ideal) (s := S4x2048) (φ := .f32) (V m c main_arg0) :=
  line.unary (fun b => m (c, b)) 2 (x := main_arg0) (y := main_call0_v0) rfl (by decide +kernel) (by decide +kernel)
theorem e_eq : V m c main_call0_v1 = Host.exp (F := Ideal) (s := S4x2048) (φ := .f32) (V m c main_call0_v0) :=
  line.unary (fun b => m (c, b)) 3 (x := main_call0_v0) (y := main_call0_v1) rfl (by decide +kernel) (by decide +kernel)
theorem one_eq : V m c main_call0_cst = constant (F := Ideal) S_ .f32 0x3F800000#32 :=
  line.nullary (fun b => m (c, b)) 4 (y := main_call0_cst) rfl (by decide +kernel)
theorem ones_eq : V m c main_call0_v2 = broadcastInDim S4x2048 ![] bcast_S_S4x2048 (V m c main_call0_cst) :=
  line.unary (fun b => m (c, b)) 5 (x := main_call0_cst) (y := main_call0_v2) rfl (by decide +kernel) (by decide +kernel)
theorem d_eq : V m c main_call0_v3 = addf (F := Ideal) (s := S4x2048) (φ := .f32) (V m c main_call0_v2) (V m c main_call0_v1) :=
  line.binary (fun b => m (c, b)) 6 (a := main_call0_v2) (b := main_call0_v1) (y := main_call0_v3) rfl (by decide +kernel) (by decide +kernel) (by decide +kernel)
theorem one'_eq : V m c main_call0_cst_0 = constant (F := Ideal) S_ .f32 0x3F800000#32 :=
  line.nullary (fun b => m (c, b)) 7 (y := main_call0_cst_0) rfl (by decide +kernel)
theorem ones'_eq : V m c main_call0_v4 = broadcastInDim S4x2048 ![] bcast_S_S4x2048 (V m c main_call0_cst_0) :=
  line.unary (fun b => m (c, b)) 8 (x := main_call0_cst_0) (y := main_call0_v4) rfl (by decide +kernel) (by decide +kernel)
theorem q_eq : V m c main_call0_v5 = Host.divf (F := Ideal) (s := S4x2048) (φ := .f32) (V m c main_call0_v4) (V m c main_call0_v3) :=
  line.binary (fun b => m (c, b)) 9 (a := main_call0_v4) (b := main_call0_v3) (y := main_call0_v5) rfl (by decide +kernel) (by decide +kernel) (by decide +kernel)
theorem v1_eq : V m c main_v1 = mulf (F := Ideal) (s := S4x2048) (φ := .f32) (V m c main_arg0) (V m c main_call0_v5) :=
  line.binary (fun b => m (c, b)) 10 (a := main_arg0) (b := main_call0_v5) (y := main_v1) rfl (by decide +kernel) (by decide +kernel) (by decide +kernel)
theorem v2_eq : V m c main_v2 = truncf (F := Ideal) .bf16 (V m c main_v1 : FVec Ideal S4x2048 .f32) bitsLt_bf16_f32 :=
  line.unary (fun b => m (c, b)) 11 (x := main_v1) (y := main_v2) rfl (by decide +kernel) (by decide +kernel)
theorem c_eq : V m c main_c = constantI S_ 32 0#32 :=
  line.nullary (fun b => m (c, b)) 12 (y := main_c) rfl (by decide +kernel)
theorem v3_eq : V m c main_v3 = broadcastInDim S1 ![] bcast_S_S1 (V m c main_c) :=
  line.unary (fun b => m (c, b)) 13 (x := main_c) (y := main_v3) rfl (by decide +kernel) (by decide +kernel)
theorem v4_eq : V m c main_v4 = Host.scatter dims (fun _ b => b) (V m c main_v0 : FVec Ideal S8x2048 .bf16) (V m c main_v3) (V m c main_v2) :=
  line.ternary (fun b => m (c, b)) 14 (a := main_v0) (b := main_v3) (c := main_v2) (y := main_v4) rfl (by decide +kernel) (by decide +kernel) (by decide +kernel) (by decide +kernel)

/-- The sigmoid-weighted value. -/
def silu (x : EReal) : EReal := x * Ideal.div 1 (1 + Ideal.exp (-x))

/-- The padded vector, at an entry. -/
def padded (a : FVec Ideal S4x2048 .f32) (r : Fin 8) (k : Fin 2048) : EReal := if h : r.val < 4 then silu (a (ix2 ⟨r.val, h⟩ k)) else 0

theorem v2_at (b : Fin 4) (k : Fin 2048) : (V m c main_v2 : FVec Ideal S4x2048 .bf16) (ix2 b k) = silu (arg0 m c (ix2 b k)) := by
  rw [v2_eq, v1_eq, q_eq, ones'_eq, one'_eq, d_eq, ones_eq, one_eq, e_eq, n_eq, V_main_arg0]
  unfold silu
  pointwise

theorem v4_at (r : Fin 8) (k : Fin 2048) : (V m c main_v4 : FVec Ideal S8x2048 .bf16) (ix2 r k) = padded (arg0 m c) r k := by
  refine (congrFun (v4_eq m c) _).trans ((written_at _ _ (fun i => by rw [v3_eq, c_eq]; rfl) _ r k).trans ?_)
  unfold padded
  split
  · exact v2_at m c _ _
  · rw [v0_eq, cst_eq]
    pointwise

theorem v5_at (j : Fin 12288) : (V m c main_v5 : FVec Ideal S1x12288 .f32) (ix2 0 j) = arg2 m c (ix1 j) := by
  have h := line.reshape (fun b => m (c, b)) 15 (x := main_arg2) (y := main_v5) rfl (by decide +kernel) (by decide +kernel)
  refine (congrFun h _).trans ?_
  rw [show StableHlo.after hostAll (fun b => m (c, b)) (Proc.devRef .tc main_arg2) = arg2 m c from V_main_arg2 m c]
  pointwise

/-! ## The blocks read at each point -/

theorem trips (t : Fin cfg0.N) : t.val < 12 := t.isLt

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)

/-- Column `j` of the block of columns at point `t`. -/
abbrev col (t : Fin cfg0.N) (j : Fin 1024) : Fin 12288 := ⟨t.val * 1024 + j.val, by have := trips t; omega⟩

theorem iblk0_at (t : Fin cfg0.N) (r : Fin 8) (k : Fin 2048) : iblk m c 0 t (ix2 r k) = (V m c main_v4 : FVec Ideal S8x2048 .bf16) (ix2 r k) := by
  blk_simp [iblk]
  refine congrArg (V m c main_v4) ?_
  blk_ext [idx0]
theorem iblk1_at (t : Fin cfg0.N) (k : Fin 2048) (j : Fin 1024) : iblk m c 1 t (ix2 k j) = (V m c main_arg1 : FVec Ideal S2048x12288 .f32) (ix2 k (col t j)) := by
  blk_simp [iblk]
  refine congrArg (V m c main_arg1) ?_
  blk_ext [idx1]
theorem iblk2_at (t : Fin cfg0.N) (j : Fin 1024) : iblk m c 2 t (ix2 0 j) = (V m c main_v5 : FVec Ideal S1x12288 .f32) (ix2 0 (col t j)) := by
  blk_simp [iblk]
  refine congrArg (V m c main_v5) ?_
  blk_ext [idx2]

/-- The kernel's array at a row and a column. -/
def result (a0 : FVec Ideal S4x2048 .f32) (a1 : FVec Ideal S2048x12288 .f32) (a2 : FVec Ideal S12288 .f32) (r : Fin 8) (j : Fin 12288) : EReal :=
  (∑ k : Fin 2048, padded a0 r k * a1 (ix2 k j)) + a2 (ix1 j)

theorem entry_at (t : Fin cfg0.N) (r : Fin 8) (j : Fin 1024) :
    entry (iblk m c 0 t) (iblk m c 1 t) (iblk m c 2 t) r j = result (arg0 m c) (arg1 m c) (arg2 m c) r (col t j) := by
  have e0 := fun k => (iblk0_at m c t r k).trans (v4_at m c r k)
  have e1 := fun k => (iblk1_at m c t k j).trans (congrFun (V_main_arg1 m c) _)
  have e2 := (iblk2_at m c t j).trans (v5_at m c _)
  exact congrArg₂ (fun a b : EReal => a + b) (Finset.sum_congr rfl fun k _ => congrArg₂ (fun a b : EReal => a * b) (e0 k) (e1 k)) e2

theorem arr_eq : (dats m 0 c).arrAt 3 cfg0.N = fun i : S8x12288.Idx => result (arg0 m c) (arg1 m c) (arg2 m c) (i 0) (i 1) := by
  refine (dats m 0 c).arrAt_eq_of_covers 3 _ (by decide +kernel) fun t hf y => ?_
  have ht := trips t
  blk_simp
  rw [after0_3]
  obtain ⟨r, j, rfl⟩ : ∃ (r : Fin 8) (j : Fin 1024), y = ix2 r j := ⟨y 0, y 1, eq_ix2 y⟩
  have e0 : ((win0_3.blk t).view.emb (ix2 r j)) = (ix2 r (col t j) : S8x12288.Idx) := by
    blk_ext [idx3]
  refine Eq.trans ?_ (congrArg (fun i : S8x12288.Idx => result (arg0 m c) (arg1 m c) (arg2 m c) (i 0) (i 1)) e0).symm
  exact (out_at _ _ _ r j).trans (entry_at m c t r j)

/-! ## The host's slice and reshape after the kernel -/

/-- What the call returns: four rows, each cut into six vectors. -/
def returned (a0 : FVec Ideal S4x2048 .f32) (a1 : FVec Ideal S2048x12288 .f32) (a2 : FVec Ideal S12288 .f32) : FVec Ideal S4x6x2048 .f32 := fun i =>
  (∑ k : Fin 2048, silu (a0 (ix2 (i 0) k)) * a1 (ix2 k ⟨(i 1).val * 2048 + (i 2).val, by have h1 : (i 1).val < 6 := (i 1).isLt; have h2 : (i 2).val < 2048 := (i 2).isLt; omega⟩))
    + a2 (ix1 ⟨(i 1).val * 2048 + (i 2).val, by have h1 : (i 1).val < 6 := (i 1).isLt; have h2 : (i 2).val < 2048 := (i 2).isLt; omega⟩)

/-- The buffers when the kernel has ended. -/
abbrev left : Valuation τ sig (Elt Ideal) := Pipeline.withArrays spec0 c (V0 m c) fun w => (dats m 0 c).arrAt w cfg0.N

theorem tail : Line (List.flatten [hostOps1] : List (HloOp τ sig (Elt Ideal))) [main_v7, main_v8] := ⟨rfl⟩

theorem v6_eq : StableHlo.after (List.flatten [hostOps1] : List (HloOp τ sig (Elt Ideal))) (left m c) (Proc.devRef .tc main_v6)
    = (fun i : S8x12288.Idx => result (arg0 m c) (arg1 m c) (arg2 m c) (i 0) (i 1) : FVec Ideal S8x12288 .f32) :=
  (tail.operand 0 (x := main_v6) (by decide +kernel) (left m c)).symm.trans
    ((Pipeline.withArrays_arr spec0 (by decide) c (V0 m c) (fun w => (dats m 0 c).arrAt w cfg0.N) 3).trans (arr_eq m c))

theorem cut_at (y : FVec Ideal S8x12288 .f32) (h : S8x12288.Slices ![0, 0] S4x12288) (h' : S4x12288.ShapeCasts S4x6x2048) (b : Fin 4) (k : Fin 6) (j : Fin 2048) :
    shapeCast S4x6x2048 (extractStridedSlice S4x12288 ![0, 0] y h) h' (ix3 b k j) = y (ix2 ⟨b.val, by omega⟩ ⟨k.val * 2048 + j.val, by omega⟩) := by
  pointwise

theorem v8_eq : Pipeline.afterTail₀ cfgs (dats m) 0 (V0 m) [hostOps1] c main_v8 = returned (arg0 m c) (arg1 m c) (arg2 m c) := by
  have h := tail.reshape (left m c) 1 (x := main_v7) (y := main_v8) rfl (by decide +kernel) (by decide +kernel)
  have h' := tail.unary (left m c) 0 (x := main_v6) (y := main_v7) rfl (by decide +kernel) (by decide +kernel)
  rw [v6_eq] at h'
  rw [h'] at h
  refine h.trans (funext fun i => ?_)
  obtain ⟨b, k, j, rfl⟩ : ∃ (b : Fin 4) (k : Fin 6) (j : Fin 2048), i = ix3 b k j := ⟨i 0, i 1, i 2, eq_ix3 i⟩
  refine (cut_at _ _ _ b k j).trans ?_
  show result _ _ _ ⟨b.val, _⟩ ⟨k.val * 2048 + j.val, _⟩ = _
  unfold result returned
  refine congrArg₂ (fun a b : EReal => a + b) (Finset.sum_congr rfl fun d _ => congrArg₂ (fun a b : EReal => a * b) ?_ rfl) rfl
  unfold padded
  rw [dif_pos b.isLt]
  rfl

theorem value (ρ : Dev nD → PrngReg) : θ_run defs (onTc (τ := τ) (main (F := Ideal))) ⟨m, fun _ => 0, ρ⟩ fun r => ∀ c : Dev nD,
      r.2.mem ((c.tc : Thread nD τ).loc main_v8) = returned (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨((h.1 c).2 main_v8 (Pipeline.mem_restRefs_of main_v8 (by decide) (by decide))).trans (v8_eq m c), h.2 c⟩)
    (θ_run_and (run_main m ρ) (unchanged m ρ))

end Cert.Kernel3Ideal.Adaln
end
-- ==== Proof.AdalnResult.lean ====
module

public import proofs.«01_k».proof.Proof.AdalnArr
public import proofs.«01_k».proof.Proof.Gen.Reference3Ideal.Run

/-!
# The conditioning's two results are one array

The reference's array at an entry, over its arguments, is the kernel's.
-/

@[expose] public section
set_option maxRecDepth 65536
noncomputable section
namespace Cert.Reference3Ideal.Adaln
open Cert.Reference3Ideal Cert.Reference3Ideal.Gen
open Idealize.ShloMosaic Idealize.ShloMosaic.TcCoe

/-- The four rows of sigmoid-weighted values. -/
def rRows (a0 : FVec Ideal S4x2048 .f32) : FVec Ideal S4x2048 .f32 :=
  mulf a0 (Host.divf (broadcastInDim S4x2048 ![] bcast_S_S4x2048 (constant S_ .f32 0x3F800000#32)) (addf (broadcastInDim S4x2048 ![] bcast_S_S4x2048 (constant S_ .f32 0x3F800000#32)) (Host.exp (Host.negf a0))))

/-- The product with its shift, each row cut into six vectors. -/
def rOut (p : FVec Ideal S4x2048 .f32) (a1 : FVec Ideal S2048x12288 .f32) (a2 : FVec Ideal S12288 .f32) : FVec Ideal S4x6x2048 .f32 :=
  shapeCast S4x6x2048 (addf (Host.dotGeneral dot_S4x2048_S2048x12288_S4x12288_1_0_0_1_n_n none p a1) (broadcastInDim S4x12288 ![0, 1] bcast_S1x12288_S4x12288_0_1 (broadcastInDim S1x12288 ![1] bcast_S12288_S1x12288_1 a2))) shapeCasts_S4x12288_S4x6x2048

theorem rRows_at (a0 : FVec Ideal S4x2048 .f32) (b : Fin 4) (k : Fin 2048) : rRows a0 (ix2 b k) = Cert.Kernel3Ideal.Adaln.silu (a0 (ix2 b k)) := by
  unfold Cert.Kernel3Ideal.Adaln.silu
  pointwise [rRows]

theorem rOut_at (p : FVec Ideal S4x2048 .f32) (a1 : FVec Ideal S2048x12288 .f32) (a2 : FVec Ideal S12288 .f32) (b : Fin 4) (k : Fin 6) (j : Fin 2048) :
    rOut p a1 a2 (ix3 b k j) = (∑ d : Fin 2048, p (ix2 b d) * a1 (ix2 d ⟨k.val * 2048 + j.val, by omega⟩)) + a2 (ix1 ⟨k.val * 2048 + j.val, by omega⟩) := by
  pointwise [rOut]

theorem arr_eq (a0 : FVec Ideal S4x2048 .f32) (a1 : FVec Ideal S2048x12288 .f32) (a2 : FVec Ideal S12288 .f32) :
    rOut (rRows a0) a1 a2 = Cert.Kernel3Ideal.Adaln.returned a0 a1 a2 := by
  funext i
  obtain ⟨b, k, j, rfl⟩ : ∃ (b : Fin 4) (k : Fin 6) (j : Fin 2048), i = ix3 b k j := ⟨i 0, i 1, i 2, eq_ix3 i⟩
  rw [rOut_at]
  simp only [rRows_at]
  rfl

end Cert.Reference3Ideal.Adaln
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ssm_domain
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.SsmFrame
public import proofs.«01_k».proof.Proof.SameText
public import proofs.«01_k».proof.Proof.SsmResult
public import proofs.«01_k».proof.Proof.MlpResult
public import proofs.«01_k».proof.Proof.AdalnResult
public import Idealize.ShloMosaic.Adequacy
public import Idealize.ShloMosaic.Init
public import Idealize.ShloMosaic.Lib.Quiescent

/-!
# The state-space scan and the last block of the layer compute their references

The frames of the two kernels, of their ideal readings and of their references, and the equality of each ideal reading's result
with its reference's.
-/

@[expose] public section

noncomputable section

namespace Cert.Proof

open Idealize.ShloMosaic Idealize.SL.Sem

local instance : Cert.Pre_ssm_domain.Facts := Cert.Pre_ssm_domain.Gen.facts

/-- The reference's frame: its run, and no semaphore is declared. -/
theorem frame_ri : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Kernel and reference end with one array, the scan over the real numbers that the arguments hold. -/
theorem algebraic : Cert.algebraic_KernelIdeal_ReferenceIdeal_pre_ssm_domain (hKernelIdeal := Cert.KernelIdeal.Gen.facts)
    (hReferenceIdeal := Cert.ReferenceIdeal.Gen.facts) (hPre_ssm_domain := Cert.Pre_ssm_domain.Gen.facts) := by
  intro m ρ m' ρ' hpre hag
  refine ⟨fun c => Cert.Ssm.resultArr (Cert.Ssm.paramsK m c), ?_, ?_⟩
  · refine (θ_run Cert.KernelIdeal.defs _ _).mono (fun r h c => ?_) (Cert.KernelIdeal.Ssm.value (F := Ideal) m ρ)
    exact ⟨(h c).1.trans (Cert.KernelIdeal.Ssm.arr_eq (Cert.Ssm.reads_kernel m c (hpre c))), (h c).2⟩
  · refine (θ_run Cert.ReferenceIdeal.defs _ _).mono (fun r h c => ?_) (Cert.ReferenceIdeal.Value.run (F := Ideal) m' ρ')
    obtain ⟨e0, e1, e2, e3, e4, e5, e6, e7, e8⟩ := hag c
    exact ⟨(h c).1.trans (Cert.Ssm.reference_arr m' c
      (Cert.Ssm.reads_reference m m' c (Cert.Ssm.reads_kernel m c (hpre c)) e0 e1 e2 e3 e4 e5 e6 e7 e8)), (h c).2⟩

/-- The last block's kernel is quiescent and keeps its arguments. -/
theorem frame_kernel2 : Cert.quiescent_Kernel2 (hKernel2 := Cert.Kernel2.Gen.facts) := fun m ρ _ => Cert.Kernel2.Gen.frame m ρ

/-- So is its ideal reading. -/
theorem frame_ideal2 : Cert.quiescent_Kernel2Ideal (hKernel2Ideal := Cert.Kernel2Ideal.Gen.facts) := fun m ρ _ => Cert.Kernel2Ideal.Gen.frame m ρ

/-- The last block's reference: its run, and no semaphore is declared. -/
theorem frame_reference2 : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The last block's kernel and reference end with one array. -/
theorem algebraic2 : Cert.algebraic_Kernel2Ideal_Reference2Ideal (hKernel2Ideal := Cert.Kernel2Ideal.Gen.facts)
    (hReference2Ideal := Cert.Reference2Ideal.Gen.facts) := by
  intro m ρ m' ρ' _ hag
  refine ⟨fun c => fun i : Cert.Kernel2Ideal.S16384x2048.Idx => Cert.Kernel2Ideal.Mlp.result m c (i 0) (i 1), ?_, ?_⟩
  · refine (θ_run Cert.Kernel2Ideal.defs _ _).mono (fun r h c => ?_) (Cert.Kernel2Ideal.Value.run_blocks (F := Ideal) m ρ)
    exact ⟨(h c).1.trans (Cert.Kernel2Ideal.Mlp.arr_eq m c), (h c).2⟩
  · refine (θ_run Cert.Reference2Ideal.defs _ _).mono (fun r h c => ?_) (Cert.Reference2Ideal.Value.run (F := Ideal) m' ρ')
    obtain ⟨e0, e1, e2, e3, e4, e5⟩ := hag c
    exact ⟨(h c).1.trans ((Cert.Reference2Ideal.Mlp.arr_eq m' c).trans (Cert.Mlp.arrays m m' c e0 e1 e2 e3 e4 e5)), (h c).2⟩

/-- The conditioning kernel is quiescent and keeps its arguments. -/
theorem frame_kernel3 : Cert.quiescent_Kernel3 (hKernel3 := Cert.Kernel3.Gen.facts) := fun m ρ _ => Cert.Kernel3.Gen.frame m ρ

/-- So is its ideal reading. -/
theorem frame_ideal3 : Cert.quiescent_Kernel3Ideal (hKernel3Ideal := Cert.Kernel3Ideal.Gen.facts) := fun m ρ _ => Cert.Kernel3Ideal.Gen.frame m ρ

/-- The conditioning's reference: its run, and no semaphore is declared. -/
theorem frame_reference3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The conditioning's kernel and reference end with one array. -/
theorem algebraic3 : Cert.algebraic_Kernel3Ideal_Reference3Ideal (hKernel3Ideal := Cert.Kernel3Ideal.Gen.facts)
    (hReference3Ideal := Cert.Reference3Ideal.Gen.facts) := by
  intro m ρ m' ρ' _ hag
  refine ⟨fun c => Cert.Kernel3Ideal.Adaln.returned (Cert.Kernel3Ideal.Adaln.arg0 m c) (Cert.Kernel3Ideal.Adaln.arg1 m c) (Cert.Kernel3Ideal.Adaln.arg2 m c),
    Cert.Kernel3Ideal.Adaln.value m ρ, ?_⟩
  · refine (θ_run Cert.Reference3Ideal.defs _ _).mono (fun r h c => ?_) (Cert.Reference3Ideal.Value.run (F := Ideal) m' ρ')
    obtain ⟨e0, e1, e2⟩ := hag c
    refine ⟨(h c).1.trans ((Cert.Reference3Ideal.Adaln.arr_eq _ _ _).trans ?_), (h c).2⟩
    rw [e0, e1, e2]

/-- The certificate's claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_ssm_domain.Gen.facts,
    frame_kernel,
    fun m ρ _ => Cert.KernelIdeal.Ssm.frame m ρ,
    fun m ρ _ => Cert.KernelIdeal.Ssm.frame m ρ,
    frame_ri,
    fun m ρ _ => frame_ri m ρ trivial,
    frame_kernel2,
    frame_ideal2,
    frame_reference2,
    frame_kernel3,
    frame_ideal3,
    frame_reference3,
    trivial,
    algebraic,
    trivial,
    algebraic2,
    trivial,
    algebraic3⟩

end Cert.Proof

end
